-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_masked [hPre_gates_masked : Cert.Pre_gates_masked.Facts] (m : (ℓ : Loc Cert.KernelIdeal.nD Cert.KernelIdeal.τ Cert.KernelIdeal.sig) → Buf (Elt Ideal) ℓ) : Prop :=
  ∀ c : Dev Cert.KernelIdeal.nD,
    (Cert.Pre_gates_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_gates_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_gates_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_gates_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_masked [hPre_gates_masked : Cert.Pre_gates_masked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_gates_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_gates_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_gates_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnMix (m : (ℓ : Loc Cert.FfnMix.nD Cert.FfnMix.τ Cert.FfnMix.sig) → Buf (Elt Bits) ℓ) : Prop :=
  True

def Pre_FfnMixIdeal (m : (ℓ : Loc Cert.FfnMixIdeal.nD Cert.FfnMixIdeal.τ Cert.FfnMixIdeal.sig) → Buf (Elt Ideal) ℓ) : Prop :=
  True

def Pre_FfnMixRefIdeal (m : (ℓ : Loc Cert.FfnMixRefIdeal.nD Cert.FfnMixRefIdeal.τ Cert.FfnMixRefIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjRefIdeal (m : (ℓ : Loc Cert.AttnProjRefIdeal.nD Cert.AttnProjRefIdeal.τ Cert.AttnProjRefIdeal.sig) → Buf (Elt Ideal) ℓ) : Prop :=
  True

def Pre_KeyBias (m : (ℓ : Loc Cert.KeyBias.nD Cert.KeyBias.τ Cert.KeyBias.sig) → Buf (Elt Bits) ℓ) : Prop :=
  True

def Pre_KeyBiasIdeal (m : (ℓ : Loc Cert.KeyBiasIdeal.nD Cert.KeyBiasIdeal.τ Cert.KeyBiasIdeal.sig) → Buf (Elt Ideal) ℓ) : Prop :=
  True

def Pre_KeyBiasRefIdeal (m : (ℓ : Loc Cert.KeyBiasRefIdeal.nD Cert.KeyBiasRefIdeal.τ Cert.KeyBiasRefIdeal.sig) → Buf (Elt Ideal) ℓ) : Prop :=
  True

def Pre_ConvProj (m : (ℓ : Loc Cert.ConvProj.nD Cert.ConvProj.τ Cert.ConvProj.sig) → Buf (Elt Bits) ℓ) : Prop :=
  True

def Pre_ConvProjIdeal (m : (ℓ : Loc Cert.ConvProjIdeal.nD Cert.ConvProjIdeal.τ Cert.ConvProjIdeal.sig) → Buf (Elt Ideal) ℓ) : Prop :=
  True

def Pre_ConvProjRefIdeal (m : (ℓ : Loc Cert.ConvProjRefIdeal.nD Cert.ConvProjRefIdeal.τ Cert.ConvProjRefIdeal.sig) → Buf (Elt Ideal) ℓ) : Prop :=
  True

def Pre_ConvGate (m : (ℓ : Loc Cert.ConvGate.nD Cert.ConvGate.τ Cert.ConvGate.sig) → Buf (Elt Bits) ℓ) : Prop :=
  True

def Pre_ConvGateIdeal (m : (ℓ : Loc Cert.ConvGateIdeal.nD Cert.ConvGateIdeal.τ Cert.ConvGateIdeal.sig) → Buf (Elt Ideal) ℓ) : Prop :=
  True

def Pre_ConvGateIdeal_padding_empty [hPre_padding_empty : Cert.Pre_padding_empty.Facts] (m : (ℓ : Loc Cert.ConvGateIdeal.nD Cert.ConvGateIdeal.τ Cert.ConvGateIdeal.sig) → Buf (Elt Ideal) ℓ) : Prop :=
  ∀ c : Dev Cert.ConvGateIdeal.nD,
    (Cert.Pre_padding_empty.fn (F := Ideal) (m ((c.tc : Thread Cert.ConvGateIdeal.nD Cert.ConvGateIdeal.τ).loc Cert.ConvGateIdeal.main_arg0)) (m ((c.tc : Thread Cert.ConvGateIdeal.nD Cert.ConvGateIdeal.τ).loc Cert.ConvGateIdeal.main_arg1)) (m ((c.tc : Thread Cert.ConvGateIdeal.nD Cert.ConvGateIdeal.τ).loc Cert.ConvGateIdeal.main_arg2))).1 = (fun _ => 1#1)
    ∧ (Cert.Pre_padding_empty.fn (F := Ideal) (m ((c.tc : Thread Cert.ConvGateIdeal.nD Cert.ConvGateIdeal.τ).loc Cert.ConvGateIdeal.main_arg0)) (m ((c.tc : Thread Cert.ConvGateIdeal.nD Cert.ConvGateIdeal.τ).loc Cert.ConvGateIdeal.main_arg1)) (m ((c.tc : Thread Cert.ConvGateIdeal.nD Cert.ConvGateIdeal.τ).loc Cert.ConvGateIdeal.main_arg2))).2 = (fun _ => 1#1)

def Pre_ConvGateRefIdeal (m : (ℓ : Loc Cert.ConvGateRefIdeal.nD Cert.ConvGateRefIdeal.τ Cert.ConvGateRefIdeal.sig) → Buf (Elt Ideal) ℓ) : Prop :=
  True

def Pre_ConvGateRefIdeal_padding_empty [hPre_padding_empty : Cert.Pre_padding_empty.Facts] (m : (ℓ : Loc Cert.ConvGateRefIdeal.nD Cert.ConvGateRefIdeal.τ Cert.ConvGateRefIdeal.sig) → Buf (Elt Ideal) ℓ) : Prop :=
  ∀ c : Dev Cert.ConvGateRefIdeal.nD,
    (Cert.Pre_padding_empty.fn (F := Ideal) (m ((c.tc : Thread Cert.ConvGateRefIdeal.nD Cert.ConvGateRefIdeal.τ).loc Cert.ConvGateRefIdeal.main_arg0)) (m ((c.tc : Thread Cert.ConvGateRefIdeal.nD Cert.ConvGateRefIdeal.τ).loc Cert.ConvGateRefIdeal.main_arg1)) (m ((c.tc : Thread Cert.ConvGateRefIdeal.nD Cert.ConvGateRefIdeal.τ).loc Cert.ConvGateRefIdeal.main_arg2))).1 = (fun _ => 1#1)
    ∧ (Cert.Pre_padding_empty.fn (F := Ideal) (m ((c.tc : Thread Cert.ConvGateRefIdeal.nD Cert.ConvGateRefIdeal.τ).loc Cert.ConvGateRefIdeal.main_arg0)) (m ((c.tc : Thread Cert.ConvGateRefIdeal.nD Cert.ConvGateRefIdeal.τ).loc Cert.ConvGateRefIdeal.main_arg1)) (m ((c.tc : Thread Cert.ConvGateRefIdeal.nD Cert.ConvGateRefIdeal.τ).loc Cert.ConvGateRefIdeal.main_arg2))).2 = (fun _ => 1#1)

def Pre_ConvGateSample (m : (ℓ : Loc Cert.ConvGateSample.nD Cert.ConvGateSample.τ Cert.ConvGateSample.sig) → Buf (Elt Bits) ℓ) : Prop :=
  True

def Pre_ConvGateSampleIdeal (m : (ℓ : Loc Cert.ConvGateSampleIdeal.nD Cert.ConvGateSampleIdeal.τ Cert.ConvGateSampleIdeal.sig) → Buf (Elt Ideal) ℓ) : Prop :=
  True

def Pre_ConvGateSampleRefIdeal (m : (ℓ : Loc Cert.ConvGateSampleRefIdeal.nD Cert.ConvGateSampleRefIdeal.τ Cert.ConvGateSampleRefIdeal.sig) → Buf (Elt Ideal) ℓ) : Prop :=
  True

def Pre_ConvProjSample (m : (ℓ : Loc Cert.ConvProjSample.nD Cert.ConvProjSample.τ Cert.ConvProjSample.sig) → Buf (Elt Bits) ℓ) : Prop :=
  True

def Pre_ConvProjSampleIdeal (m : (ℓ : Loc Cert.ConvProjSampleIdeal.nD Cert.ConvProjSampleIdeal.τ Cert.ConvProjSampleIdeal.sig) → Buf (Elt Ideal) ℓ) : Prop :=
  True

def Pre_ConvProjSampleRefIdeal (m : (ℓ : Loc Cert.ConvProjSampleRefIdeal.nD Cert.ConvProjSampleRefIdeal.τ Cert.ConvProjSampleRefIdeal.sig) → Buf (Elt Ideal) ℓ) : Prop :=
  True

def Pre_AttnProjSample (m : (ℓ : Loc Cert.AttnProjSample.nD Cert.AttnProjSample.τ Cert.AttnProjSample.sig) → Buf (Elt Bits) ℓ) : Prop :=
  True

def Pre_AttnProjSampleIdeal (m : (ℓ : Loc Cert.AttnProjSampleIdeal.nD Cert.AttnProjSampleIdeal.τ Cert.AttnProjSampleIdeal.sig) → Buf (Elt Ideal) ℓ) : Prop :=
  True

def Pre_AttnProjSampleRefIdeal (m : (ℓ : Loc Cert.AttnProjSampleRefIdeal.nD Cert.AttnProjSampleRefIdeal.τ Cert.AttnProjSampleRefIdeal.sig) → Buf (Elt Ideal) ℓ) : Prop :=
  True

def Pre_FfnMixSample (m : (ℓ : Loc Cert.FfnMixSample.nD Cert.FfnMixSample.τ Cert.FfnMixSample.sig) → Buf (Elt Bits) ℓ) : Prop :=
  True

def Pre_FfnMixSampleIdeal (m : (ℓ : Loc Cert.FfnMixSampleIdeal.nD Cert.FfnMixSampleIdeal.τ Cert.FfnMixSampleIdeal.sig) → Buf (Elt Ideal) ℓ) : Prop :=
  True

def Pre_FfnMixSampleRefIdeal (m : (ℓ : Loc Cert.FfnMixSampleRefIdeal.nD Cert.FfnMixSampleRefIdeal.τ Cert.FfnMixSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gates_masked [hKernelIdeal : Cert.KernelIdeal.Facts] [hPre_gates_masked : Cert.Pre_gates_masked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_masked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gates_masked [hReferenceIdeal : Cert.ReferenceIdeal.Facts] [hPre_gates_masked : Cert.Pre_gates_masked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_masked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnMix [hFfnMix : Cert.FfnMix.Facts] : Prop :=
  ∀ (m : (ℓ : Loc Cert.FfnMix.nD Cert.FfnMix.τ Cert.FfnMix.sig) → Buf (Elt Bits) ℓ) (g : Dev Cert.FfnMix.nD → PrngReg), Pre_FfnMix m →
    θ_run (Cert.FfnMix.defs (F := Bits)) (onTc (τ := Cert.FfnMix.τ) (Cert.FfnMix.main (F := Bits))) ⟨m, fun _ => 0, g⟩ (fun r => (∀ c : Dev Cert.FfnMix.nD,
      r.2.mem ((c.tc : Thread Cert.FfnMix.nD Cert.FfnMix.τ).loc Cert.FfnMix.main_arg0) = m ((c.tc : Thread Cert.FfnMix.nD Cert.FfnMix.τ).loc Cert.FfnMix.main_arg0)
      ∧ r.2.mem ((c.tc : Thread Cert.FfnMix.nD Cert.FfnMix.τ).loc Cert.FfnMix.main_arg1) = m ((c.tc : Thread Cert.FfnMix.nD Cert.FfnMix.τ).loc Cert.FfnMix.main_arg1)
      ∧ r.2.mem ((c.tc : Thread Cert.FfnMix.nD Cert.FfnMix.τ).loc Cert.FfnMix.main_arg2) = m ((c.tc : Thread Cert.FfnMix.nD Cert.FfnMix.τ).loc Cert.FfnMix.main_arg2)
      ∧ r.2.mem ((c.tc : Thread Cert.FfnMix.nD Cert.FfnMix.τ).loc Cert.FfnMix.main_arg3) = m ((c.tc : Thread Cert.FfnMix.nD Cert.FfnMix.τ).loc Cert.FfnMix.main_arg3)
      ∧ r.2.mem ((c.tc : Thread Cert.FfnMix.nD Cert.FfnMix.τ).loc Cert.FfnMix.main_arg4) = m ((c.tc : Thread Cert.FfnMix.nD Cert.FfnMix.τ).loc Cert.FfnMix.main_arg4)
      ∧ r.2.mem ((c.tc : Thread Cert.FfnMix.nD Cert.FfnMix.τ).loc Cert.FfnMix.main_arg5) = m ((c.tc : Thread Cert.FfnMix.nD Cert.FfnMix.τ).loc Cert.FfnMix.main_arg5)
      ∧ r.2.mem ((c.tc : Thread Cert.FfnMix.nD Cert.FfnMix.τ).loc Cert.FfnMix.main_arg6) = m ((c.tc : Thread Cert.FfnMix.nD Cert.FfnMix.τ).loc Cert.FfnMix.main_arg6)
      ∧ r.2.mem ((c.tc : Thread Cert.FfnMix.nD Cert.FfnMix.τ).loc Cert.FfnMix.main_arg7) = m ((c.tc : Thread Cert.FfnMix.nD Cert.FfnMix.τ).loc Cert.FfnMix.main_arg7)
      ∧ r.2.mem ((c.tc : Thread Cert.FfnMix.nD Cert.FfnMix.τ).loc Cert.FfnMix.main_arg8) = m ((c.tc : Thread Cert.FfnMix.nD Cert.FfnMix.τ).loc Cert.FfnMix.main_arg8))
      ∧ r.2.sem = fun _ => 0)

def quiescent_FfnMixIdeal [hFfnMixIdeal : Cert.FfnMixIdeal.Facts] : Prop :=
  ∀ (m : (ℓ : Loc Cert.FfnMixIdeal.nD Cert.FfnMixIdeal.τ Cert.FfnMixIdeal.sig) → Buf (Elt Ideal) ℓ) (g : Dev Cert.FfnMixIdeal.nD → PrngReg), Pre_FfnMixIdeal m →
    θ_run (Cert.FfnMixIdeal.defs (F := Ideal)) (onTc (τ := Cert.FfnMixIdeal.τ) (Cert.FfnMixIdeal.main (F := Ideal))) ⟨m, fun _ => 0, g⟩ (fun r => (∀ c : Dev Cert.FfnMixIdeal.nD,
      r.2.mem ((c.tc : Thread Cert.FfnMixIdeal.nD Cert.FfnMixIdeal.τ).loc Cert.FfnMixIdeal.main_arg0) = m ((c.tc : Thread Cert.FfnMixIdeal.nD Cert.FfnMixIdeal.τ).loc Cert.FfnMixIdeal.main_arg0)
      ∧ r.2.mem ((c.tc : Thread Cert.FfnMixIdeal.nD Cert.FfnMixIdeal.τ).loc Cert.FfnMixIdeal.main_arg1) = m ((c.tc : Thread Cert.FfnMixIdeal.nD Cert.FfnMixIdeal.τ).loc Cert.FfnMixIdeal.main_arg1)
      ∧ r.2.mem ((c.tc : Thread Cert.FfnMixIdeal.nD Cert.FfnMixIdeal.τ).loc Cert.FfnMixIdeal.main_arg2) = m ((c.tc : Thread Cert.FfnMixIdeal.nD Cert.FfnMixIdeal.τ).loc Cert.FfnMixIdeal.main_arg2)
      ∧ r.2.mem ((c.tc : Thread Cert.FfnMixIdeal.nD Cert.FfnMixIdeal.τ).loc Cert.FfnMixIdeal.main_arg3) = m ((c.tc : Thread Cert.FfnMixIdeal.nD Cert.FfnMixIdeal.τ).loc Cert.FfnMixIdeal.main_arg3)
      ∧ r.2.mem ((c.tc : Thread Cert.FfnMixIdeal.nD Cert.FfnMixIdeal.τ).loc Cert.FfnMixIdeal.main_arg4) = m ((c.tc : Thread Cert.FfnMixIdeal.nD Cert.FfnMixIdeal.τ).loc Cert.FfnMixIdeal.main_arg4)
      ∧ r.2.mem ((c.tc : Thread Cert.FfnMixIdeal.nD Cert.FfnMixIdeal.τ).loc Cert.FfnMixIdeal.main_arg5) = m ((c.tc : Thread Cert.FfnMixIdeal.nD Cert.FfnMixIdeal.τ).loc Cert.FfnMixIdeal.main_arg5)
      ∧ r.2.mem ((c.tc : Thread Cert.FfnMixIdeal.nD Cert.FfnMixIdeal.τ).loc Cert.FfnMixIdeal.main_arg6) = m ((c.tc : Thread Cert.FfnMixIdeal.nD Cert.FfnMixIdeal.τ).loc Cert.FfnMixIdeal.main_arg6)
      ∧ r.2.mem ((c.tc : Thread Cert.FfnMixIdeal.nD Cert.FfnMixIdeal.τ).loc Cert.FfnMixIdeal.main_arg7) = m ((c.tc : Thread Cert.FfnMixIdeal.nD Cert.FfnMixIdeal.τ).loc Cert.FfnMixIdeal.main_arg7)
      ∧ r.2.mem ((c.tc : Thread Cert.FfnMixIdeal.nD Cert.FfnMixIdeal.τ).loc Cert.FfnMixIdeal.main_arg8) = m ((c.tc : Thread Cert.FfnMixIdeal.nD Cert.FfnMixIdeal.τ).loc Cert.FfnMixIdeal.main_arg8))
      ∧ r.2.sem = fun _ => 0)

def quiescent_FfnMixRefIdeal [hFfnMixRefIdeal : Cert.FfnMixRefIdeal.Facts] : Prop :=
  ∀ (m : (ℓ : Loc Cert.FfnMixRefIdeal.nD Cert.FfnMixRefIdeal.τ Cert.FfnMixRefIdeal.sig) → Buf (Elt Ideal) ℓ) (g : Dev Cert.FfnMixRefIdeal.nD → PrngReg), Pre_FfnMixRefIdeal m →
    θ_run (Cert.FfnMixRefIdeal.defs (F := Ideal)) (onTc (τ := Cert.FfnMixRefIdeal.τ) (Cert.FfnMixRefIdeal.main (F := Ideal))) ⟨m, fun _ => 0, g⟩ (fun r => (∀ c : Dev Cert.FfnMixRefIdeal.nD,
      r.2.mem ((c.tc : Thread Cert.FfnMixRefIdeal.nD Cert.FfnMixRefIdeal.τ).loc Cert.FfnMixRefIdeal.main_arg0) = m ((c.tc : Thread Cert.FfnMixRefIdeal.nD Cert.FfnMixRefIdeal.τ).loc Cert.FfnMixRefIdeal.main_arg0)
      ∧ r.2.mem ((c.tc : Thread Cert.FfnMixRefIdeal.nD Cert.FfnMixRefIdeal.τ).loc Cert.FfnMixRefIdeal.main_arg1) = m ((c.tc : Thread Cert.FfnMixRefIdeal.nD Cert.FfnMixRefIdeal.τ).loc Cert.FfnMixRefIdeal.main_arg1)
      ∧ r.2.mem ((c.tc : Thread Cert.FfnMixRefIdeal.nD Cert.FfnMixRefIdeal.τ).loc Cert.FfnMixRefIdeal.main_arg2) = m ((c.tc : Thread Cert.FfnMixRefIdeal.nD Cert.FfnMixRefIdeal.τ).loc Cert.FfnMixRefIdeal.main_arg2)
      ∧ r.2.mem ((c.tc : Thread Cert.FfnMixRefIdeal.nD Cert.FfnMixRefIdeal.τ).loc Cert.FfnMixRefIdeal.main_arg3) = m ((c.tc : Thread Cert.FfnMixRefIdeal.nD Cert.FfnMixRefIdeal.τ).loc Cert.FfnMixRefIdeal.main_arg3)
      ∧ r.2.mem ((c.tc : Thread Cert.FfnMixRefIdeal.nD Cert.FfnMixRefIdeal.τ).loc Cert.FfnMixRefIdeal.main_arg4) = m ((c.tc : Thread Cert.FfnMixRefIdeal.nD Cert.FfnMixRefIdeal.τ).loc Cert.FfnMixRefIdeal.main_arg4)
      ∧ r.2.mem ((c.tc : Thread Cert.FfnMixRefIdeal.nD Cert.FfnMixRefIdeal.τ).loc Cert.FfnMixRefIdeal.main_arg5) = m ((c.tc : Thread Cert.FfnMixRefIdeal.nD Cert.FfnMixRefIdeal.τ).loc Cert.FfnMixRefIdeal.main_arg5)
      ∧ r.2.mem ((c.tc : Thread Cert.FfnMixRefIdeal.nD Cert.FfnMixRefIdeal.τ).loc Cert.FfnMixRefIdeal.main_arg6) = m ((c.tc : Thread Cert.FfnMixRefIdeal.nD Cert.FfnMixRefIdeal.τ).loc Cert.FfnMixRefIdeal.main_arg6)
      ∧ r.2.mem ((c.tc : Thread Cert.FfnMixRefIdeal.nD Cert.FfnMixRefIdeal.τ).loc Cert.FfnMixRefIdeal.main_arg7) = m ((c.tc : Thread Cert.FfnMixRefIdeal.nD Cert.FfnMixRefIdeal.τ).loc Cert.FfnMixRefIdeal.main_arg7)
      ∧ r.2.mem ((c.tc : Thread Cert.FfnMixRefIdeal.nD Cert.FfnMixRefIdeal.τ).loc Cert.FfnMixRefIdeal.main_arg8) = m ((c.tc : Thread Cert.FfnMixRefIdeal.nD Cert.FfnMixRefIdeal.τ).loc Cert.FfnMixRefIdeal.main_arg8))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1)
      ∧ r.2.mem ((c.tc : Thread Cert.AttnProj.nD Cert.AttnProj.τ).loc Cert.AttnProj.main_arg2) = m ((c.tc : Thread Cert.AttnProj.nD Cert.AttnProj.τ).loc Cert.AttnProj.main_arg2)
      ∧ r.2.mem ((c.tc : Thread Cert.AttnProj.nD Cert.AttnProj.τ).loc Cert.AttnProj.main_arg3) = m ((c.tc : Thread Cert.AttnProj.nD Cert.AttnProj.τ).loc Cert.AttnProj.main_arg3))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
      ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
      ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3))
      ∧ r.2.sem = fun _ => 0)

def quiescent_AttnProjRefIdeal [hAttnProjRefIdeal : Cert.AttnProjRefIdeal.Facts] : Prop :=
  ∀ (m : (ℓ : Loc Cert.AttnProjRefIdeal.nD Cert.AttnProjRefIdeal.τ Cert.AttnProjRefIdeal.sig) → Buf (Elt Ideal) ℓ) (g : Dev Cert.AttnProjRefIdeal.nD → PrngReg), Pre_AttnProjRefIdeal m →
    θ_run (Cert.AttnProjRefIdeal.defs (F := Ideal)) (onTc (τ := Cert.AttnProjRefIdeal.τ) (Cert.AttnProjRefIdeal.main (F := Ideal))) ⟨m, fun _ => 0, g⟩ (fun r => (∀ c : Dev Cert.AttnProjRefIdeal.nD,
      r.2.mem ((c.tc : Thread Cert.AttnProjRefIdeal.nD Cert.AttnProjRefIdeal.τ).loc Cert.AttnProjRefIdeal.main_arg0) = m ((c.tc : Thread Cert.AttnProjRefIdeal.nD Cert.AttnProjRefIdeal.τ).loc Cert.AttnProjRefIdeal.main_arg0)
      ∧ r.2.mem ((c.tc : Thread Cert.AttnProjRefIdeal.nD Cert.AttnProjRefIdeal.τ).loc Cert.AttnProjRefIdeal.main_arg1) = m ((c.tc : Thread Cert.AttnProjRefIdeal.nD Cert.AttnProjRefIdeal.τ).loc Cert.AttnProjRefIdeal.main_arg1)
      ∧ r.2.mem ((c.tc : Thread Cert.AttnProjRefIdeal.nD Cert.AttnProjRefIdeal.τ).loc Cert.AttnProjRefIdeal.main_arg2) = m ((c.tc : Thread Cert.AttnProjRefIdeal.nD Cert.AttnProjRefIdeal.τ).loc Cert.AttnProjRefIdeal.main_arg2)
      ∧ r.2.mem ((c.tc : Thread Cert.AttnProjRefIdeal.nD Cert.AttnProjRefIdeal.τ).loc Cert.AttnProjRefIdeal.main_arg3) = m ((c.tc : Thread Cert.AttnProjRefIdeal.nD Cert.AttnProjRefIdeal.τ).loc Cert.AttnProjRefIdeal.main_arg3))
      ∧ r.2.sem = fun _ => 0)

def quiescent_KeyBias [hKeyBias : Cert.KeyBias.Facts] : Prop :=
  ∀ (m : (ℓ : Loc Cert.KeyBias.nD Cert.KeyBias.τ Cert.KeyBias.sig) → Buf (Elt Bits) ℓ) (g : Dev Cert.KeyBias.nD → PrngReg), Pre_KeyBias m →
    θ_run (Cert.KeyBias.defs (F := Bits)) (onTc (τ := Cert.KeyBias.τ) (Cert.KeyBias.main (F := Bits))) ⟨m, fun _ => 0, g⟩ (fun r => (∀ c : Dev Cert.KeyBias.nD,
      r.2.mem ((c.tc : Thread Cert.KeyBias.nD Cert.KeyBias.τ).loc Cert.KeyBias.main_arg0) = m ((c.tc : Thread Cert.KeyBias.nD Cert.KeyBias.τ).loc Cert.KeyBias.main_arg0))
      ∧ r.2.sem = fun _ => 0)

def quiescent_KeyBiasIdeal [hKeyBiasIdeal : Cert.KeyBiasIdeal.Facts] : Prop :=
  ∀ (m : (ℓ : Loc Cert.KeyBiasIdeal.nD Cert.KeyBiasIdeal.τ Cert.KeyBiasIdeal.sig) → Buf (Elt Ideal) ℓ) (g : Dev Cert.KeyBiasIdeal.nD → PrngReg), Pre_KeyBiasIdeal m →
    θ_run (Cert.KeyBiasIdeal.defs (F := Ideal)) (onTc (τ := Cert.KeyBiasIdeal.τ) (Cert.KeyBiasIdeal.main (F := Ideal))) ⟨m, fun _ => 0, g⟩ (fun r => (∀ c : Dev Cert.KeyBiasIdeal.nD,
      r.2.mem ((c.tc : Thread Cert.KeyBiasIdeal.nD Cert.KeyBiasIdeal.τ).loc Cert.KeyBiasIdeal.main_arg0) = m ((c.tc : Thread Cert.KeyBiasIdeal.nD Cert.KeyBiasIdeal.τ).loc Cert.KeyBiasIdeal.main_arg0))
      ∧ r.2.sem = fun _ => 0)

def quiescent_KeyBiasRefIdeal [hKeyBiasRefIdeal : Cert.KeyBiasRefIdeal.Facts] : Prop :=
  ∀ (m : (ℓ : Loc Cert.KeyBiasRefIdeal.nD Cert.KeyBiasRefIdeal.τ Cert.KeyBiasRefIdeal.sig) → Buf (Elt Ideal) ℓ) (g : Dev Cert.KeyBiasRefIdeal.nD → PrngReg), Pre_KeyBiasRefIdeal m →
    θ_run (Cert.KeyBiasRefIdeal.defs (F := Ideal)) (onTc (τ := Cert.KeyBiasRefIdeal.τ) (Cert.KeyBiasRefIdeal.main (F := Ideal))) ⟨m, fun _ => 0, g⟩ (fun r => (∀ c : Dev Cert.KeyBiasRefIdeal.nD,
      r.2.mem ((c.tc : Thread Cert.KeyBiasRefIdeal.nD Cert.KeyBiasRefIdeal.τ).loc Cert.KeyBiasRefIdeal.main_arg0) = m ((c.tc : Thread Cert.KeyBiasRefIdeal.nD Cert.KeyBiasRefIdeal.τ).loc Cert.KeyBiasRefIdeal.main_arg0))
      ∧ r.2.sem = fun _ => 0)

def quiescent_ConvProj [hConvProj : Cert.ConvProj.Facts] : Prop :=
  ∀ (m : (ℓ : Loc Cert.ConvProj.nD Cert.ConvProj.τ Cert.ConvProj.sig) → Buf (Elt Bits) ℓ) (g : Dev Cert.ConvProj.nD → PrngReg), Pre_ConvProj m →
    θ_run (Cert.ConvProj.defs (F := Bits)) (onTc (τ := Cert.ConvProj.τ) (Cert.ConvProj.main (F := Bits))) ⟨m, fun _ => 0, g⟩ (fun r => (∀ c : Dev Cert.ConvProj.nD,
      r.2.mem ((c.tc : Thread Cert.ConvProj.nD Cert.ConvProj.τ).loc Cert.ConvProj.main_arg0) = m ((c.tc : Thread Cert.ConvProj.nD Cert.ConvProj.τ).loc Cert.ConvProj.main_arg0)
      ∧ r.2.mem ((c.tc : Thread Cert.ConvProj.nD Cert.ConvProj.τ).loc Cert.ConvProj.main_arg1) = m ((c.tc : Thread Cert.ConvProj.nD Cert.ConvProj.τ).loc Cert.ConvProj.main_arg1)
      ∧ r.2.mem ((c.tc : Thread Cert.ConvProj.nD Cert.ConvProj.τ).loc Cert.ConvProj.main_arg2) = m ((c.tc : Thread Cert.ConvProj.nD Cert.ConvProj.τ).loc Cert.ConvProj.main_arg2))
      ∧ r.2.sem = fun _ => 0)

def quiescent_ConvProjIdeal [hConvProjIdeal : Cert.ConvProjIdeal.Facts] : Prop :=
  ∀ (m : (ℓ : Loc Cert.ConvProjIdeal.nD Cert.ConvProjIdeal.τ Cert.ConvProjIdeal.sig) → Buf (Elt Ideal) ℓ) (g : Dev Cert.ConvProjIdeal.nD → PrngReg), Pre_ConvProjIdeal m →
    θ_run (Cert.ConvProjIdeal.defs (F := Ideal)) (onTc (τ := Cert.ConvProjIdeal.τ) (Cert.ConvProjIdeal.main (F := Ideal))) ⟨m, fun _ => 0, g⟩ (fun r => (∀ c : Dev Cert.ConvProjIdeal.nD,
      r.2.mem ((c.tc : Thread Cert.ConvProjIdeal.nD Cert.ConvProjIdeal.τ).loc Cert.ConvProjIdeal.main_arg0) = m ((c.tc : Thread Cert.ConvProjIdeal.nD Cert.ConvProjIdeal.τ).loc Cert.ConvProjIdeal.main_arg0)
      ∧ r.2.mem ((c.tc : Thread Cert.ConvProjIdeal.nD Cert.ConvProjIdeal.τ).loc Cert.ConvProjIdeal.main_arg1) = m ((c.tc : Thread Cert.ConvProjIdeal.nD Cert.ConvProjIdeal.τ).loc Cert.ConvProjIdeal.main_arg1)
      ∧ r.2.mem ((c.tc : Thread Cert.ConvProjIdeal.nD Cert.ConvProjIdeal.τ).loc Cert.ConvProjIdeal.main_arg2) = m ((c.tc : Thread Cert.ConvProjIdeal.nD Cert.ConvProjIdeal.τ).loc Cert.ConvProjIdeal.main_arg2))
      ∧ r.2.sem = fun _ => 0)

def quiescent_ConvProjRefIdeal [hConvProjRefIdeal : Cert.ConvProjRefIdeal.Facts] : Prop :=
  ∀ (m : (ℓ : Loc Cert.ConvProjRefIdeal.nD Cert.ConvProjRefIdeal.τ Cert.ConvProjRefIdeal.sig) → Buf (Elt Ideal) ℓ) (g : Dev Cert.ConvProjRefIdeal.nD → PrngReg), Pre_ConvProjRefIdeal m →
    θ_run (Cert.ConvProjRefIdeal.defs (F := Ideal)) (onTc (τ := Cert.ConvProjRefIdeal.τ) (Cert.ConvProjRefIdeal.main (F := Ideal))) ⟨m, fun _ => 0, g⟩ (fun r => (∀ c : Dev Cert.ConvProjRefIdeal.nD,
      r.2.mem ((c.tc : Thread Cert.ConvProjRefIdeal.nD Cert.ConvProjRefIdeal.τ).loc Cert.ConvProjRefIdeal.main_arg0) = m ((c.tc : Thread Cert.ConvProjRefIdeal.nD Cert.ConvProjRefIdeal.τ).loc Cert.ConvProjRefIdeal.main_arg0)
      ∧ r.2.mem ((c.tc : Thread Cert.ConvProjRefIdeal.nD Cert.ConvProjRefIdeal.τ).loc Cert.ConvProjRefIdeal.main_arg1) = m ((c.tc : Thread Cert.ConvProjRefIdeal.nD Cert.ConvProjRefIdeal.τ).loc Cert.ConvProjRefIdeal.main_arg1)
      ∧ r.2.mem ((c.tc : Thread Cert.ConvProjRefIdeal.nD Cert.ConvProjRefIdeal.τ).loc Cert.ConvProjRefIdeal.main_arg2) = m ((c.tc : Thread Cert.ConvProjRefIdeal.nD Cert.ConvProjRefIdeal.τ).loc Cert.ConvProjRefIdeal.main_arg2))
      ∧ r.2.sem = fun _ => 0)

def quiescent_ConvGate [hConvGate : Cert.ConvGate.Facts] : Prop :=
  ∀ (m : (ℓ : Loc Cert.ConvGate.nD Cert.ConvGate.τ Cert.ConvGate.sig) → Buf (Elt Bits) ℓ) (g : Dev Cert.ConvGate.nD → PrngReg), Pre_ConvGate m →
    θ_run (Cert.ConvGate.defs (F := Bits)) (onTc (τ := Cert.ConvGate.τ) (Cert.ConvGate.main (F := Bits))) ⟨m, fun _ => 0, g⟩ (fun r => (∀ c : Dev Cert.ConvGate.nD,
      r.2.mem ((c.tc : Thread Cert.ConvGate.nD Cert.ConvGate.τ).loc Cert.ConvGate.main_arg0) = m ((c.tc : Thread Cert.ConvGate.nD Cert.ConvGate.τ).loc Cert.ConvGate.main_arg0)
      ∧ r.2.mem ((c.tc : Thread Cert.ConvGate.nD Cert.ConvGate.τ).loc Cert.ConvGate.main_arg1) = m ((c.tc : Thread Cert.ConvGate.nD Cert.ConvGate.τ).loc Cert.ConvGate.main_arg1)
      ∧ r.2.mem ((c.tc : Thread Cert.ConvGate.nD Cert.ConvGate.τ).loc Cert.ConvGate.main_arg2) = m ((c.tc : Thread Cert.ConvGate.nD Cert.ConvGate.τ).loc Cert.ConvGate.main_arg2))
      ∧ r.2.sem = fun _ => 0)

def quiescent_ConvGateIdeal [hConvGateIdeal : Cert.ConvGateIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ r.2.sem = fun _ => 0)

def quiescent_ConvGateIdeal_pre_padding_empty [hConvGateIdeal : Cert.ConvGateIdeal.Facts] [hPre_padding_empty : Cert.Pre_padding_empty.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal_padding_empty m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ r.2.sem = fun _ => 0)

def quiescent_ConvGateRefIdeal [hConvGateRefIdeal : Cert.ConvGateRefIdeal.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1)
      ∧ r.2.mem ((c.tc : Thread Cert.ConvGateRefIdeal.nD Cert.ConvGateRefIdeal.τ).loc Cert.ConvGateRefIdeal.main_arg2) = m ((c.tc : Thread Cert.ConvGateRefIdeal.nD Cert.ConvGateRefIdeal.τ).loc Cert.ConvGateRefIdeal.main_arg2))
      ∧ r.2.sem = fun _ => 0)

def quiescent_ConvGateRefIdeal_pre_padding_empty [hConvGateRefIdeal : Cert.ConvGateRefIdeal.Facts] [hPre_padding_empty : Cert.Pre_padding_empty.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal_padding_empty m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1)
      ∧ r.2.mem ((c.tc : Thread Cert.ConvGateRefIdeal.nD Cert.ConvGateRefIdeal.τ).loc Cert.ConvGateRefIdeal.main_arg2) = m ((c.tc : Thread Cert.ConvGateRefIdeal.nD Cert.ConvGateRefIdeal.τ).loc Cert.ConvGateRefIdeal.main_arg2))
      ∧ r.2.sem = fun _ => 0)

def quiescent_ConvGateSample [hConvGateSample : Cert.ConvGateSample.Facts] : Prop :=
  ∀ (m : (ℓ : Loc Cert.ConvGateSample.nD Cert.ConvGateSample.τ Cert.ConvGateSample.sig) → Buf (Elt Bits) ℓ) (g : Dev Cert.ConvGateSample.nD → PrngReg), Pre_ConvGateSample m →
    θ_run (Cert.ConvGateSample.defs (F := Bits)) (onTc (τ := Cert.ConvGateSample.τ) (Cert.ConvGateSample.main (F := Bits))) ⟨m, fun _ => 0, g⟩ (fun r => (∀ c : Dev Cert.ConvGateSample.nD,
      r.2.mem ((c.tc : Thread Cert.ConvGateSample.nD Cert.ConvGateSample.τ).loc Cert.ConvGateSample.main_arg0) = m ((c.tc : Thread Cert.ConvGateSample.nD Cert.ConvGateSample.τ).loc Cert.ConvGateSample.main_arg0)
      ∧ r.2.mem ((c.tc : Thread Cert.ConvGateSample.nD Cert.ConvGateSample.τ).loc Cert.ConvGateSample.main_arg1) = m ((c.tc : Thread Cert.ConvGateSample.nD Cert.ConvGateSample.τ).loc Cert.ConvGateSample.main_arg1)
      ∧ r.2.mem ((c.tc : Thread Cert.ConvGateSample.nD Cert.ConvGateSample.τ).loc Cert.ConvGateSample.main_arg2) = m ((c.tc : Thread Cert.ConvGateSample.nD Cert.ConvGateSample.τ).loc Cert.ConvGateSample.main_arg2)
      ∧ r.2.mem ((c.tc : Thread Cert.ConvGateSample.nD Cert.ConvGateSample.τ).loc Cert.ConvGateSample.main_arg3) = m ((c.tc : Thread Cert.ConvGateSample.nD Cert.ConvGateSample.τ).loc Cert.ConvGateSample.main_arg3))
      ∧ r.2.sem = fun _ => 0)

def quiescent_ConvGateSampleIdeal [hConvGateSampleIdeal : Cert.ConvGateSampleIdeal.Facts] : Prop :=
  ∀ (m : (ℓ : Loc Cert.ConvGateSampleIdeal.nD Cert.ConvGateSampleIdeal.τ Cert.ConvGateSampleIdeal.sig) → Buf (Elt Ideal) ℓ) (g : Dev Cert.ConvGateSampleIdeal.nD → PrngReg), Pre_ConvGateSampleIdeal m →
    θ_run (Cert.ConvGateSampleIdeal.defs (F := Ideal)) (onTc (τ := Cert.ConvGateSampleIdeal.τ) (Cert.ConvGateSampleIdeal.main (F := Ideal))) ⟨m, fun _ => 0, g⟩ (fun r => (∀ c : Dev Cert.ConvGateSampleIdeal.nD,
      r.2.mem ((c.tc : Thread Cert.ConvGateSampleIdeal.nD Cert.ConvGateSampleIdeal.τ).loc Cert.ConvGateSampleIdeal.main_arg0) = m ((c.tc : Thread Cert.ConvGateSampleIdeal.nD Cert.ConvGateSampleIdeal.τ).loc Cert.ConvGateSampleIdeal.main_arg0)
      ∧ r.2.mem ((c.tc : Thread Cert.ConvGateSampleIdeal.nD Cert.ConvGateSampleIdeal.τ).loc Cert.ConvGateSampleIdeal.main_arg1) = m ((c.tc : Thread Cert.ConvGateSampleIdeal.nD Cert.ConvGateSampleIdeal.τ).loc Cert.ConvGateSampleIdeal.main_arg1)
      ∧ r.2.mem ((c.tc : Thread Cert.ConvGateSampleIdeal.nD Cert.ConvGateSampleIdeal.τ).loc Cert.ConvGateSampleIdeal.main_arg2) = m ((c.tc : Thread Cert.ConvGateSampleIdeal.nD Cert.ConvGateSampleIdeal.τ).loc Cert.ConvGateSampleIdeal.main_arg2)
      ∧ r.2.mem ((c.tc : Thread Cert.ConvGateSampleIdeal.nD Cert.ConvGateSampleIdeal.τ).loc Cert.ConvGateSampleIdeal.main_arg3) = m ((c.tc : Thread Cert.ConvGateSampleIdeal.nD Cert.ConvGateSampleIdeal.τ).loc Cert.ConvGateSampleIdeal.main_arg3))
      ∧ r.2.sem = fun _ => 0)

def quiescent_ConvGateSampleRefIdeal [hConvGateSampleRefIdeal : Cert.ConvGateSampleRefIdeal.Facts] : Prop :=
  ∀ (m : (ℓ : Loc Cert.ConvGateSampleRefIdeal.nD Cert.ConvGateSampleRefIdeal.τ Cert.ConvGateSampleRefIdeal.sig) → Buf (Elt Ideal) ℓ) (g : Dev Cert.ConvGateSampleRefIdeal.nD → PrngReg), Pre_ConvGateSampleRefIdeal m →
    θ_run (Cert.ConvGateSampleRefIdeal.defs (F := Ideal)) (onTc (τ := Cert.ConvGateSampleRefIdeal.τ) (Cert.ConvGateSampleRefIdeal.main (F := Ideal))) ⟨m, fun _ => 0, g⟩ (fun r => (∀ c : Dev Cert.ConvGateSampleRefIdeal.nD,
      r.2.mem ((c.tc : Thread Cert.ConvGateSampleRefIdeal.nD Cert.ConvGateSampleRefIdeal.τ).loc Cert.ConvGateSampleRefIdeal.main_arg0) = m ((c.tc : Thread Cert.ConvGateSampleRefIdeal.nD Cert.ConvGateSampleRefIdeal.τ).loc Cert.ConvGateSampleRefIdeal.main_arg0)
      ∧ r.2.mem ((c.tc : Thread Cert.ConvGateSampleRefIdeal.nD Cert.ConvGateSampleRefIdeal.τ).loc Cert.ConvGateSampleRefIdeal.main_arg1) = m ((c.tc : Thread Cert.ConvGateSampleRefIdeal.nD Cert.ConvGateSampleRefIdeal.τ).loc Cert.ConvGateSampleRefIdeal.main_arg1)
      ∧ r.2.mem ((c.tc : Thread Cert.ConvGateSampleRefIdeal.nD Cert.ConvGateSampleRefIdeal.τ).loc Cert.ConvGateSampleRefIdeal.main_arg2) = m ((c.tc : Thread Cert.ConvGateSampleRefIdeal.nD Cert.ConvGateSampleRefIdeal.τ).loc Cert.ConvGateSampleRefIdeal.main_arg2)
      ∧ r.2.mem ((c.tc : Thread Cert.ConvGateSampleRefIdeal.nD Cert.ConvGateSampleRefIdeal.τ).loc Cert.ConvGateSampleRefIdeal.main_arg3) = m ((c.tc : Thread Cert.ConvGateSampleRefIdeal.nD Cert.ConvGateSampleRefIdeal.τ).loc Cert.ConvGateSampleRefIdeal.main_arg3))
      ∧ r.2.sem = fun _ => 0)

def quiescent_ConvProjSample [hConvProjSample : Cert.ConvProjSample.Facts] : Prop :=
  ∀ (m : (ℓ : Loc Cert.ConvProjSample.nD Cert.ConvProjSample.τ Cert.ConvProjSample.sig) → Buf (Elt Bits) ℓ) (g : Dev Cert.ConvProjSample.nD → PrngReg), Pre_ConvProjSample m →
    θ_run (Cert.ConvProjSample.defs (F := Bits)) (onTc (τ := Cert.ConvProjSample.τ) (Cert.ConvProjSample.main (F := Bits))) ⟨m, fun _ => 0, g⟩ (fun r => (∀ c : Dev Cert.ConvProjSample.nD,
      r.2.mem ((c.tc : Thread Cert.ConvProjSample.nD Cert.ConvProjSample.τ).loc Cert.ConvProjSample.main_arg0) = m ((c.tc : Thread Cert.ConvProjSample.nD Cert.ConvProjSample.τ).loc Cert.ConvProjSample.main_arg0)
      ∧ r.2.mem ((c.tc : Thread Cert.ConvProjSample.nD Cert.ConvProjSample.τ).loc Cert.ConvProjSample.main_arg1) = m ((c.tc : Thread Cert.ConvProjSample.nD Cert.ConvProjSample.τ).loc Cert.ConvProjSample.main_arg1)
      ∧ r.2.mem ((c.tc : Thread Cert.ConvProjSample.nD Cert.ConvProjSample.τ).loc Cert.ConvProjSample.main_arg2) = m ((c.tc : Thread Cert.ConvProjSample.nD Cert.ConvProjSample.τ).loc Cert.ConvProjSample.main_arg2))
      ∧ r.2.sem = fun _ => 0)

def quiescent_ConvProjSampleIdeal [hConvProjSampleIdeal : Cert.ConvProjSampleIdeal.Facts] : Prop :=
  ∀ (m : (ℓ : Loc Cert.ConvProjSampleIdeal.nD Cert.ConvProjSampleIdeal.τ Cert.ConvProjSampleIdeal.sig) → Buf (Elt Ideal) ℓ) (g : Dev Cert.ConvProjSampleIdeal.nD → PrngReg), Pre_ConvProjSampleIdeal m →
    θ_run (Cert.ConvProjSampleIdeal.defs (F := Ideal)) (onTc (τ := Cert.ConvProjSampleIdeal.τ) (Cert.ConvProjSampleIdeal.main (F := Ideal))) ⟨m, fun _ => 0, g⟩ (fun r => (∀ c : Dev Cert.ConvProjSampleIdeal.nD,
      r.2.mem ((c.tc : Thread Cert.ConvProjSampleIdeal.nD Cert.ConvProjSampleIdeal.τ).loc Cert.ConvProjSampleIdeal.main_arg0) = m ((c.tc : Thread Cert.ConvProjSampleIdeal.nD Cert.ConvProjSampleIdeal.τ).loc Cert.ConvProjSampleIdeal.main_arg0)
      ∧ r.2.mem ((c.tc : Thread Cert.ConvProjSampleIdeal.nD Cert.ConvProjSampleIdeal.τ).loc Cert.ConvProjSampleIdeal.main_arg1) = m ((c.tc : Thread Cert.ConvProjSampleIdeal.nD Cert.ConvProjSampleIdeal.τ).loc Cert.ConvProjSampleIdeal.main_arg1)
      ∧ r.2.mem ((c.tc : Thread Cert.ConvProjSampleIdeal.nD Cert.ConvProjSampleIdeal.τ).loc Cert.ConvProjSampleIdeal.main_arg2) = m ((c.tc : Thread Cert.ConvProjSampleIdeal.nD Cert.ConvProjSampleIdeal.τ).loc Cert.ConvProjSampleIdeal.main_arg2))
      ∧ r.2.sem = fun _ => 0)

def quiescent_ConvProjSampleRefIdeal [hConvProjSampleRefIdeal : Cert.ConvProjSampleRefIdeal.Facts] : Prop :=
  ∀ (m : (ℓ : Loc Cert.ConvProjSampleRefIdeal.nD Cert.ConvProjSampleRefIdeal.τ Cert.ConvProjSampleRefIdeal.sig) → Buf (Elt Ideal) ℓ) (g : Dev Cert.ConvProjSampleRefIdeal.nD → PrngReg), Pre_ConvProjSampleRefIdeal m →
    θ_run (Cert.ConvProjSampleRefIdeal.defs (F := Ideal)) (onTc (τ := Cert.ConvProjSampleRefIdeal.τ) (Cert.ConvProjSampleRefIdeal.main (F := Ideal))) ⟨m, fun _ => 0, g⟩ (fun r => (∀ c : Dev Cert.ConvProjSampleRefIdeal.nD,
      r.2.mem ((c.tc : Thread Cert.ConvProjSampleRefIdeal.nD Cert.ConvProjSampleRefIdeal.τ).loc Cert.ConvProjSampleRefIdeal.main_arg0) = m ((c.tc : Thread Cert.ConvProjSampleRefIdeal.nD Cert.ConvProjSampleRefIdeal.τ).loc Cert.ConvProjSampleRefIdeal.main_arg0)
      ∧ r.2.mem ((c.tc : Thread Cert.ConvProjSampleRefIdeal.nD Cert.ConvProjSampleRefIdeal.τ).loc Cert.ConvProjSampleRefIdeal.main_arg1) = m ((c.tc : Thread Cert.ConvProjSampleRefIdeal.nD Cert.ConvProjSampleRefIdeal.τ).loc Cert.ConvProjSampleRefIdeal.main_arg1)
      ∧ r.2.mem ((c.tc : Thread Cert.ConvProjSampleRefIdeal.nD Cert.ConvProjSampleRefIdeal.τ).loc Cert.ConvProjSampleRefIdeal.main_arg2) = m ((c.tc : Thread Cert.ConvProjSampleRefIdeal.nD Cert.ConvProjSampleRefIdeal.τ).loc Cert.ConvProjSampleRefIdeal.main_arg2))
      ∧ r.2.sem = fun _ => 0)

def quiescent_AttnProjSample [hAttnProjSample : Cert.AttnProjSample.Facts] : Prop :=
  ∀ (m : (ℓ : Loc Cert.AttnProjSample.nD Cert.AttnProjSample.τ Cert.AttnProjSample.sig) → Buf (Elt Bits) ℓ) (g : Dev Cert.AttnProjSample.nD → PrngReg), Pre_AttnProjSample m →
    θ_run (Cert.AttnProjSample.defs (F := Bits)) (onTc (τ := Cert.AttnProjSample.τ) (Cert.AttnProjSample.main (F := Bits))) ⟨m, fun _ => 0, g⟩ (fun r => (∀ c : Dev Cert.AttnProjSample.nD,
      r.2.mem ((c.tc : Thread Cert.AttnProjSample.nD Cert.AttnProjSample.τ).loc Cert.AttnProjSample.main_arg0) = m ((c.tc : Thread Cert.AttnProjSample.nD Cert.AttnProjSample.τ).loc Cert.AttnProjSample.main_arg0)
      ∧ r.2.mem ((c.tc : Thread Cert.AttnProjSample.nD Cert.AttnProjSample.τ).loc Cert.AttnProjSample.main_arg1) = m ((c.tc : Thread Cert.AttnProjSample.nD Cert.AttnProjSample.τ).loc Cert.AttnProjSample.main_arg1)
      ∧ r.2.mem ((c.tc : Thread Cert.AttnProjSample.nD Cert.AttnProjSample.τ).loc Cert.AttnProjSample.main_arg2) = m ((c.tc : Thread Cert.AttnProjSample.nD Cert.AttnProjSample.τ).loc Cert.AttnProjSample.main_arg2)
      ∧ r.2.mem ((c.tc : Thread Cert.AttnProjSample.nD Cert.AttnProjSample.τ).loc Cert.AttnProjSample.main_arg3) = m ((c.tc : Thread Cert.AttnProjSample.nD Cert.AttnProjSample.τ).loc Cert.AttnProjSample.main_arg3))
      ∧ r.2.sem = fun _ => 0)

def quiescent_AttnProjSampleIdeal [hAttnProjSampleIdeal : Cert.AttnProjSampleIdeal.Facts] : Prop :=
  ∀ (m : (ℓ : Loc Cert.AttnProjSampleIdeal.nD Cert.AttnProjSampleIdeal.τ Cert.AttnProjSampleIdeal.sig) → Buf (Elt Ideal) ℓ) (g : Dev Cert.AttnProjSampleIdeal.nD → PrngReg), Pre_AttnProjSampleIdeal m →
    θ_run (Cert.AttnProjSampleIdeal.defs (F := Ideal)) (onTc (τ := Cert.AttnProjSampleIdeal.τ) (Cert.AttnProjSampleIdeal.main (F := Ideal))) ⟨m, fun _ => 0, g⟩ (fun r => (∀ c : Dev Cert.AttnProjSampleIdeal.nD,
      r.2.mem ((c.tc : Thread Cert.AttnProjSampleIdeal.nD Cert.AttnProjSampleIdeal.τ).loc Cert.AttnProjSampleIdeal.main_arg0) = m ((c.tc : Thread Cert.AttnProjSampleIdeal.nD Cert.AttnProjSampleIdeal.τ).loc Cert.AttnProjSampleIdeal.main_arg0)
      ∧ r.2.mem ((c.tc : Thread Cert.AttnProjSampleIdeal.nD Cert.AttnProjSampleIdeal.τ).loc Cert.AttnProjSampleIdeal.main_arg1) = m ((c.tc : Thread Cert.AttnProjSampleIdeal.nD Cert.AttnProjSampleIdeal.τ).loc Cert.AttnProjSampleIdeal.main_arg1)
      ∧ r.2.mem ((c.tc : Thread Cert.AttnProjSampleIdeal.nD Cert.AttnProjSampleIdeal.τ).loc Cert.AttnProjSampleIdeal.main_arg2) = m ((c.tc : Thread Cert.AttnProjSampleIdeal.nD Cert.AttnProjSampleIdeal.τ).loc Cert.AttnProjSampleIdeal.main_arg2)
      ∧ r.2.mem ((c.tc : Thread Cert.AttnProjSampleIdeal.nD Cert.AttnProjSampleIdeal.τ).loc Cert.AttnProjSampleIdeal.main_arg3) = m ((c.tc : Thread Cert.AttnProjSampleIdeal.nD Cert.AttnProjSampleIdeal.τ).loc Cert.AttnProjSampleIdeal.main_arg3))
      ∧ r.2.sem = fun _ => 0)

def quiescent_AttnProjSampleRefIdeal [hAttnProjSampleRefIdeal : Cert.AttnProjSampleRefIdeal.Facts] : Prop :=
  ∀ (m : (ℓ : Loc Cert.AttnProjSampleRefIdeal.nD Cert.AttnProjSampleRefIdeal.τ Cert.AttnProjSampleRefIdeal.sig) → Buf (Elt Ideal) ℓ) (g : Dev Cert.AttnProjSampleRefIdeal.nD → PrngReg), Pre_AttnProjSampleRefIdeal m →
    θ_run (Cert.AttnProjSampleRefIdeal.defs (F := Ideal)) (onTc (τ := Cert.AttnProjSampleRefIdeal.τ) (Cert.AttnProjSampleRefIdeal.main (F := Ideal))) ⟨m, fun _ => 0, g⟩ (fun r => (∀ c : Dev Cert.AttnProjSampleRefIdeal.nD,
      r.2.mem ((c.tc : Thread Cert.AttnProjSampleRefIdeal.nD Cert.AttnProjSampleRefIdeal.τ).loc Cert.AttnProjSampleRefIdeal.main_arg0) = m ((c.tc : Thread Cert.AttnProjSampleRefIdeal.nD Cert.AttnProjSampleRefIdeal.τ).loc Cert.AttnProjSampleRefIdeal.main_arg0)
      ∧ r.2.mem ((c.tc : Thread Cert.AttnProjSampleRefIdeal.nD Cert.AttnProjSampleRefIdeal.τ).loc Cert.AttnProjSampleRefIdeal.main_arg1) = m ((c.tc : Thread Cert.AttnProjSampleRefIdeal.nD Cert.AttnProjSampleRefIdeal.τ).loc Cert.AttnProjSampleRefIdeal.main_arg1)
      ∧ r.2.mem ((c.tc : Thread Cert.AttnProjSampleRefIdeal.nD Cert.AttnProjSampleRefIdeal.τ).loc Cert.AttnProjSampleRefIdeal.main_arg2) = m ((c.tc : Thread Cert.AttnProjSampleRefIdeal.nD Cert.AttnProjSampleRefIdeal.τ).loc Cert.AttnProjSampleRefIdeal.main_arg2)
      ∧ r.2.mem ((c.tc : Thread Cert.AttnProjSampleRefIdeal.nD Cert.AttnProjSampleRefIdeal.τ).loc Cert.AttnProjSampleRefIdeal.main_arg3) = m ((c.tc : Thread Cert.AttnProjSampleRefIdeal.nD Cert.AttnProjSampleRefIdeal.τ).loc Cert.AttnProjSampleRefIdeal.main_arg3))
      ∧ r.2.sem = fun _ => 0)

def quiescent_FfnMixSample [hFfnMixSample : Cert.FfnMixSample.Facts] : Prop :=
  ∀ (m : (ℓ : Loc Cert.FfnMixSample.nD Cert.FfnMixSample.τ Cert.FfnMixSample.sig) → Buf (Elt Bits) ℓ) (g : Dev Cert.FfnMixSample.nD → PrngReg), Pre_FfnMixSample m →
    θ_run (Cert.FfnMixSample.defs (F := Bits)) (onTc (τ := Cert.FfnMixSample.τ) (Cert.FfnMixSample.main (F := Bits))) ⟨m, fun _ => 0, g⟩ (fun r => (∀ c : Dev Cert.FfnMixSample.nD,
      r.2.mem ((c.tc : Thread Cert.FfnMixSample.nD Cert.FfnMixSample.τ).loc Cert.FfnMixSample.main_arg0) = m ((c.tc : Thread Cert.FfnMixSample.nD Cert.FfnMixSample.τ).loc Cert.FfnMixSample.main_arg0)
      ∧ r.2.mem ((c.tc : Thread Cert.FfnMixSample.nD Cert.FfnMixSample.τ).loc Cert.FfnMixSample.main_arg1) = m ((c.tc : Thread Cert.FfnMixSample.nD Cert.FfnMixSample.τ).loc Cert.FfnMixSample.main_arg1)
      ∧ r.2.mem ((c.tc : Thread Cert.FfnMixSample.nD Cert.FfnMixSample.τ).loc Cert.FfnMixSample.main_arg2) = m ((c.tc : Thread Cert.FfnMixSample.nD Cert.FfnMixSample.τ).loc Cert.FfnMixSample.main_arg2)
      ∧ r.2.mem ((c.tc : Thread Cert.FfnMixSample.nD Cert.FfnMixSample.τ).loc Cert.FfnMixSample.main_arg3) = m ((c.tc : Thread Cert.FfnMixSample.nD Cert.FfnMixSample.τ).loc Cert.FfnMixSample.main_arg3)
      ∧ r.2.mem ((c.tc : Thread Cert.FfnMixSample.nD Cert.FfnMixSample.τ).loc Cert.FfnMixSample.main_arg4) = m ((c.tc : Thread Cert.FfnMixSample.nD Cert.FfnMixSample.τ).loc Cert.FfnMixSample.main_arg4)
      ∧ r.2.mem ((c.tc : Thread Cert.FfnMixSample.nD Cert.FfnMixSample.τ).loc Cert.FfnMixSample.main_arg5) = m ((c.tc : Thread Cert.FfnMixSample.nD Cert.FfnMixSample.τ).loc Cert.FfnMixSample.main_arg5)
      ∧ r.2.mem ((c.tc : Thread Cert.FfnMixSample.nD Cert.FfnMixSample.τ).loc Cert.FfnMixSample.main_arg6) = m ((c.tc : Thread Cert.FfnMixSample.nD Cert.FfnMixSample.τ).loc Cert.FfnMixSample.main_arg6)
      ∧ r.2.mem ((c.tc : Thread Cert.FfnMixSample.nD Cert.FfnMixSample.τ).loc Cert.FfnMixSample.main_arg7) = m ((c.tc : Thread Cert.FfnMixSample.nD Cert.FfnMixSample.τ).loc Cert.FfnMixSample.main_arg7)
      ∧ r.2.mem ((c.tc : Thread Cert.FfnMixSample.nD Cert.FfnMixSample.τ).loc Cert.FfnMixSample.main_arg8) = m ((c.tc : Thread Cert.FfnMixSample.nD Cert.FfnMixSample.τ).loc Cert.FfnMixSample.main_arg8))
      ∧ r.2.sem = fun _ => 0)

def quiescent_FfnMixSampleIdeal [hFfnMixSampleIdeal : Cert.FfnMixSampleIdeal.Facts] : Prop :=
  ∀ (m : (ℓ : Loc Cert.FfnMixSampleIdeal.nD Cert.FfnMixSampleIdeal.τ Cert.FfnMixSampleIdeal.sig) → Buf (Elt Ideal) ℓ) (g : Dev Cert.FfnMixSampleIdeal.nD → PrngReg), Pre_FfnMixSampleIdeal m →
    θ_run (Cert.FfnMixSampleIdeal.defs (F := Ideal)) (onTc (τ := Cert.FfnMixSampleIdeal.τ) (Cert.FfnMixSampleIdeal.main (F := Ideal))) ⟨m, fun _ => 0, g⟩ (fun r => (∀ c : Dev Cert.FfnMixSampleIdeal.nD,
      r.2.mem ((c.tc : Thread Cert.FfnMixSampleIdeal.nD Cert.FfnMixSampleIdeal.τ).loc Cert.FfnMixSampleIdeal.main_arg0) = m ((c.tc : Thread Cert.FfnMixSampleIdeal.nD Cert.FfnMixSampleIdeal.τ).loc Cert.FfnMixSampleIdeal.main_arg0)
      ∧ r.2.mem ((c.tc : Thread Cert.FfnMixSampleIdeal.nD Cert.FfnMixSampleIdeal.τ).loc Cert.FfnMixSampleIdeal.main_arg1) = m ((c.tc : Thread Cert.FfnMixSampleIdeal.nD Cert.FfnMixSampleIdeal.τ).loc Cert.FfnMixSampleIdeal.main_arg1)
      ∧ r.2.mem ((c.tc : Thread Cert.FfnMixSampleIdeal.nD Cert.FfnMixSampleIdeal.τ).loc Cert.FfnMixSampleIdeal.main_arg2) = m ((c.tc : Thread Cert.FfnMixSampleIdeal.nD Cert.FfnMixSampleIdeal.τ).loc Cert.FfnMixSampleIdeal.main_arg2)
      ∧ r.2.mem ((c.tc : Thread Cert.FfnMixSampleIdeal.nD Cert.FfnMixSampleIdeal.τ).loc Cert.FfnMixSampleIdeal.main_arg3) = m ((c.tc : Thread Cert.FfnMixSampleIdeal.nD Cert.FfnMixSampleIdeal.τ).loc Cert.FfnMixSampleIdeal.main_arg3)
      ∧ r.2.mem ((c.tc : Thread Cert.FfnMixSampleIdeal.nD Cert.FfnMixSampleIdeal.τ).loc Cert.FfnMixSampleIdeal.main_arg4) = m ((c.tc : Thread Cert.FfnMixSampleIdeal.nD Cert.FfnMixSampleIdeal.τ).loc Cert.FfnMixSampleIdeal.main_arg4)
      ∧ r.2.mem ((c.tc : Thread Cert.FfnMixSampleIdeal.nD Cert.FfnMixSampleIdeal.τ).loc Cert.FfnMixSampleIdeal.main_arg5) = m ((c.tc : Thread Cert.FfnMixSampleIdeal.nD Cert.FfnMixSampleIdeal.τ).loc Cert.FfnMixSampleIdeal.main_arg5)
      ∧ r.2.mem ((c.tc : Thread Cert.FfnMixSampleIdeal.nD Cert.FfnMixSampleIdeal.τ).loc Cert.FfnMixSampleIdeal.main_arg6) = m ((c.tc : Thread Cert.FfnMixSampleIdeal.nD Cert.FfnMixSampleIdeal.τ).loc Cert.FfnMixSampleIdeal.main_arg6)
      ∧ r.2.mem ((c.tc : Thread Cert.FfnMixSampleIdeal.nD Cert.FfnMixSampleIdeal.τ).loc Cert.FfnMixSampleIdeal.main_arg7) = m ((c.tc : Thread Cert.FfnMixSampleIdeal.nD Cert.FfnMixSampleIdeal.τ).loc Cert.FfnMixSampleIdeal.main_arg7)
      ∧ r.2.mem ((c.tc : Thread Cert.FfnMixSampleIdeal.nD Cert.FfnMixSampleIdeal.τ).loc Cert.FfnMixSampleIdeal.main_arg8) = m ((c.tc : Thread Cert.FfnMixSampleIdeal.nD Cert.FfnMixSampleIdeal.τ).loc Cert.FfnMixSampleIdeal.main_arg8))
      ∧ r.2.sem = fun _ => 0)

def quiescent_FfnMixSampleRefIdeal [hFfnMixSampleRefIdeal : Cert.FfnMixSampleRefIdeal.Facts] : Prop :=
  ∀ (m : (ℓ : Loc Cert.FfnMixSampleRefIdeal.nD Cert.FfnMixSampleRefIdeal.τ Cert.FfnMixSampleRefIdeal.sig) → Buf (Elt Ideal) ℓ) (g : Dev Cert.FfnMixSampleRefIdeal.nD → PrngReg), Pre_FfnMixSampleRefIdeal m →
    θ_run (Cert.FfnMixSampleRefIdeal.defs (F := Ideal)) (onTc (τ := Cert.FfnMixSampleRefIdeal.τ) (Cert.FfnMixSampleRefIdeal.main (F := Ideal))) ⟨m, fun _ => 0, g⟩ (fun r => (∀ c : Dev Cert.FfnMixSampleRefIdeal.nD,
      r.2.mem ((c.tc : Thread Cert.FfnMixSampleRefIdeal.nD Cert.FfnMixSampleRefIdeal.τ).loc Cert.FfnMixSampleRefIdeal.main_arg0) = m ((c.tc : Thread Cert.FfnMixSampleRefIdeal.nD Cert.FfnMixSampleRefIdeal.τ).loc Cert.FfnMixSampleRefIdeal.main_arg0)
      ∧ r.2.mem ((c.tc : Thread Cert.FfnMixSampleRefIdeal.nD Cert.FfnMixSampleRefIdeal.τ).loc Cert.FfnMixSampleRefIdeal.main_arg1) = m ((c.tc : Thread Cert.FfnMixSampleRefIdeal.nD Cert.FfnMixSampleRefIdeal.τ).loc Cert.FfnMixSampleRefIdeal.main_arg1)
      ∧ r.2.mem ((c.tc : Thread Cert.FfnMixSampleRefIdeal.nD Cert.FfnMixSampleRefIdeal.τ).loc Cert.FfnMixSampleRefIdeal.main_arg2) = m ((c.tc : Thread Cert.FfnMixSampleRefIdeal.nD Cert.FfnMixSampleRefIdeal.τ).loc Cert.FfnMixSampleRefIdeal.main_arg2)
      ∧ r.2.mem ((c.tc : Thread Cert.FfnMixSampleRefIdeal.nD Cert.FfnMixSampleRefIdeal.τ).loc Cert.FfnMixSampleRefIdeal.main_arg3) = m ((c.tc : Thread Cert.FfnMixSampleRefIdeal.nD Cert.FfnMixSampleRefIdeal.τ).loc Cert.FfnMixSampleRefIdeal.main_arg3)
      ∧ r.2.mem ((c.tc : Thread Cert.FfnMixSampleRefIdeal.nD Cert.FfnMixSampleRefIdeal.τ).loc Cert.FfnMixSampleRefIdeal.main_arg4) = m ((c.tc : Thread Cert.FfnMixSampleRefIdeal.nD Cert.FfnMixSampleRefIdeal.τ).loc Cert.FfnMixSampleRefIdeal.main_arg4)
      ∧ r.2.mem ((c.tc : Thread Cert.FfnMixSampleRefIdeal.nD Cert.FfnMixSampleRefIdeal.τ).loc Cert.FfnMixSampleRefIdeal.main_arg5) = m ((c.tc : Thread Cert.FfnMixSampleRefIdeal.nD Cert.FfnMixSampleRefIdeal.τ).loc Cert.FfnMixSampleRefIdeal.main_arg5)
      ∧ r.2.mem ((c.tc : Thread Cert.FfnMixSampleRefIdeal.nD Cert.FfnMixSampleRefIdeal.τ).loc Cert.FfnMixSampleRefIdeal.main_arg6) = m ((c.tc : Thread Cert.FfnMixSampleRefIdeal.nD Cert.FfnMixSampleRefIdeal.τ).loc Cert.FfnMixSampleRefIdeal.main_arg6)
      ∧ r.2.mem ((c.tc : Thread Cert.FfnMixSampleRefIdeal.nD Cert.FfnMixSampleRefIdeal.τ).loc Cert.FfnMixSampleRefIdeal.main_arg7) = m ((c.tc : Thread Cert.FfnMixSampleRefIdeal.nD Cert.FfnMixSampleRefIdeal.τ).loc Cert.FfnMixSampleRefIdeal.main_arg7)
      ∧ r.2.mem ((c.tc : Thread Cert.FfnMixSampleRefIdeal.nD Cert.FfnMixSampleRefIdeal.τ).loc Cert.FfnMixSampleRefIdeal.main_arg8) = m ((c.tc : Thread Cert.FfnMixSampleRefIdeal.nD Cert.FfnMixSampleRefIdeal.τ).loc Cert.FfnMixSampleRefIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_gates_masked [hKernelIdeal : Cert.KernelIdeal.Facts] [hReferenceIdeal : Cert.ReferenceIdeal.Facts] [hPre_gates_masked : Cert.Pre_gates_masked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_masked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnMix_FfnMixIdeal : Prop :=
  True

def algebraic_FfnMixIdeal_FfnMixRefIdeal [hFfnMixIdeal : Cert.FfnMixIdeal.Facts] [hFfnMixRefIdeal : Cert.FfnMixRefIdeal.Facts] : Prop :=
  ∀ (m : (ℓ : Loc Cert.FfnMixIdeal.nD Cert.FfnMixIdeal.τ Cert.FfnMixIdeal.sig) → Buf (Elt Ideal) ℓ) (g : Dev Cert.FfnMixIdeal.nD → PrngReg)
    (m' : (ℓ : Loc Cert.FfnMixRefIdeal.nD Cert.FfnMixRefIdeal.τ Cert.FfnMixRefIdeal.sig) → Buf (Elt Ideal) ℓ) (g' : Dev Cert.FfnMixRefIdeal.nD → PrngReg), Pre_FfnMixIdeal m →
    (∀ c : Dev Cert.FfnMixIdeal.nD,
      m' ((c.tc : Thread Cert.FfnMixRefIdeal.nD Cert.FfnMixRefIdeal.τ).loc Cert.FfnMixRefIdeal.main_arg0) = m ((c.tc : Thread Cert.FfnMixIdeal.nD Cert.FfnMixIdeal.τ).loc Cert.FfnMixIdeal.main_arg0)
      ∧ m' ((c.tc : Thread Cert.FfnMixRefIdeal.nD Cert.FfnMixRefIdeal.τ).loc Cert.FfnMixRefIdeal.main_arg1) = m ((c.tc : Thread Cert.FfnMixIdeal.nD Cert.FfnMixIdeal.τ).loc Cert.FfnMixIdeal.main_arg1)
      ∧ m' ((c.tc : Thread Cert.FfnMixRefIdeal.nD Cert.FfnMixRefIdeal.τ).loc Cert.FfnMixRefIdeal.main_arg2) = m ((c.tc : Thread Cert.FfnMixIdeal.nD Cert.FfnMixIdeal.τ).loc Cert.FfnMixIdeal.main_arg2)
      ∧ m' ((c.tc : Thread Cert.FfnMixRefIdeal.nD Cert.FfnMixRefIdeal.τ).loc Cert.FfnMixRefIdeal.main_arg3) = m ((c.tc : Thread Cert.FfnMixIdeal.nD Cert.FfnMixIdeal.τ).loc Cert.FfnMixIdeal.main_arg3)
      ∧ m' ((c.tc : Thread Cert.FfnMixRefIdeal.nD Cert.FfnMixRefIdeal.τ).loc Cert.FfnMixRefIdeal.main_arg4) = m ((c.tc : Thread Cert.FfnMixIdeal.nD Cert.FfnMixIdeal.τ).loc Cert.FfnMixIdeal.main_arg4)
      ∧ m' ((c.tc : Thread Cert.FfnMixRefIdeal.nD Cert.FfnMixRefIdeal.τ).loc Cert.FfnMixRefIdeal.main_arg5) = m ((c.tc : Thread Cert.FfnMixIdeal.nD Cert.FfnMixIdeal.τ).loc Cert.FfnMixIdeal.main_arg5)
      ∧ m' ((c.tc : Thread Cert.FfnMixRefIdeal.nD Cert.FfnMixRefIdeal.τ).loc Cert.FfnMixRefIdeal.main_arg6) = m ((c.tc : Thread Cert.FfnMixIdeal.nD Cert.FfnMixIdeal.τ).loc Cert.FfnMixIdeal.main_arg6)
      ∧ m' ((c.tc : Thread Cert.FfnMixRefIdeal.nD Cert.FfnMixRefIdeal.τ).loc Cert.FfnMixRefIdeal.main_arg7) = m ((c.tc : Thread Cert.FfnMixIdeal.nD Cert.FfnMixIdeal.τ).loc Cert.FfnMixIdeal.main_arg7)
      ∧ m' ((c.tc : Thread Cert.FfnMixRefIdeal.nD Cert.FfnMixRefIdeal.τ).loc Cert.FfnMixRefIdeal.main_arg8) = m ((c.tc : Thread Cert.FfnMixIdeal.nD Cert.FfnMixIdeal.τ).loc Cert.FfnMixIdeal.main_arg8)) →
    ∃ (v0 : (c : Dev Cert.FfnMixIdeal.nD) → Buf (Elt Ideal) ((c.tc : Thread Cert.FfnMixIdeal.nD Cert.FfnMixIdeal.τ).loc Cert.FfnMixIdeal.main_v7)),
      θ_run (Cert.FfnMixIdeal.defs (F := Ideal)) (onTc (τ := Cert.FfnMixIdeal.τ) (Cert.FfnMixIdeal.main (F := Ideal))) ⟨m, fun _ => 0, g⟩ (fun r => ∀ c : Dev Cert.FfnMixIdeal.nD,
          r.2.mem ((c.tc : Thread Cert.FfnMixIdeal.nD Cert.FfnMixIdeal.τ).loc Cert.FfnMixIdeal.main_v7) = v0 c
          ∧ r.2.mem ((c.tc : Thread Cert.FfnMixIdeal.nD Cert.FfnMixIdeal.τ).loc Cert.FfnMixIdeal.main_arg0) = m ((c.tc : Thread Cert.FfnMixIdeal.nD Cert.FfnMixIdeal.τ).loc Cert.FfnMixIdeal.main_arg0)
          ∧ r.2.mem ((c.tc : Thread Cert.FfnMixIdeal.nD Cert.FfnMixIdeal.τ).loc Cert.FfnMixIdeal.main_arg1) = m ((c.tc : Thread Cert.FfnMixIdeal.nD Cert.FfnMixIdeal.τ).loc Cert.FfnMixIdeal.main_arg1)
          ∧ r.2.mem ((c.tc : Thread Cert.FfnMixIdeal.nD Cert.FfnMixIdeal.τ).loc Cert.FfnMixIdeal.main_arg2) = m ((c.tc : Thread Cert.FfnMixIdeal.nD Cert.FfnMixIdeal.τ).loc Cert.FfnMixIdeal.main_arg2)
          ∧ r.2.mem ((c.tc : Thread Cert.FfnMixIdeal.nD Cert.FfnMixIdeal.τ).loc Cert.FfnMixIdeal.main_arg3) = m ((c.tc : Thread Cert.FfnMixIdeal.nD Cert.FfnMixIdeal.τ).loc Cert.FfnMixIdeal.main_arg3)
          ∧ r.2.mem ((c.tc : Thread Cert.FfnMixIdeal.nD Cert.FfnMixIdeal.τ).loc Cert.FfnMixIdeal.main_arg4) = m ((c.tc : Thread Cert.FfnMixIdeal.nD Cert.FfnMixIdeal.τ).loc Cert.FfnMixIdeal.main_arg4)
          ∧ r.2.mem ((c.tc : Thread Cert.FfnMixIdeal.nD Cert.FfnMixIdeal.τ).loc Cert.FfnMixIdeal.main_arg5) = m ((c.tc : Thread Cert.FfnMixIdeal.nD Cert.FfnMixIdeal.τ).loc Cert.FfnMixIdeal.main_arg5)
          ∧ r.2.mem ((c.tc : Thread Cert.FfnMixIdeal.nD Cert.FfnMixIdeal.τ).loc Cert.FfnMixIdeal.main_arg6) = m ((c.tc : Thread Cert.FfnMixIdeal.nD Cert.FfnMixIdeal.τ).loc Cert.FfnMixIdeal.main_arg6)
          ∧ r.2.mem ((c.tc : Thread Cert.FfnMixIdeal.nD Cert.FfnMixIdeal.τ).loc Cert.FfnMixIdeal.main_arg7) = m ((c.tc : Thread Cert.FfnMixIdeal.nD Cert.FfnMixIdeal.τ).loc Cert.FfnMixIdeal.main_arg7)
          ∧ r.2.mem ((c.tc : Thread Cert.FfnMixIdeal.nD Cert.FfnMixIdeal.τ).loc Cert.FfnMixIdeal.main_arg8) = m ((c.tc : Thread Cert.FfnMixIdeal.nD Cert.FfnMixIdeal.τ).loc Cert.FfnMixIdeal.main_arg8))
      ∧ θ_run (Cert.FfnMixRefIdeal.defs (F := Ideal)) (onTc (τ := Cert.FfnMixRefIdeal.τ) (Cert.FfnMixRefIdeal.main (F := Ideal))) ⟨m', fun _ => 0, g'⟩ (fun r => ∀ c : Dev Cert.FfnMixRefIdeal.nD,
          r.2.mem ((c.tc : Thread Cert.FfnMixRefIdeal.nD Cert.FfnMixRefIdeal.τ).loc Cert.FfnMixRefIdeal.main_v49) = v0 c
          ∧ r.2.mem ((c.tc : Thread Cert.FfnMixRefIdeal.nD Cert.FfnMixRefIdeal.τ).loc Cert.FfnMixRefIdeal.main_arg0) = m' ((c.tc : Thread Cert.FfnMixRefIdeal.nD Cert.FfnMixRefIdeal.τ).loc Cert.FfnMixRefIdeal.main_arg0)
          ∧ r.2.mem ((c.tc : Thread Cert.FfnMixRefIdeal.nD Cert.FfnMixRefIdeal.τ).loc Cert.FfnMixRefIdeal.main_arg1) = m' ((c.tc : Thread Cert.FfnMixRefIdeal.nD Cert.FfnMixRefIdeal.τ).loc Cert.FfnMixRefIdeal.main_arg1)
          ∧ r.2.mem ((c.tc : Thread Cert.FfnMixRefIdeal.nD Cert.FfnMixRefIdeal.τ).loc Cert.FfnMixRefIdeal.main_arg2) = m' ((c.tc : Thread Cert.FfnMixRefIdeal.nD Cert.FfnMixRefIdeal.τ).loc Cert.FfnMixRefIdeal.main_arg2)
          ∧ r.2.mem ((c.tc : Thread Cert.FfnMixRefIdeal.nD Cert.FfnMixRefIdeal.τ).loc Cert.FfnMixRefIdeal.main_arg3) = m' ((c.tc : Thread Cert.FfnMixRefIdeal.nD Cert.FfnMixRefIdeal.τ).loc Cert.FfnMixRefIdeal.main_arg3)
          ∧ r.2.mem ((c.tc : Thread Cert.FfnMixRefIdeal.nD Cert.FfnMixRefIdeal.τ).loc Cert.FfnMixRefIdeal.main_arg4) = m' ((c.tc : Thread Cert.FfnMixRefIdeal.nD Cert.FfnMixRefIdeal.τ).loc Cert.FfnMixRefIdeal.main_arg4)
          ∧ r.2.mem ((c.tc : Thread Cert.FfnMixRefIdeal.nD Cert.FfnMixRefIdeal.τ).loc Cert.FfnMixRefIdeal.main_arg5) = m' ((c.tc : Thread Cert.FfnMixRefIdeal.nD Cert.FfnMixRefIdeal.τ).loc Cert.FfnMixRefIdeal.main_arg5)
          ∧ r.2.mem ((c.tc : Thread Cert.FfnMixRefIdeal.nD Cert.FfnMixRefIdeal.τ).loc Cert.FfnMixRefIdeal.main_arg6) = m' ((c.tc : Thread Cert.FfnMixRefIdeal.nD Cert.FfnMixRefIdeal.τ).loc Cert.FfnMixRefIdeal.main_arg6)
          ∧ r.2.mem ((c.tc : Thread Cert.FfnMixRefIdeal.nD Cert.FfnMixRefIdeal.τ).loc Cert.FfnMixRefIdeal.main_arg7) = m' ((c.tc : Thread Cert.FfnMixRefIdeal.nD Cert.FfnMixRefIdeal.τ).loc Cert.FfnMixRefIdeal.main_arg7)
          ∧ r.2.mem ((c.tc : Thread Cert.FfnMixRefIdeal.nD Cert.FfnMixRefIdeal.τ).loc Cert.FfnMixRefIdeal.main_arg8) = m' ((c.tc : Thread Cert.FfnMixRefIdeal.nD Cert.FfnMixRefIdeal.τ).loc Cert.FfnMixRefIdeal.main_arg8))

def preserves_AttnProj_AttnProjIdeal : Prop :=
  True

def algebraic_AttnProjIdeal_AttnProjRefIdeal [hAttnProjIdeal : Cert.AttnProjIdeal.Facts] [hAttnProjRefIdeal : Cert.AttnProjRefIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjRefIdeal.nD Cert.AttnProjRefIdeal.τ Cert.AttnProjRefIdeal.sig) → Buf (Elt Ideal) ℓ) (g' : Dev Cert.AttnProjRefIdeal.nD → PrngReg), Pre_AttnProjIdeal m →
    (∀ c : Dev Cert.AttnProjIdeal.nD,
      m' ((c.tc : Thread Cert.AttnProjRefIdeal.nD Cert.AttnProjRefIdeal.τ).loc Cert.AttnProjRefIdeal.main_arg0) = m ((c.tc : Thread Cert.AttnProjIdeal.nD Cert.AttnProjIdeal.τ).loc Cert.AttnProjIdeal.main_arg0)
      ∧ m' ((c.tc : Thread Cert.AttnProjRefIdeal.nD Cert.AttnProjRefIdeal.τ).loc Cert.AttnProjRefIdeal.main_arg1) = m ((c.tc : Thread Cert.AttnProjIdeal.nD Cert.AttnProjIdeal.τ).loc Cert.AttnProjIdeal.main_arg1)
      ∧ m' ((c.tc : Thread Cert.AttnProjRefIdeal.nD Cert.AttnProjRefIdeal.τ).loc Cert.AttnProjRefIdeal.main_arg2) = m ((c.tc : Thread Cert.AttnProjIdeal.nD Cert.AttnProjIdeal.τ).loc Cert.AttnProjIdeal.main_arg2)
      ∧ m' ((c.tc : Thread Cert.AttnProjRefIdeal.nD Cert.AttnProjRefIdeal.τ).loc Cert.AttnProjRefIdeal.main_arg3) = m ((c.tc : Thread Cert.AttnProjIdeal.nD Cert.AttnProjIdeal.τ).loc Cert.AttnProjIdeal.main_arg3)) →
    ∃ (v0 : (c : Dev Cert.AttnProjIdeal.nD) → Buf (Elt Ideal) ((c.tc : Thread Cert.AttnProjIdeal.nD Cert.AttnProjIdeal.τ).loc Cert.AttnProjIdeal.main_v14_0)) (v1 : (c : Dev Cert.AttnProjIdeal.nD) → Buf (Elt Ideal) ((c.tc : Thread Cert.AttnProjIdeal.nD Cert.AttnProjIdeal.τ).loc Cert.AttnProjIdeal.main_v14_1)) (v2 : (c : Dev Cert.AttnProjIdeal.nD) → Buf (Elt Ideal) ((c.tc : Thread Cert.AttnProjIdeal.nD Cert.AttnProjIdeal.τ).loc Cert.AttnProjIdeal.main_v14_2)) (v3 : (c : Dev Cert.AttnProjIdeal.nD) → Buf (Elt Ideal) ((c.tc : Thread Cert.AttnProjIdeal.nD Cert.AttnProjIdeal.τ).loc Cert.AttnProjIdeal.main_v14_3)) (v4 : (c : Dev Cert.AttnProjIdeal.nD) → Buf (Elt Ideal) ((c.tc : Thread Cert.AttnProjIdeal.nD Cert.AttnProjIdeal.τ).loc Cert.AttnProjIdeal.main_v14_4)) (v5 : (c : Dev Cert.AttnProjIdeal.nD) → Buf (Elt Ideal) ((c.tc : Thread Cert.AttnProjIdeal.nD Cert.AttnProjIdeal.τ).loc Cert.AttnProjIdeal.main_v14_5)) (v6 : (c : Dev Cert.AttnProjIdeal.nD) → Buf (Elt Ideal) ((c.tc : Thread Cert.AttnProjIdeal.nD Cert.AttnProjIdeal.τ).loc Cert.AttnProjIdeal.main_v14_6)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v14_0) = v0 c
          ∧ r.2.mem ((c.tc : Thread Cert.AttnProjIdeal.nD Cert.AttnProjIdeal.τ).loc Cert.AttnProjIdeal.main_v14_1) = v1 c
          ∧ r.2.mem ((c.tc : Thread Cert.AttnProjIdeal.nD Cert.AttnProjIdeal.τ).loc Cert.AttnProjIdeal.main_v14_2) = v2 c
          ∧ r.2.mem ((c.tc : Thread Cert.AttnProjIdeal.nD Cert.AttnProjIdeal.τ).loc Cert.AttnProjIdeal.main_v14_3) = v3 c
          ∧ r.2.mem ((c.tc : Thread Cert.AttnProjIdeal.nD Cert.AttnProjIdeal.τ).loc Cert.AttnProjIdeal.main_v14_4) = v4 c
          ∧ r.2.mem ((c.tc : Thread Cert.AttnProjIdeal.nD Cert.AttnProjIdeal.τ).loc Cert.AttnProjIdeal.main_v14_5) = v5 c
          ∧ r.2.mem ((c.tc : Thread Cert.AttnProjIdeal.nD Cert.AttnProjIdeal.τ).loc Cert.AttnProjIdeal.main_v14_6) = v6 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
          ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
          ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3))
      ∧ θ_run (Cert.AttnProjRefIdeal.defs (F := Ideal)) (onTc (τ := Cert.AttnProjRefIdeal.τ) (Cert.AttnProjRefIdeal.main (F := Ideal))) ⟨m', fun _ => 0, g'⟩ (fun r => ∀ c : Dev Cert.AttnProjRefIdeal.nD,
          r.2.mem ((c.tc : Thread Cert.AttnProjRefIdeal.nD Cert.AttnProjRefIdeal.τ).loc Cert.AttnProjRefIdeal.main_v24) = v0 c
          ∧ r.2.mem ((c.tc : Thread Cert.AttnProjRefIdeal.nD Cert.AttnProjRefIdeal.τ).loc Cert.AttnProjRefIdeal.main_v15) = v1 c
          ∧ r.2.mem ((c.tc : Thread Cert.AttnProjRefIdeal.nD Cert.AttnProjRefIdeal.τ).loc Cert.AttnProjRefIdeal.main_v16) = v2 c
          ∧ r.2.mem ((c.tc : Thread Cert.AttnProjRefIdeal.nD Cert.AttnProjRefIdeal.τ).loc Cert.AttnProjRefIdeal.main_v25) = v3 c
          ∧ r.2.mem ((c.tc : Thread Cert.AttnProjRefIdeal.nD Cert.AttnProjRefIdeal.τ).loc Cert.AttnProjRefIdeal.main_v26) = v4 c
          ∧ r.2.mem ((c.tc : Thread Cert.AttnProjRefIdeal.nD Cert.AttnProjRefIdeal.τ).loc Cert.AttnProjRefIdeal.main_v21) = v5 c
          ∧ r.2.mem ((c.tc : Thread Cert.AttnProjRefIdeal.nD Cert.AttnProjRefIdeal.τ).loc Cert.AttnProjRefIdeal.main_v27) = v6 c
          ∧ r.2.mem ((c.tc : Thread Cert.AttnProjRefIdeal.nD Cert.AttnProjRefIdeal.τ).loc Cert.AttnProjRefIdeal.main_arg0) = m' ((c.tc : Thread Cert.AttnProjRefIdeal.nD Cert.AttnProjRefIdeal.τ).loc Cert.AttnProjRefIdeal.main_arg0)
          ∧ r.2.mem ((c.tc : Thread Cert.AttnProjRefIdeal.nD Cert.AttnProjRefIdeal.τ).loc Cert.AttnProjRefIdeal.main_arg1) = m' ((c.tc : Thread Cert.AttnProjRefIdeal.nD Cert.AttnProjRefIdeal.τ).loc Cert.AttnProjRefIdeal.main_arg1)
          ∧ r.2.mem ((c.tc : Thread Cert.AttnProjRefIdeal.nD Cert.AttnProjRefIdeal.τ).loc Cert.AttnProjRefIdeal.main_arg2) = m' ((c.tc : Thread Cert.AttnProjRefIdeal.nD Cert.AttnProjRefIdeal.τ).loc Cert.AttnProjRefIdeal.main_arg2)
          ∧ r.2.mem ((c.tc : Thread Cert.AttnProjRefIdeal.nD Cert.AttnProjRefIdeal.τ).loc Cert.AttnProjRefIdeal.main_arg3) = m' ((c.tc : Thread Cert.AttnProjRefIdeal.nD Cert.AttnProjRefIdeal.τ).loc Cert.AttnProjRefIdeal.main_arg3))

def preserves_KeyBias_KeyBiasIdeal : Prop :=
  IdealRules.named_const.Statement Cert.KeyBiasIdeal.κ "mask" .f32 0xF149F2CA#32 ⊥

def algebraic_KeyBiasIdeal_KeyBiasRefIdeal [hKeyBiasIdeal : Cert.KeyBiasIdeal.Facts] [hKeyBiasRefIdeal : Cert.KeyBiasRefIdeal.Facts] : Prop :=
  ∀ (m : (ℓ : Loc Cert.KeyBiasIdeal.nD Cert.KeyBiasIdeal.τ Cert.KeyBiasIdeal.sig) → Buf (Elt Ideal) ℓ) (g : Dev Cert.KeyBiasIdeal.nD → PrngReg)
    (m' : (ℓ : Loc Cert.KeyBiasRefIdeal.nD Cert.KeyBiasRefIdeal.τ Cert.KeyBiasRefIdeal.sig) → Buf (Elt Ideal) ℓ) (g' : Dev Cert.KeyBiasRefIdeal.nD → PrngReg), Pre_KeyBiasIdeal m →
    (∀ c : Dev Cert.KeyBiasIdeal.nD,
      m' ((c.tc : Thread Cert.KeyBiasRefIdeal.nD Cert.KeyBiasRefIdeal.τ).loc Cert.KeyBiasRefIdeal.main_arg0) = m ((c.tc : Thread Cert.KeyBiasIdeal.nD Cert.KeyBiasIdeal.τ).loc Cert.KeyBiasIdeal.main_arg0)) →
    ∃ (v0 : (c : Dev Cert.KeyBiasIdeal.nD) → Buf (Elt Ideal) ((c.tc : Thread Cert.KeyBiasIdeal.nD Cert.KeyBiasIdeal.τ).loc Cert.KeyBiasIdeal.main_v0)),
      θ_run (Cert.KeyBiasIdeal.defs (F := Ideal)) (onTc (τ := Cert.KeyBiasIdeal.τ) (Cert.KeyBiasIdeal.main (F := Ideal))) ⟨m, fun _ => 0, g⟩ (fun r => ∀ c : Dev Cert.KeyBiasIdeal.nD,
          r.2.mem ((c.tc : Thread Cert.KeyBiasIdeal.nD Cert.KeyBiasIdeal.τ).loc Cert.KeyBiasIdeal.main_v0) = v0 c
          ∧ r.2.mem ((c.tc : Thread Cert.KeyBiasIdeal.nD Cert.KeyBiasIdeal.τ).loc Cert.KeyBiasIdeal.main_arg0) = m ((c.tc : Thread Cert.KeyBiasIdeal.nD Cert.KeyBiasIdeal.τ).loc Cert.KeyBiasIdeal.main_arg0))
      ∧ θ_run (Cert.KeyBiasRefIdeal.defs (F := Ideal)) (onTc (τ := Cert.KeyBiasRefIdeal.τ) (Cert.KeyBiasRefIdeal.main (F := Ideal))) ⟨m', fun _ => 0, g'⟩ (fun r => ∀ c : Dev Cert.KeyBiasRefIdeal.nD,
          r.2.mem ((c.tc : Thread Cert.KeyBiasRefIdeal.nD Cert.KeyBiasRefIdeal.τ).loc Cert.KeyBiasRefIdeal.main_v5) = v0 c
          ∧ r.2.mem ((c.tc : Thread Cert.KeyBiasRefIdeal.nD Cert.KeyBiasRefIdeal.τ).loc Cert.KeyBiasRefIdeal.main_arg0) = m' ((c.tc : Thread Cert.KeyBiasRefIdeal.nD Cert.KeyBiasRefIdeal.τ).loc Cert.KeyBiasRefIdeal.main_arg0))

def preserves_ConvProj_ConvProjIdeal : Prop :=
  True

def algebraic_ConvProjIdeal_ConvProjRefIdeal [hConvProjIdeal : Cert.ConvProjIdeal.Facts] [hConvProjRefIdeal : Cert.ConvProjRefIdeal.Facts] : Prop :=
  ∀ (m : (ℓ : Loc Cert.ConvProjIdeal.nD Cert.ConvProjIdeal.τ Cert.ConvProjIdeal.sig) → Buf (Elt Ideal) ℓ) (g : Dev Cert.ConvProjIdeal.nD → PrngReg)
    (m' : (ℓ : Loc Cert.ConvProjRefIdeal.nD Cert.ConvProjRefIdeal.τ Cert.ConvProjRefIdeal.sig) → Buf (Elt Ideal) ℓ) (g' : Dev Cert.ConvProjRefIdeal.nD → PrngReg), Pre_ConvProjIdeal m →
    (∀ c : Dev Cert.ConvProjIdeal.nD,
      m' ((c.tc : Thread Cert.ConvProjRefIdeal.nD Cert.ConvProjRefIdeal.τ).loc Cert.ConvProjRefIdeal.main_arg0) = m ((c.tc : Thread Cert.ConvProjIdeal.nD Cert.ConvProjIdeal.τ).loc Cert.ConvProjIdeal.main_arg0)
      ∧ m' ((c.tc : Thread Cert.ConvProjRefIdeal.nD Cert.ConvProjRefIdeal.τ).loc Cert.ConvProjRefIdeal.main_arg1) = m ((c.tc : Thread Cert.ConvProjIdeal.nD Cert.ConvProjIdeal.τ).loc Cert.ConvProjIdeal.main_arg1)
      ∧ m' ((c.tc : Thread Cert.ConvProjRefIdeal.nD Cert.ConvProjRefIdeal.τ).loc Cert.ConvProjRefIdeal.main_arg2) = m ((c.tc : Thread Cert.ConvProjIdeal.nD Cert.ConvProjIdeal.τ).loc Cert.ConvProjIdeal.main_arg2)) →
    ∃ (v0 : (c : Dev Cert.ConvProjIdeal.nD) → Buf (Elt Ideal) ((c.tc : Thread Cert.ConvProjIdeal.nD Cert.ConvProjIdeal.τ).loc Cert.ConvProjIdeal.main_v7_0)) (v1 : (c : Dev Cert.ConvProjIdeal.nD) → Buf (Elt Ideal) ((c.tc : Thread Cert.ConvProjIdeal.nD Cert.ConvProjIdeal.τ).loc Cert.ConvProjIdeal.main_v7_1)),
      θ_run (Cert.ConvProjIdeal.defs (F := Ideal)) (onTc (τ := Cert.ConvProjIdeal.τ) (Cert.ConvProjIdeal.main (F := Ideal))) ⟨m, fun _ => 0, g⟩ (fun r => ∀ c : Dev Cert.ConvProjIdeal.nD,
          r.2.mem ((c.tc : Thread Cert.ConvProjIdeal.nD Cert.ConvProjIdeal.τ).loc Cert.ConvProjIdeal.main_v7_0) = v0 c
          ∧ r.2.mem ((c.tc : Thread Cert.ConvProjIdeal.nD Cert.ConvProjIdeal.τ).loc Cert.ConvProjIdeal.main_v7_1) = v1 c
          ∧ r.2.mem ((c.tc : Thread Cert.ConvProjIdeal.nD Cert.ConvProjIdeal.τ).loc Cert.ConvProjIdeal.main_arg0) = m ((c.tc : Thread Cert.ConvProjIdeal.nD Cert.ConvProjIdeal.τ).loc Cert.ConvProjIdeal.main_arg0)
          ∧ r.2.mem ((c.tc : Thread Cert.ConvProjIdeal.nD Cert.ConvProjIdeal.τ).loc Cert.ConvProjIdeal.main_arg1) = m ((c.tc : Thread Cert.ConvProjIdeal.nD Cert.ConvProjIdeal.τ).loc Cert.ConvProjIdeal.main_arg1)
          ∧ r.2.mem ((c.tc : Thread Cert.ConvProjIdeal.nD Cert.ConvProjIdeal.τ).loc Cert.ConvProjIdeal.main_arg2) = m ((c.tc : Thread Cert.ConvProjIdeal.nD Cert.ConvProjIdeal.τ).loc Cert.ConvProjIdeal.main_arg2))
      ∧ θ_run (Cert.ConvProjRefIdeal.defs (F := Ideal)) (onTc (τ := Cert.ConvProjRefIdeal.τ) (Cert.ConvProjRefIdeal.main (F := Ideal))) ⟨m', fun _ => 0, g'⟩ (fun r => ∀ c : Dev Cert.ConvProjRefIdeal.nD,
          r.2.mem ((c.tc : Thread Cert.ConvProjRefIdeal.nD Cert.ConvProjRefIdeal.τ).loc Cert.ConvProjRefIdeal.main_v17) = v0 c
          ∧ r.2.mem ((c.tc : Thread Cert.ConvProjRefIdeal.nD Cert.ConvProjRefIdeal.τ).loc Cert.ConvProjRefIdeal.main_v18) = v1 c
          ∧ r.2.mem ((c.tc : Thread Cert.ConvProjRefIdeal.nD Cert.ConvProjRefIdeal.τ).loc Cert.ConvProjRefIdeal.main_arg0) = m' ((c.tc : Thread Cert.ConvProjRefIdeal.nD Cert.ConvProjRefIdeal.τ).loc Cert.ConvProjRefIdeal.main_arg0)
          ∧ r.2.mem ((c.tc : Thread Cert.ConvProjRefIdeal.nD Cert.ConvProjRefIdeal.τ).loc Cert.ConvProjRefIdeal.main_arg1) = m' ((c.tc : Thread Cert.ConvProjRefIdeal.nD Cert.ConvProjRefIdeal.τ).loc Cert.ConvProjRefIdeal.main_arg1)
          ∧ r.2.mem ((c.tc : Thread Cert.ConvProjRefIdeal.nD Cert.ConvProjRefIdeal.τ).loc Cert.ConvProjRefIdeal.main_arg2) = m' ((c.tc : Thread Cert.ConvProjRefIdeal.nD Cert.ConvProjRefIdeal.τ).loc Cert.ConvProjRefIdeal.main_arg2))

def preserves_ConvGate_ConvGateIdeal : Prop :=
  True

def algebraic_ConvGateIdeal_ConvGateRefIdeal_pre_padding_empty [hConvGateIdeal : Cert.ConvGateIdeal.Facts] [hConvGateRefIdeal : Cert.ConvGateRefIdeal.Facts] [hPre_padding_empty : Cert.Pre_padding_empty.Facts] : Prop :=
  ∀ (m : (ℓ : Loc Cert.ConvGateIdeal.nD Cert.ConvGateIdeal.τ Cert.ConvGateIdeal.sig) → Buf (Elt Ideal) ℓ) (g : Dev Cert.ConvGateIdeal.nD → PrngReg)
    (m' : (ℓ : Loc Cert.ConvGateRefIdeal.nD Cert.ConvGateRefIdeal.τ Cert.ConvGateRefIdeal.sig) → Buf (Elt Ideal) ℓ) (g' : Dev Cert.ConvGateRefIdeal.nD → PrngReg), Pre_ConvGateIdeal_padding_empty m →
    (∀ c : Dev Cert.ConvGateIdeal.nD,
      m' ((c.tc : Thread Cert.ConvGateRefIdeal.nD Cert.ConvGateRefIdeal.τ).loc Cert.ConvGateRefIdeal.main_arg0) = m ((c.tc : Thread Cert.ConvGateIdeal.nD Cert.ConvGateIdeal.τ).loc Cert.ConvGateIdeal.main_arg0)
      ∧ m' ((c.tc : Thread Cert.ConvGateRefIdeal.nD Cert.ConvGateRefIdeal.τ).loc Cert.ConvGateRefIdeal.main_arg1) = m ((c.tc : Thread Cert.ConvGateIdeal.nD Cert.ConvGateIdeal.τ).loc Cert.ConvGateIdeal.main_arg1)
      ∧ m' ((c.tc : Thread Cert.ConvGateRefIdeal.nD Cert.ConvGateRefIdeal.τ).loc Cert.ConvGateRefIdeal.main_arg2) = m ((c.tc : Thread Cert.ConvGateIdeal.nD Cert.ConvGateIdeal.τ).loc Cert.ConvGateIdeal.main_arg2)) →
    ∃ (v0 : (c : Dev Cert.ConvGateIdeal.nD) → Buf (Elt Ideal) ((c.tc : Thread Cert.ConvGateIdeal.nD Cert.ConvGateIdeal.τ).loc Cert.ConvGateIdeal.main_v0)),
      θ_run (Cert.ConvGateIdeal.defs (F := Ideal)) (onTc (τ := Cert.ConvGateIdeal.τ) (Cert.ConvGateIdeal.main (F := Ideal))) ⟨m, fun _ => 0, g⟩ (fun r => ∀ c : Dev Cert.ConvGateIdeal.nD,
          r.2.mem ((c.tc : Thread Cert.ConvGateIdeal.nD Cert.ConvGateIdeal.τ).loc Cert.ConvGateIdeal.main_v0) = v0 c
          ∧ r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
          ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
          ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ θ_run (Cert.ConvGateRefIdeal.defs (F := Ideal)) (onTc (τ := Cert.ConvGateRefIdeal.τ) (Cert.ConvGateRefIdeal.main (F := Ideal))) ⟨m', fun _ => 0, g'⟩ (fun r => ∀ c : Dev Cert.ConvGateRefIdeal.nD,
          r.2.mem ((c.tc : Thread Cert.ConvGateRefIdeal.nD Cert.ConvGateRefIdeal.τ).loc Cert.ConvGateRefIdeal.main_v30) = v0 c
          ∧ r.2.mem ((c.tc : Thread Cert.ConvGateRefIdeal.nD Cert.ConvGateRefIdeal.τ).loc Cert.ConvGateRefIdeal.main_arg0) = m' ((c.tc : Thread Cert.ConvGateRefIdeal.nD Cert.ConvGateRefIdeal.τ).loc Cert.ConvGateRefIdeal.main_arg0)
          ∧ r.2.mem ((c.tc : Thread Cert.ConvGateRefIdeal.nD Cert.ConvGateRefIdeal.τ).loc Cert.ConvGateRefIdeal.main_arg1) = m' ((c.tc : Thread Cert.ConvGateRefIdeal.nD Cert.ConvGateRefIdeal.τ).loc Cert.ConvGateRefIdeal.main_arg1)
          ∧ r.2.mem ((c.tc : Thread Cert.ConvGateRefIdeal.nD Cert.ConvGateRefIdeal.τ).loc Cert.ConvGateRefIdeal.main_arg2) = m' ((c.tc : Thread Cert.ConvGateRefIdeal.nD Cert.ConvGateRefIdeal.τ).loc Cert.ConvGateRefIdeal.main_arg2))

def preserves_ConvGateSample_ConvGateSampleIdeal : Prop :=
  True

def algebraic_ConvGateSampleIdeal_ConvGateSampleRefIdeal [hConvGateSampleIdeal : Cert.ConvGateSampleIdeal.Facts] [hConvGateSampleRefIdeal : Cert.ConvGateSampleRefIdeal.Facts] : Prop :=
  ∀ (m : (ℓ : Loc Cert.ConvGateSampleIdeal.nD Cert.ConvGateSampleIdeal.τ Cert.ConvGateSampleIdeal.sig) → Buf (Elt Ideal) ℓ) (g : Dev Cert.ConvGateSampleIdeal.nD → PrngReg)
    (m' : (ℓ : Loc Cert.ConvGateSampleRefIdeal.nD Cert.ConvGateSampleRefIdeal.τ Cert.ConvGateSampleRefIdeal.sig) → Buf (Elt Ideal) ℓ) (g' : Dev Cert.ConvGateSampleRefIdeal.nD → PrngReg), Pre_ConvGateSampleIdeal m →
    (∀ c : Dev Cert.ConvGateSampleIdeal.nD,
      m' ((c.tc : Thread Cert.ConvGateSampleRefIdeal.nD Cert.ConvGateSampleRefIdeal.τ).loc Cert.ConvGateSampleRefIdeal.main_arg0) = m ((c.tc : Thread Cert.ConvGateSampleIdeal.nD Cert.ConvGateSampleIdeal.τ).loc Cert.ConvGateSampleIdeal.main_arg0)
      ∧ m' ((c.tc : Thread Cert.ConvGateSampleRefIdeal.nD Cert.ConvGateSampleRefIdeal.τ).loc Cert.ConvGateSampleRefIdeal.main_arg1) = m ((c.tc : Thread Cert.ConvGateSampleIdeal.nD Cert.ConvGateSampleIdeal.τ).loc Cert.ConvGateSampleIdeal.main_arg1)
      ∧ m' ((c.tc : Thread Cert.ConvGateSampleRefIdeal.nD Cert.ConvGateSampleRefIdeal.τ).loc Cert.ConvGateSampleRefIdeal.main_arg2) = m ((c.tc : Thread Cert.ConvGateSampleIdeal.nD Cert.ConvGateSampleIdeal.τ).loc Cert.ConvGateSampleIdeal.main_arg2)
      ∧ m' ((c.tc : Thread Cert.ConvGateSampleRefIdeal.nD Cert.ConvGateSampleRefIdeal.τ).loc Cert.ConvGateSampleRefIdeal.main_arg3) = m ((c.tc : Thread Cert.ConvGateSampleIdeal.nD Cert.ConvGateSampleIdeal.τ).loc Cert.ConvGateSampleIdeal.main_arg3)) →
    ∃ (v0 : (c : Dev Cert.ConvGateSampleIdeal.nD) → Buf (Elt Ideal) ((c.tc : Thread Cert.ConvGateSampleIdeal.nD Cert.ConvGateSampleIdeal.τ).loc Cert.ConvGateSampleIdeal.main_v5)),
      θ_run (Cert.ConvGateSampleIdeal.defs (F := Ideal)) (onTc (τ := Cert.ConvGateSampleIdeal.τ) (Cert.ConvGateSampleIdeal.main (F := Ideal))) ⟨m, fun _ => 0, g⟩ (fun r => ∀ c : Dev Cert.ConvGateSampleIdeal.nD,
          r.2.mem ((c.tc : Thread Cert.ConvGateSampleIdeal.nD Cert.ConvGateSampleIdeal.τ).loc Cert.ConvGateSampleIdeal.main_v5) = v0 c
          ∧ r.2.mem ((c.tc : Thread Cert.ConvGateSampleIdeal.nD Cert.ConvGateSampleIdeal.τ).loc Cert.ConvGateSampleIdeal.main_arg0) = m ((c.tc : Thread Cert.ConvGateSampleIdeal.nD Cert.ConvGateSampleIdeal.τ).loc Cert.ConvGateSampleIdeal.main_arg0)
          ∧ r.2.mem ((c.tc : Thread Cert.ConvGateSampleIdeal.nD Cert.ConvGateSampleIdeal.τ).loc Cert.ConvGateSampleIdeal.main_arg1) = m ((c.tc : Thread Cert.ConvGateSampleIdeal.nD Cert.ConvGateSampleIdeal.τ).loc Cert.ConvGateSampleIdeal.main_arg1)
          ∧ r.2.mem ((c.tc : Thread Cert.ConvGateSampleIdeal.nD Cert.ConvGateSampleIdeal.τ).loc Cert.ConvGateSampleIdeal.main_arg2) = m ((c.tc : Thread Cert.ConvGateSampleIdeal.nD Cert.ConvGateSampleIdeal.τ).loc Cert.ConvGateSampleIdeal.main_arg2)
          ∧ r.2.mem ((c.tc : Thread Cert.ConvGateSampleIdeal.nD Cert.ConvGateSampleIdeal.τ).loc Cert.ConvGateSampleIdeal.main_arg3) = m ((c.tc : Thread Cert.ConvGateSampleIdeal.nD Cert.ConvGateSampleIdeal.τ).loc Cert.ConvGateSampleIdeal.main_arg3))
      ∧ θ_run (Cert.ConvGateSampleRefIdeal.defs (F := Ideal)) (onTc (τ := Cert.ConvGateSampleRefIdeal.τ) (Cert.ConvGateSampleRefIdeal.main (F := Ideal))) ⟨m', fun _ => 0, g'⟩ (fun r => ∀ c : Dev Cert.ConvGateSampleRefIdeal.nD,
          r.2.mem ((c.tc : Thread Cert.ConvGateSampleRefIdeal.nD Cert.ConvGateSampleRefIdeal.τ).loc Cert.ConvGateSampleRefIdeal.main_v26) = v0 c
          ∧ r.2.mem ((c.tc : Thread Cert.ConvGateSampleRefIdeal.nD Cert.ConvGateSampleRefIdeal.τ).loc Cert.ConvGateSampleRefIdeal.main_arg0) = m' ((c.tc : Thread Cert.ConvGateSampleRefIdeal.nD Cert.ConvGateSampleRefIdeal.τ).loc Cert.ConvGateSampleRefIdeal.main_arg0)
          ∧ r.2.mem ((c.tc : Thread Cert.ConvGateSampleRefIdeal.nD Cert.ConvGateSampleRefIdeal.τ).loc Cert.ConvGateSampleRefIdeal.main_arg1) = m' ((c.tc : Thread Cert.ConvGateSampleRefIdeal.nD Cert.ConvGateSampleRefIdeal.τ).loc Cert.ConvGateSampleRefIdeal.main_arg1)
          ∧ r.2.mem ((c.tc : Thread Cert.ConvGateSampleRefIdeal.nD Cert.ConvGateSampleRefIdeal.τ).loc Cert.ConvGateSampleRefIdeal.main_arg2) = m' ((c.tc : Thread Cert.ConvGateSampleRefIdeal.nD Cert.ConvGateSampleRefIdeal.τ).loc Cert.ConvGateSampleRefIdeal.main_arg2)
          ∧ r.2.mem ((c.tc : Thread Cert.ConvGateSampleRefIdeal.nD Cert.ConvGateSampleRefIdeal.τ).loc Cert.ConvGateSampleRefIdeal.main_arg3) = m' ((c.tc : Thread Cert.ConvGateSampleRefIdeal.nD Cert.ConvGateSampleRefIdeal.τ).loc Cert.ConvGateSampleRefIdeal.main_arg3))

def preserves_ConvProjSample_ConvProjSampleIdeal : Prop :=
  True

def algebraic_ConvProjSampleIdeal_ConvProjSampleRefIdeal [hConvProjSampleIdeal : Cert.ConvProjSampleIdeal.Facts] [hConvProjSampleRefIdeal : Cert.ConvProjSampleRefIdeal.Facts] : Prop :=
  ∀ (m : (ℓ : Loc Cert.ConvProjSampleIdeal.nD Cert.ConvProjSampleIdeal.τ Cert.ConvProjSampleIdeal.sig) → Buf (Elt Ideal) ℓ) (g : Dev Cert.ConvProjSampleIdeal.nD → PrngReg)
    (m' : (ℓ : Loc Cert.ConvProjSampleRefIdeal.nD Cert.ConvProjSampleRefIdeal.τ Cert.ConvProjSampleRefIdeal.sig) → Buf (Elt Ideal) ℓ) (g' : Dev Cert.ConvProjSampleRefIdeal.nD → PrngReg), Pre_ConvProjSampleIdeal m →
    (∀ c : Dev Cert.ConvProjSampleIdeal.nD,
      m' ((c.tc : Thread Cert.ConvProjSampleRefIdeal.nD Cert.ConvProjSampleRefIdeal.τ).loc Cert.ConvProjSampleRefIdeal.main_arg0) = m ((c.tc : Thread Cert.ConvProjSampleIdeal.nD Cert.ConvProjSampleIdeal.τ).loc Cert.ConvProjSampleIdeal.main_arg0)
      ∧ m' ((c.tc : Thread Cert.ConvProjSampleRefIdeal.nD Cert.ConvProjSampleRefIdeal.τ).loc Cert.ConvProjSampleRefIdeal.main_arg1) = m ((c.tc : Thread Cert.ConvProjSampleIdeal.nD Cert.ConvProjSampleIdeal.τ).loc Cert.ConvProjSampleIdeal.main_arg1)
      ∧ m' ((c.tc : Thread Cert.ConvProjSampleRefIdeal.nD Cert.ConvProjSampleRefIdeal.τ).loc Cert.ConvProjSampleRefIdeal.main_arg2) = m ((c.tc : Thread Cert.ConvProjSampleIdeal.nD Cert.ConvProjSampleIdeal.τ).loc Cert.ConvProjSampleIdeal.main_arg2)) →
    ∃ (v0 : (c : Dev Cert.ConvProjSampleIdeal.nD) → Buf (Elt Ideal) ((c.tc : Thread Cert.ConvProjSampleIdeal.nD Cert.ConvProjSampleIdeal.τ).loc Cert.ConvProjSampleIdeal.main_v7_0)) (v1 : (c : Dev Cert.ConvProjSampleIdeal.nD) → Buf (Elt Ideal) ((c.tc : Thread Cert.ConvProjSampleIdeal.nD Cert.ConvProjSampleIdeal.τ).loc Cert.ConvProjSampleIdeal.main_v7_1)),
      θ_run (Cert.ConvProjSampleIdeal.defs (F := Ideal)) (onTc (τ := Cert.ConvProjSampleIdeal.τ) (Cert.ConvProjSampleIdeal.main (F := Ideal))) ⟨m, fun _ => 0, g⟩ (fun r => ∀ c : Dev Cert.ConvProjSampleIdeal.nD,
          r.2.mem ((c.tc : Thread Cert.ConvProjSampleIdeal.nD Cert.ConvProjSampleIdeal.τ).loc Cert.ConvProjSampleIdeal.main_v7_0) = v0 c
          ∧ r.2.mem ((c.tc : Thread Cert.ConvProjSampleIdeal.nD Cert.ConvProjSampleIdeal.τ).loc Cert.ConvProjSampleIdeal.main_v7_1) = v1 c
          ∧ r.2.mem ((c.tc : Thread Cert.ConvProjSampleIdeal.nD Cert.ConvProjSampleIdeal.τ).loc Cert.ConvProjSampleIdeal.main_arg0) = m ((c.tc : Thread Cert.ConvProjSampleIdeal.nD Cert.ConvProjSampleIdeal.τ).loc Cert.ConvProjSampleIdeal.main_arg0)
          ∧ r.2.mem ((c.tc : Thread Cert.ConvProjSampleIdeal.nD Cert.ConvProjSampleIdeal.τ).loc Cert.ConvProjSampleIdeal.main_arg1) = m ((c.tc : Thread Cert.ConvProjSampleIdeal.nD Cert.ConvProjSampleIdeal.τ).loc Cert.ConvProjSampleIdeal.main_arg1)
          ∧ r.2.mem ((c.tc : Thread Cert.ConvProjSampleIdeal.nD Cert.ConvProjSampleIdeal.τ).loc Cert.ConvProjSampleIdeal.main_arg2) = m ((c.tc : Thread Cert.ConvProjSampleIdeal.nD Cert.ConvProjSampleIdeal.τ).loc Cert.ConvProjSampleIdeal.main_arg2))
      ∧ θ_run (Cert.ConvProjSampleRefIdeal.defs (F := Ideal)) (onTc (τ := Cert.ConvProjSampleRefIdeal.τ) (Cert.ConvProjSampleRefIdeal.main (F := Ideal))) ⟨m', fun _ => 0, g'⟩ (fun r => ∀ c : Dev Cert.ConvProjSampleRefIdeal.nD,
          r.2.mem ((c.tc : Thread Cert.ConvProjSampleRefIdeal.nD Cert.ConvProjSampleRefIdeal.τ).loc Cert.ConvProjSampleRefIdeal.main_v17) = v0 c
          ∧ r.2.mem ((c.tc : Thread Cert.ConvProjSampleRefIdeal.nD Cert.ConvProjSampleRefIdeal.τ).loc Cert.ConvProjSampleRefIdeal.main_v18) = v1 c
          ∧ r.2.mem ((c.tc : Thread Cert.ConvProjSampleRefIdeal.nD Cert.ConvProjSampleRefIdeal.τ).loc Cert.ConvProjSampleRefIdeal.main_arg0) = m' ((c.tc : Thread Cert.ConvProjSampleRefIdeal.nD Cert.ConvProjSampleRefIdeal.τ).loc Cert.ConvProjSampleRefIdeal.main_arg0)
          ∧ r.2.mem ((c.tc : Thread Cert.ConvProjSampleRefIdeal.nD Cert.ConvProjSampleRefIdeal.τ).loc Cert.ConvProjSampleRefIdeal.main_arg1) = m' ((c.tc : Thread Cert.ConvProjSampleRefIdeal.nD Cert.ConvProjSampleRefIdeal.τ).loc Cert.ConvProjSampleRefIdeal.main_arg1)
          ∧ r.2.mem ((c.tc : Thread Cert.ConvProjSampleRefIdeal.nD Cert.ConvProjSampleRefIdeal.τ).loc Cert.ConvProjSampleRefIdeal.main_arg2) = m' ((c.tc : Thread Cert.ConvProjSampleRefIdeal.nD Cert.ConvProjSampleRefIdeal.τ).loc Cert.ConvProjSampleRefIdeal.main_arg2))

def preserves_AttnProjSample_AttnProjSampleIdeal : Prop :=
  True

def algebraic_AttnProjSampleIdeal_AttnProjSampleRefIdeal [hAttnProjSampleIdeal : Cert.AttnProjSampleIdeal.Facts] [hAttnProjSampleRefIdeal : Cert.AttnProjSampleRefIdeal.Facts] : Prop :=
  ∀ (m : (ℓ : Loc Cert.AttnProjSampleIdeal.nD Cert.AttnProjSampleIdeal.τ Cert.AttnProjSampleIdeal.sig) → Buf (Elt Ideal) ℓ) (g : Dev Cert.AttnProjSampleIdeal.nD → PrngReg)
    (m' : (ℓ : Loc Cert.AttnProjSampleRefIdeal.nD Cert.AttnProjSampleRefIdeal.τ Cert.AttnProjSampleRefIdeal.sig) → Buf (Elt Ideal) ℓ) (g' : Dev Cert.AttnProjSampleRefIdeal.nD → PrngReg), Pre_AttnProjSampleIdeal m →
    (∀ c : Dev Cert.AttnProjSampleIdeal.nD,
      m' ((c.tc : Thread Cert.AttnProjSampleRefIdeal.nD Cert.AttnProjSampleRefIdeal.τ).loc Cert.AttnProjSampleRefIdeal.main_arg0) = m ((c.tc : Thread Cert.AttnProjSampleIdeal.nD Cert.AttnProjSampleIdeal.τ).loc Cert.AttnProjSampleIdeal.main_arg0)
      ∧ m' ((c.tc : Thread Cert.AttnProjSampleRefIdeal.nD Cert.AttnProjSampleRefIdeal.τ).loc Cert.AttnProjSampleRefIdeal.main_arg1) = m ((c.tc : Thread Cert.AttnProjSampleIdeal.nD Cert.AttnProjSampleIdeal.τ).loc Cert.AttnProjSampleIdeal.main_arg1)
      ∧ m' ((c.tc : Thread Cert.AttnProjSampleRefIdeal.nD Cert.AttnProjSampleRefIdeal.τ).loc Cert.AttnProjSampleRefIdeal.main_arg2) = m ((c.tc : Thread Cert.AttnProjSampleIdeal.nD Cert.AttnProjSampleIdeal.τ).loc Cert.AttnProjSampleIdeal.main_arg2)
      ∧ m' ((c.tc : Thread Cert.AttnProjSampleRefIdeal.nD Cert.AttnProjSampleRefIdeal.τ).loc Cert.AttnProjSampleRefIdeal.main_arg3) = m ((c.tc : Thread Cert.AttnProjSampleIdeal.nD Cert.AttnProjSampleIdeal.τ).loc Cert.AttnProjSampleIdeal.main_arg3)) →
    ∃ (v0 : (c : Dev Cert.AttnProjSampleIdeal.nD) → Buf (Elt Ideal) ((c.tc : Thread Cert.AttnProjSampleIdeal.nD Cert.AttnProjSampleIdeal.τ).loc Cert.AttnProjSampleIdeal.main_v14_0)) (v1 : (c : Dev Cert.AttnProjSampleIdeal.nD) → Buf (Elt Ideal) ((c.tc : Thread Cert.AttnProjSampleIdeal.nD Cert.AttnProjSampleIdeal.τ).loc Cert.AttnProjSampleIdeal.main_v14_1)) (v2 : (c : Dev Cert.AttnProjSampleIdeal.nD) → Buf (Elt Ideal) ((c.tc : Thread Cert.AttnProjSampleIdeal.nD Cert.AttnProjSampleIdeal.τ).loc Cert.AttnProjSampleIdeal.main_v14_2)) (v3 : (c : Dev Cert.AttnProjSampleIdeal.nD) → Buf (Elt Ideal) ((c.tc : Thread Cert.AttnProjSampleIdeal.nD Cert.AttnProjSampleIdeal.τ).loc Cert.AttnProjSampleIdeal.main_v14_3)) (v4 : (c : Dev Cert.AttnProjSampleIdeal.nD) → Buf (Elt Ideal) ((c.tc : Thread Cert.AttnProjSampleIdeal.nD Cert.AttnProjSampleIdeal.τ).loc Cert.AttnProjSampleIdeal.main_v14_4)) (v5 : (c : Dev Cert.AttnProjSampleIdeal.nD) → Buf (Elt Ideal) ((c.tc : Thread Cert.AttnProjSampleIdeal.nD Cert.AttnProjSampleIdeal.τ).loc Cert.AttnProjSampleIdeal.main_v14_5)) (v6 : (c : Dev Cert.AttnProjSampleIdeal.nD) → Buf (Elt Ideal) ((c.tc : Thread Cert.AttnProjSampleIdeal.nD Cert.AttnProjSampleIdeal.τ).loc Cert.AttnProjSampleIdeal.main_v14_6)),
      θ_run (Cert.AttnProjSampleIdeal.defs (F := Ideal)) (onTc (τ := Cert.AttnProjSampleIdeal.τ) (Cert.AttnProjSampleIdeal.main (F := Ideal))) ⟨m, fun _ => 0, g⟩ (fun r => ∀ c : Dev Cert.AttnProjSampleIdeal.nD,
          r.2.mem ((c.tc : Thread Cert.AttnProjSampleIdeal.nD Cert.AttnProjSampleIdeal.τ).loc Cert.AttnProjSampleIdeal.main_v14_0) = v0 c
          ∧ r.2.mem ((c.tc : Thread Cert.AttnProjSampleIdeal.nD Cert.AttnProjSampleIdeal.τ).loc Cert.AttnProjSampleIdeal.main_v14_1) = v1 c
          ∧ r.2.mem ((c.tc : Thread Cert.AttnProjSampleIdeal.nD Cert.AttnProjSampleIdeal.τ).loc Cert.AttnProjSampleIdeal.main_v14_2) = v2 c
          ∧ r.2.mem ((c.tc : Thread Cert.AttnProjSampleIdeal.nD Cert.AttnProjSampleIdeal.τ).loc Cert.AttnProjSampleIdeal.main_v14_3) = v3 c
          ∧ r.2.mem ((c.tc : Thread Cert.AttnProjSampleIdeal.nD Cert.AttnProjSampleIdeal.τ).loc Cert.AttnProjSampleIdeal.main_v14_4) = v4 c
          ∧ r.2.mem ((c.tc : Thread Cert.AttnProjSampleIdeal.nD Cert.AttnProjSampleIdeal.τ).loc Cert.AttnProjSampleIdeal.main_v14_5) = v5 c
          ∧ r.2.mem ((c.tc : Thread Cert.AttnProjSampleIdeal.nD Cert.AttnProjSampleIdeal.τ).loc Cert.AttnProjSampleIdeal.main_v14_6) = v6 c
          ∧ r.2.mem ((c.tc : Thread Cert.AttnProjSampleIdeal.nD Cert.AttnProjSampleIdeal.τ).loc Cert.AttnProjSampleIdeal.main_arg0) = m ((c.tc : Thread Cert.AttnProjSampleIdeal.nD Cert.AttnProjSampleIdeal.τ).loc Cert.AttnProjSampleIdeal.main_arg0)
          ∧ r.2.mem ((c.tc : Thread Cert.AttnProjSampleIdeal.nD Cert.AttnProjSampleIdeal.τ).loc Cert.AttnProjSampleIdeal.main_arg1) = m ((c.tc : Thread Cert.AttnProjSampleIdeal.nD Cert.AttnProjSampleIdeal.τ).loc Cert.AttnProjSampleIdeal.main_arg1)
          ∧ r.2.mem ((c.tc : Thread Cert.AttnProjSampleIdeal.nD Cert.AttnProjSampleIdeal.τ).loc Cert.AttnProjSampleIdeal.main_arg2) = m ((c.tc : Thread Cert.AttnProjSampleIdeal.nD Cert.AttnProjSampleIdeal.τ).loc Cert.AttnProjSampleIdeal.main_arg2)
          ∧ r.2.mem ((c.tc : Thread Cert.AttnProjSampleIdeal.nD Cert.AttnProjSampleIdeal.τ).loc Cert.AttnProjSampleIdeal.main_arg3) = m ((c.tc : Thread Cert.AttnProjSampleIdeal.nD Cert.AttnProjSampleIdeal.τ).loc Cert.AttnProjSampleIdeal.main_arg3))
      ∧ θ_run (Cert.AttnProjSampleRefIdeal.defs (F := Ideal)) (onTc (τ := Cert.AttnProjSampleRefIdeal.τ) (Cert.AttnProjSampleRefIdeal.main (F := Ideal))) ⟨m', fun _ => 0, g'⟩ (fun r => ∀ c : Dev Cert.AttnProjSampleRefIdeal.nD,
          r.2.mem ((c.tc : Thread Cert.AttnProjSampleRefIdeal.nD Cert.AttnProjSampleRefIdeal.τ).loc Cert.AttnProjSampleRefIdeal.main_v24) = v0 c
          ∧ r.2.mem ((c.tc : Thread Cert.AttnProjSampleRefIdeal.nD Cert.AttnProjSampleRefIdeal.τ).loc Cert.AttnProjSampleRefIdeal.main_v15) = v1 c
          ∧ r.2.mem ((c.tc : Thread Cert.AttnProjSampleRefIdeal.nD Cert.AttnProjSampleRefIdeal.τ).loc Cert.AttnProjSampleRefIdeal.main_v16) = v2 c
          ∧ r.2.mem ((c.tc : Thread Cert.AttnProjSampleRefIdeal.nD Cert.AttnProjSampleRefIdeal.τ).loc Cert.AttnProjSampleRefIdeal.main_v25) = v3 c
          ∧ r.2.mem ((c.tc : Thread Cert.AttnProjSampleRefIdeal.nD Cert.AttnProjSampleRefIdeal.τ).loc Cert.AttnProjSampleRefIdeal.main_v26) = v4 c
          ∧ r.2.mem ((c.tc : Thread Cert.AttnProjSampleRefIdeal.nD Cert.AttnProjSampleRefIdeal.τ).loc Cert.AttnProjSampleRefIdeal.main_v21) = v5 c
          ∧ r.2.mem ((c.tc : Thread Cert.AttnProjSampleRefIdeal.nD Cert.AttnProjSampleRefIdeal.τ).loc Cert.AttnProjSampleRefIdeal.main_v27) = v6 c
          ∧ r.2.mem ((c.tc : Thread Cert.AttnProjSampleRefIdeal.nD Cert.AttnProjSampleRefIdeal.τ).loc Cert.AttnProjSampleRefIdeal.main_arg0) = m' ((c.tc : Thread Cert.AttnProjSampleRefIdeal.nD Cert.AttnProjSampleRefIdeal.τ).loc Cert.AttnProjSampleRefIdeal.main_arg0)
          ∧ r.2.mem ((c.tc : Thread Cert.AttnProjSampleRefIdeal.nD Cert.AttnProjSampleRefIdeal.τ).loc Cert.AttnProjSampleRefIdeal.main_arg1) = m' ((c.tc : Thread Cert.AttnProjSampleRefIdeal.nD Cert.AttnProjSampleRefIdeal.τ).loc Cert.AttnProjSampleRefIdeal.main_arg1)
          ∧ r.2.mem ((c.tc : Thread Cert.AttnProjSampleRefIdeal.nD Cert.AttnProjSampleRefIdeal.τ).loc Cert.AttnProjSampleRefIdeal.main_arg2) = m' ((c.tc : Thread Cert.AttnProjSampleRefIdeal.nD Cert.AttnProjSampleRefIdeal.τ).loc Cert.AttnProjSampleRefIdeal.main_arg2)
          ∧ r.2.mem ((c.tc : Thread Cert.AttnProjSampleRefIdeal.nD Cert.AttnProjSampleRefIdeal.τ).loc Cert.AttnProjSampleRefIdeal.main_arg3) = m' ((c.tc : Thread Cert.AttnProjSampleRefIdeal.nD Cert.AttnProjSampleRefIdeal.τ).loc Cert.AttnProjSampleRefIdeal.main_arg3))

def preserves_FfnMixSample_FfnMixSampleIdeal : Prop :=
  True

def algebraic_FfnMixSampleIdeal_FfnMixSampleRefIdeal [hFfnMixSampleIdeal : Cert.FfnMixSampleIdeal.Facts] [hFfnMixSampleRefIdeal : Cert.FfnMixSampleRefIdeal.Facts] : Prop :=
  ∀ (m : (ℓ : Loc Cert.FfnMixSampleIdeal.nD Cert.FfnMixSampleIdeal.τ Cert.FfnMixSampleIdeal.sig) → Buf (Elt Ideal) ℓ) (g : Dev Cert.FfnMixSampleIdeal.nD → PrngReg)
    (m' : (ℓ : Loc Cert.FfnMixSampleRefIdeal.nD Cert.FfnMixSampleRefIdeal.τ Cert.FfnMixSampleRefIdeal.sig) → Buf (Elt Ideal) ℓ) (g' : Dev Cert.FfnMixSampleRefIdeal.nD → PrngReg), Pre_FfnMixSampleIdeal m →
    (∀ c : Dev Cert.FfnMixSampleIdeal.nD,
      m' ((c.tc : Thread Cert.FfnMixSampleRefIdeal.nD Cert.FfnMixSampleRefIdeal.τ).loc Cert.FfnMixSampleRefIdeal.main_arg0) = m ((c.tc : Thread Cert.FfnMixSampleIdeal.nD Cert.FfnMixSampleIdeal.τ).loc Cert.FfnMixSampleIdeal.main_arg0)
      ∧ m' ((c.tc : Thread Cert.FfnMixSampleRefIdeal.nD Cert.FfnMixSampleRefIdeal.τ).loc Cert.FfnMixSampleRefIdeal.main_arg1) = m ((c.tc : Thread Cert.FfnMixSampleIdeal.nD Cert.FfnMixSampleIdeal.τ).loc Cert.FfnMixSampleIdeal.main_arg1)
      ∧ m' ((c.tc : Thread Cert.FfnMixSampleRefIdeal.nD Cert.FfnMixSampleRefIdeal.τ).loc Cert.FfnMixSampleRefIdeal.main_arg2) = m ((c.tc : Thread Cert.FfnMixSampleIdeal.nD Cert.FfnMixSampleIdeal.τ).loc Cert.FfnMixSampleIdeal.main_arg2)
      ∧ m' ((c.tc : Thread Cert.FfnMixSampleRefIdeal.nD Cert.FfnMixSampleRefIdeal.τ).loc Cert.FfnMixSampleRefIdeal.main_arg3) = m ((c.tc : Thread Cert.FfnMixSampleIdeal.nD Cert.FfnMixSampleIdeal.τ).loc Cert.FfnMixSampleIdeal.main_arg3)
      ∧ m' ((c.tc : Thread Cert.FfnMixSampleRefIdeal.nD Cert.FfnMixSampleRefIdeal.τ).loc Cert.FfnMixSampleRefIdeal.main_arg4) = m ((c.tc : Thread Cert.FfnMixSampleIdeal.nD Cert.FfnMixSampleIdeal.τ).loc Cert.FfnMixSampleIdeal.main_arg4)
      ∧ m' ((c.tc : Thread Cert.FfnMixSampleRefIdeal.nD Cert.FfnMixSampleRefIdeal.τ).loc Cert.FfnMixSampleRefIdeal.main_arg5) = m ((c.tc : Thread Cert.FfnMixSampleIdeal.nD Cert.FfnMixSampleIdeal.τ).loc Cert.FfnMixSampleIdeal.main_arg5)
      ∧ m' ((c.tc : Thread Cert.FfnMixSampleRefIdeal.nD Cert.FfnMixSampleRefIdeal.τ).loc Cert.FfnMixSampleRefIdeal.main_arg6) = m ((c.tc : Thread Cert.FfnMixSampleIdeal.nD Cert.FfnMixSampleIdeal.τ).loc Cert.FfnMixSampleIdeal.main_arg6)
      ∧ m' ((c.tc : Thread Cert.FfnMixSampleRefIdeal.nD Cert.FfnMixSampleRefIdeal.τ).loc Cert.FfnMixSampleRefIdeal.main_arg7) = m ((c.tc : Thread Cert.FfnMixSampleIdeal.nD Cert.FfnMixSampleIdeal.τ).loc Cert.FfnMixSampleIdeal.main_arg7)
      ∧ m' ((c.tc : Thread Cert.FfnMixSampleRefIdeal.nD Cert.FfnMixSampleRefIdeal.τ).loc Cert.FfnMixSampleRefIdeal.main_arg8) = m ((c.tc : Thread Cert.FfnMixSampleIdeal.nD Cert.FfnMixSampleIdeal.τ).loc Cert.FfnMixSampleIdeal.main_arg8)) →
    ∃ (v0 : (c : Dev Cert.FfnMixSampleIdeal.nD) → Buf (Elt Ideal) ((c.tc : Thread Cert.FfnMixSampleIdeal.nD Cert.FfnMixSampleIdeal.τ).loc Cert.FfnMixSampleIdeal.main_v7)),
      θ_run (Cert.FfnMixSampleIdeal.defs (F := Ideal)) (onTc (τ := Cert.FfnMixSampleIdeal.τ) (Cert.FfnMixSampleIdeal.main (F := Ideal))) ⟨m, fun _ => 0, g⟩ (fun r => ∀ c : Dev Cert.FfnMixSampleIdeal.nD,
          r.2.mem ((c.tc : Thread Cert.FfnMixSampleIdeal.nD Cert.FfnMixSampleIdeal.τ).loc Cert.FfnMixSampleIdeal.main_v7) = v0 c
          ∧ r.2.mem ((c.tc : Thread Cert.FfnMixSampleIdeal.nD Cert.FfnMixSampleIdeal.τ).loc Cert.FfnMixSampleIdeal.main_arg0) = m ((c.tc : Thread Cert.FfnMixSampleIdeal.nD Cert.FfnMixSampleIdeal.τ).loc Cert.FfnMixSampleIdeal.main_arg0)
          ∧ r.2.mem ((c.tc : Thread Cert.FfnMixSampleIdeal.nD Cert.FfnMixSampleIdeal.τ).loc Cert.FfnMixSampleIdeal.main_arg1) = m ((c.tc : Thread Cert.FfnMixSampleIdeal.nD Cert.FfnMixSampleIdeal.τ).loc Cert.FfnMixSampleIdeal.main_arg1)
          ∧ r.2.mem ((c.tc : Thread Cert.FfnMixSampleIdeal.nD Cert.FfnMixSampleIdeal.τ).loc Cert.FfnMixSampleIdeal.main_arg2) = m ((c.tc : Thread Cert.FfnMixSampleIdeal.nD Cert.FfnMixSampleIdeal.τ).loc Cert.FfnMixSampleIdeal.main_arg2)
          ∧ r.2.mem ((c.tc : Thread Cert.FfnMixSampleIdeal.nD Cert.FfnMixSampleIdeal.τ).loc Cert.FfnMixSampleIdeal.main_arg3) = m ((c.tc : Thread Cert.FfnMixSampleIdeal.nD Cert.FfnMixSampleIdeal.τ).loc Cert.FfnMixSampleIdeal.main_arg3)
          ∧ r.2.mem ((c.tc : Thread Cert.FfnMixSampleIdeal.nD Cert.FfnMixSampleIdeal.τ).loc Cert.FfnMixSampleIdeal.main_arg4) = m ((c.tc : Thread Cert.FfnMixSampleIdeal.nD Cert.FfnMixSampleIdeal.τ).loc Cert.FfnMixSampleIdeal.main_arg4)
          ∧ r.2.mem ((c.tc : Thread Cert.FfnMixSampleIdeal.nD Cert.FfnMixSampleIdeal.τ).loc Cert.FfnMixSampleIdeal.main_arg5) = m ((c.tc : Thread Cert.FfnMixSampleIdeal.nD Cert.FfnMixSampleIdeal.τ).loc Cert.FfnMixSampleIdeal.main_arg5)
          ∧ r.2.mem ((c.tc : Thread Cert.FfnMixSampleIdeal.nD Cert.FfnMixSampleIdeal.τ).loc Cert.FfnMixSampleIdeal.main_arg6) = m ((c.tc : Thread Cert.FfnMixSampleIdeal.nD Cert.FfnMixSampleIdeal.τ).loc Cert.FfnMixSampleIdeal.main_arg6)
          ∧ r.2.mem ((c.tc : Thread Cert.FfnMixSampleIdeal.nD Cert.FfnMixSampleIdeal.τ).loc Cert.FfnMixSampleIdeal.main_arg7) = m ((c.tc : Thread Cert.FfnMixSampleIdeal.nD Cert.FfnMixSampleIdeal.τ).loc Cert.FfnMixSampleIdeal.main_arg7)
          ∧ r.2.mem ((c.tc : Thread Cert.FfnMixSampleIdeal.nD Cert.FfnMixSampleIdeal.τ).loc Cert.FfnMixSampleIdeal.main_arg8) = m ((c.tc : Thread Cert.FfnMixSampleIdeal.nD Cert.FfnMixSampleIdeal.τ).loc Cert.FfnMixSampleIdeal.main_arg8))
      ∧ θ_run (Cert.FfnMixSampleRefIdeal.defs (F := Ideal)) (onTc (τ := Cert.FfnMixSampleRefIdeal.τ) (Cert.FfnMixSampleRefIdeal.main (F := Ideal))) ⟨m', fun _ => 0, g'⟩ (fun r => ∀ c : Dev Cert.FfnMixSampleRefIdeal.nD,
          r.2.mem ((c.tc : Thread Cert.FfnMixSampleRefIdeal.nD Cert.FfnMixSampleRefIdeal.τ).loc Cert.FfnMixSampleRefIdeal.main_v49) = v0 c
          ∧ r.2.mem ((c.tc : Thread Cert.FfnMixSampleRefIdeal.nD Cert.FfnMixSampleRefIdeal.τ).loc Cert.FfnMixSampleRefIdeal.main_arg0) = m' ((c.tc : Thread Cert.FfnMixSampleRefIdeal.nD Cert.FfnMixSampleRefIdeal.τ).loc Cert.FfnMixSampleRefIdeal.main_arg0)
          ∧ r.2.mem ((c.tc : Thread Cert.FfnMixSampleRefIdeal.nD Cert.FfnMixSampleRefIdeal.τ).loc Cert.FfnMixSampleRefIdeal.main_arg1) = m' ((c.tc : Thread Cert.FfnMixSampleRefIdeal.nD Cert.FfnMixSampleRefIdeal.τ).loc Cert.FfnMixSampleRefIdeal.main_arg1)
          ∧ r.2.mem ((c.tc : Thread Cert.FfnMixSampleRefIdeal.nD Cert.FfnMixSampleRefIdeal.τ).loc Cert.FfnMixSampleRefIdeal.main_arg2) = m' ((c.tc : Thread Cert.FfnMixSampleRefIdeal.nD Cert.FfnMixSampleRefIdeal.τ).loc Cert.FfnMixSampleRefIdeal.main_arg2)
          ∧ r.2.mem ((c.tc : Thread Cert.FfnMixSampleRefIdeal.nD Cert.FfnMixSampleRefIdeal.τ).loc Cert.FfnMixSampleRefIdeal.main_arg3) = m' ((c.tc : Thread Cert.FfnMixSampleRefIdeal.nD Cert.FfnMixSampleRefIdeal.τ).loc Cert.FfnMixSampleRefIdeal.main_arg3)
          ∧ r.2.mem ((c.tc : Thread Cert.FfnMixSampleRefIdeal.nD Cert.FfnMixSampleRefIdeal.τ).loc Cert.FfnMixSampleRefIdeal.main_arg4) = m' ((c.tc : Thread Cert.FfnMixSampleRefIdeal.nD Cert.FfnMixSampleRefIdeal.τ).loc Cert.FfnMixSampleRefIdeal.main_arg4)
          ∧ r.2.mem ((c.tc : Thread Cert.FfnMixSampleRefIdeal.nD Cert.FfnMixSampleRefIdeal.τ).loc Cert.FfnMixSampleRefIdeal.main_arg5) = m' ((c.tc : Thread Cert.FfnMixSampleRefIdeal.nD Cert.FfnMixSampleRefIdeal.τ).loc Cert.FfnMixSampleRefIdeal.main_arg5)
          ∧ r.2.mem ((c.tc : Thread Cert.FfnMixSampleRefIdeal.nD Cert.FfnMixSampleRefIdeal.τ).loc Cert.FfnMixSampleRefIdeal.main_arg6) = m' ((c.tc : Thread Cert.FfnMixSampleRefIdeal.nD Cert.FfnMixSampleRefIdeal.τ).loc Cert.FfnMixSampleRefIdeal.main_arg6)
          ∧ r.2.mem ((c.tc : Thread Cert.FfnMixSampleRefIdeal.nD Cert.FfnMixSampleRefIdeal.τ).loc Cert.FfnMixSampleRefIdeal.main_arg7) = m' ((c.tc : Thread Cert.FfnMixSampleRefIdeal.nD Cert.FfnMixSampleRefIdeal.τ).loc Cert.FfnMixSampleRefIdeal.main_arg7)
          ∧ r.2.mem ((c.tc : Thread Cert.FfnMixSampleRefIdeal.nD Cert.FfnMixSampleRefIdeal.τ).loc Cert.FfnMixSampleRefIdeal.main_arg8) = m' ((c.tc : Thread Cert.FfnMixSampleRefIdeal.nD Cert.FfnMixSampleRefIdeal.τ).loc Cert.FfnMixSampleRefIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnMix : Cert.FfnMix.Facts) (hFfnMixIdeal : Cert.FfnMixIdeal.Facts) (hFfnMixRefIdeal : Cert.FfnMixRefIdeal.Facts) (hAttnProj : Cert.AttnProj.Facts) (hAttnProjIdeal : Cert.AttnProjIdeal.Facts) (hAttnProjRefIdeal : Cert.AttnProjRefIdeal.Facts) (hKeyBias : Cert.KeyBias.Facts) (hKeyBiasIdeal : Cert.KeyBiasIdeal.Facts) (hKeyBiasRefIdeal : Cert.KeyBiasRefIdeal.Facts) (hConvProj : Cert.ConvProj.Facts) (hConvProjIdeal : Cert.ConvProjIdeal.Facts) (hConvProjRefIdeal : Cert.ConvProjRefIdeal.Facts) (hConvGate : Cert.ConvGate.Facts) (hConvGateIdeal : Cert.ConvGateIdeal.Facts) (hConvGateRefIdeal : Cert.ConvGateRefIdeal.Facts) (hConvGateSample : Cert.ConvGateSample.Facts) (hConvGateSampleIdeal : Cert.ConvGateSampleIdeal.Facts) (hConvGateSampleRefIdeal : Cert.ConvGateSampleRefIdeal.Facts) (hConvProjSample : Cert.ConvProjSample.Facts) (hConvProjSampleIdeal : Cert.ConvProjSampleIdeal.Facts) (hConvProjSampleRefIdeal : Cert.ConvProjSampleRefIdeal.Facts) (hAttnProjSample : Cert.AttnProjSample.Facts) (hAttnProjSampleIdeal : Cert.AttnProjSampleIdeal.Facts) (hAttnProjSampleRefIdeal : Cert.AttnProjSampleRefIdeal.Facts) (hFfnMixSample : Cert.FfnMixSample.Facts) (hFfnMixSampleIdeal : Cert.FfnMixSampleIdeal.Facts) (hFfnMixSampleRefIdeal : Cert.FfnMixSampleRefIdeal.Facts) (hPre_gates_masked : Cert.Pre_gates_masked.Facts) (hPre_padding_empty : Cert.Pre_padding_empty.Facts),
    quiescent_Kernel (hKernel := hKernel)
    ∧ quiescent_KernelIdeal (hKernelIdeal := hKernelIdeal)
    ∧ quiescent_KernelIdeal_pre_gates_masked (hKernelIdeal := hKernelIdeal) (hPre_gates_masked := hPre_gates_masked)
    ∧ quiescent_ReferenceIdeal (hReferenceIdeal := hReferenceIdeal)
    ∧ quiescent_ReferenceIdeal_pre_gates_masked (hReferenceIdeal := hReferenceIdeal) (hPre_gates_masked := hPre_gates_masked)
    ∧ quiescent_Ffn (hFfn := hFfn)
    ∧ quiescent_FfnIdeal (hFfnIdeal := hFfnIdeal)
    ∧ quiescent_FfnRefIdeal (hFfnRefIdeal := hFfnRefIdeal)
    ∧ quiescent_FfnMix (hFfnMix := hFfnMix)
    ∧ quiescent_FfnMixIdeal (hFfnMixIdeal := hFfnMixIdeal)
    ∧ quiescent_FfnMixRefIdeal (hFfnMixRefIdeal := hFfnMixRefIdeal)
    ∧ quiescent_AttnProj (hAttnProj := hAttnProj)
    ∧ quiescent_AttnProjIdeal (hAttnProjIdeal := hAttnProjIdeal)
    ∧ quiescent_AttnProjRefIdeal (hAttnProjRefIdeal := hAttnProjRefIdeal)
    ∧ quiescent_KeyBias (hKeyBias := hKeyBias)
    ∧ quiescent_KeyBiasIdeal (hKeyBiasIdeal := hKeyBiasIdeal)
    ∧ quiescent_KeyBiasRefIdeal (hKeyBiasRefIdeal := hKeyBiasRefIdeal)
    ∧ quiescent_ConvProj (hConvProj := hConvProj)
    ∧ quiescent_ConvProjIdeal (hConvProjIdeal := hConvProjIdeal)
    ∧ quiescent_ConvProjRefIdeal (hConvProjRefIdeal := hConvProjRefIdeal)
    ∧ quiescent_ConvGate (hConvGate := hConvGate)
    ∧ quiescent_ConvGateIdeal (hConvGateIdeal := hConvGateIdeal)
    ∧ quiescent_ConvGateIdeal_pre_padding_empty (hConvGateIdeal := hConvGateIdeal) (hPre_padding_empty := hPre_padding_empty)
    ∧ quiescent_ConvGateRefIdeal (hConvGateRefIdeal := hConvGateRefIdeal)
    ∧ quiescent_ConvGateRefIdeal_pre_padding_empty (hConvGateRefIdeal := hConvGateRefIdeal) (hPre_padding_empty := hPre_padding_empty)
    ∧ quiescent_ConvGateSample (hConvGateSample := hConvGateSample)
    ∧ quiescent_ConvGateSampleIdeal (hConvGateSampleIdeal := hConvGateSampleIdeal)
    ∧ quiescent_ConvGateSampleRefIdeal (hConvGateSampleRefIdeal := hConvGateSampleRefIdeal)
    ∧ quiescent_ConvProjSample (hConvProjSample := hConvProjSample)
    ∧ quiescent_ConvProjSampleIdeal (hConvProjSampleIdeal := hConvProjSampleIdeal)
    ∧ quiescent_ConvProjSampleRefIdeal (hConvProjSampleRefIdeal := hConvProjSampleRefIdeal)
    ∧ quiescent_AttnProjSample (hAttnProjSample := hAttnProjSample)
    ∧ quiescent_AttnProjSampleIdeal (hAttnProjSampleIdeal := hAttnProjSampleIdeal)
    ∧ quiescent_AttnProjSampleRefIdeal (hAttnProjSampleRefIdeal := hAttnProjSampleRefIdeal)
    ∧ quiescent_FfnMixSample (hFfnMixSample := hFfnMixSample)
    ∧ quiescent_FfnMixSampleIdeal (hFfnMixSampleIdeal := hFfnMixSampleIdeal)
    ∧ quiescent_FfnMixSampleRefIdeal (hFfnMixSampleRefIdeal := hFfnMixSampleRefIdeal)
    ∧ preserves_Kernel_KernelIdeal
    ∧ algebraic_KernelIdeal_ReferenceIdeal_pre_gates_masked (hKernelIdeal := hKernelIdeal) (hReferenceIdeal := hReferenceIdeal) (hPre_gates_masked := hPre_gates_masked)
    ∧ preserves_Ffn_FfnIdeal
    ∧ algebraic_FfnIdeal_FfnRefIdeal (hFfnIdeal := hFfnIdeal) (hFfnRefIdeal := hFfnRefIdeal)
    ∧ preserves_FfnMix_FfnMixIdeal
    ∧ algebraic_FfnMixIdeal_FfnMixRefIdeal (hFfnMixIdeal := hFfnMixIdeal) (hFfnMixRefIdeal := hFfnMixRefIdeal)
    ∧ preserves_AttnProj_AttnProjIdeal
    ∧ algebraic_AttnProjIdeal_AttnProjRefIdeal (hAttnProjIdeal := hAttnProjIdeal) (hAttnProjRefIdeal := hAttnProjRefIdeal)
    ∧ preserves_KeyBias_KeyBiasIdeal
    ∧ algebraic_KeyBiasIdeal_KeyBiasRefIdeal (hKeyBiasIdeal := hKeyBiasIdeal) (hKeyBiasRefIdeal := hKeyBiasRefIdeal)
    ∧ preserves_ConvProj_ConvProjIdeal
    ∧ algebraic_ConvProjIdeal_ConvProjRefIdeal (hConvProjIdeal := hConvProjIdeal) (hConvProjRefIdeal := hConvProjRefIdeal)
    ∧ preserves_ConvGate_ConvGateIdeal
    ∧ algebraic_ConvGateIdeal_ConvGateRefIdeal_pre_padding_empty (hConvGateIdeal := hConvGateIdeal) (hConvGateRefIdeal := hConvGateRefIdeal) (hPre_padding_empty := hPre_padding_empty)
    ∧ preserves_ConvGateSample_ConvGateSampleIdeal
    ∧ algebraic_ConvGateSampleIdeal_ConvGateSampleRefIdeal (hConvGateSampleIdeal := hConvGateSampleIdeal) (hConvGateSampleRefIdeal := hConvGateSampleRefIdeal)
    ∧ preserves_ConvProjSample_ConvProjSampleIdeal
    ∧ algebraic_ConvProjSampleIdeal_ConvProjSampleRefIdeal (hConvProjSampleIdeal := hConvProjSampleIdeal) (hConvProjSampleRefIdeal := hConvProjSampleRefIdeal)
    ∧ preserves_AttnProjSample_AttnProjSampleIdeal
    ∧ algebraic_AttnProjSampleIdeal_AttnProjSampleRefIdeal (hAttnProjSampleIdeal := hAttnProjSampleIdeal) (hAttnProjSampleRefIdeal := hAttnProjSampleRefIdeal)
    ∧ preserves_FfnMixSample_FfnMixSampleIdeal
    ∧ algebraic_FfnMixSampleIdeal_FfnMixSampleRefIdeal (hFfnMixSampleIdeal := hFfnMixSampleIdeal) (hFfnMixSampleRefIdeal := hFfnMixSampleRefIdeal)
-- ==== Pre_gates_masked.lean ====
abbrev S33792x1024 : Shape := ⟨2, ![33792, 1024]⟩
abbrev S16x33792 : Shape := ⟨2, ![16, 33792]⟩
abbrev S16x8x4224 : Shape := ⟨3, ![16, 8, 4224]⟩
abbrev S16x8x112 : Shape := ⟨3, ![16, 8, 112]⟩
abbrev S_ : Shape := ⟨0, ![]⟩
abbrev S16x8x4112 : Shape := ⟨3, ![16, 8, 4112]⟩

class Facts : Prop where
  shapeCasts_S16x33792_S16x8x4224 : S16x33792.ShapeCasts S16x8x4224
  slices_S16x8x4224_S16x8x112_0_0_0 : S16x8x4224.Slices ![0, 0, 0] S16x8x112
  bcast_S_S16x8x112 : S_.BroadcastsInDim S16x8x112 (![] : Fin 0 → Fin S16x8x112.rank)
  slices_S16x8x4224_S16x8x4112_0_0_112 : S16x8x4224.Slices ![0, 0, 112] S16x8x4112
  bcast_S_S16x8x4112 : S_.BroadcastsInDim S16x8x4112 (![] : Fin 0 → Fin S16x8x4112.rank)
  bitsLt_bf16_f32 : FTy.bits .bf16 < FTy.bits .f32
  bcast_S_S33792x1024 : S_.BroadcastsInDim S33792x1024 (![] : Fin 0 → Fin S33792x1024.rank)

variable [Facts]

def fn {F : FTy → Type} [FloatOps F] (main_arg0 : FVec F S33792x1024 .bf16) (main_arg1 : FVec F S33792x1024 .bf16) (main_arg2 : FVec F S33792x1024 .bf16) (main_arg3 : FVec F S16x33792 .f32) : IVec S16x8x112 1 × IVec S16x8x4112 1 × IVec S33792x1024 1 × IVec S33792x1024 1 :=
  let main_v0 : FVec F S16x8x4224 .f32 := shapeCast S16x8x4224 main_arg3 shapeCasts_S16x33792_S16x8x4224
  let main_v1 : FVec F S16x8x112 .f32 := (extractStridedSlice S16x8x112 ![0, 0, 0] · slices_S16x8x4224_S16x8x112_0_0_0) main_v0
  let main_cst : FVec F S_ .f32 := constant S_ .f32 0xFF800000#32
  let main_v2 : FVec F S16x8x112 .f32 := broadcastInDim S16x8x112 ![] bcast_S_S16x8x112 main_cst
  let main_v3 : IVec S16x8x112 1 := cmpf .oeq main_v1 main_v2
  let main_v4 : FVec F S16x8x4112 .f32 := (extractStridedSlice S16x8x4112 ![0, 0, 112] · slices_S16x8x4224_S16x8x4112_0_0_112) main_v0
  let main_v5 : FVec F S16x8x4112 .f32 := Host.absf main_v4
  let main_cst_0 : FVec F S_ .f32 := constant S_ .f32 0x7F800000#32
  let main_v6 : FVec F S16x8x4112 .f32 := broadcastInDim S16x8x4112 ![] bcast_S_S16x8x4112 main_cst_0
  let main_v7 : IVec S16x8x4112 1 := cmpf .olt main_v5 main_v6
  let main_v8 : FVec F S33792x1024 .f32 := (extf .f32 · bitsLt_bf16_f32) main_arg0
  let main_v9 : FVec F S33792x1024 .f32 := Host.absf main_v8
  let main_cst_1 : FVec F S_ .f32 := constant S_ .f32 0x7F800000#32
  let main_v10 : FVec F S33792x1024 .f32 := broadcastInDim S33792x1024 ![] bcast_S_S33792x1024 main_cst_1
  let main_v11 : IVec S33792x1024 1 := cmpf .olt main_v9 main_v10
  let main_v12 : FVec F S33792x1024 .f32 := (extf .f32 · bitsLt_bf16_f32) main_arg1
  let main_v13 : FVec F S33792x1024 .f32 := Host.absf main_v12
  let main_cst_2 : FVec F S_ .f32 := constant S_ .f32 0x7F800000#32
  let main_v14 : FVec F S33792x1024 .f32 := broadcastInDim S33792x1024 ![] bcast_S_S33792x1024 main_cst_2
  let main_v15 : IVec S33792x1024 1 := cmpf .olt main_v13 main_v14
  (main_v3, main_v7, main_v11, main_v15)
-- ==== Pre_padding_empty.lean ====
abbrev S33792x1024 : Shape := ⟨2, ![33792, 1024]⟩
abbrev S3x1024 : Shape := ⟨2, ![3, 1024]⟩
abbrev S8x4224x1024 : Shape := ⟨3, ![8, 4224, 1024]⟩
abbrev S8x112x1024 : Shape := ⟨3, ![8, 112, 1024]⟩
abbrev S_ : Shape := ⟨0, ![]⟩

class Facts : Prop where
  bitsLt_bf16_f32 : FTy.bits .bf16 < FTy.bits .f32
  shapeCasts_S33792x1024_S8x4224x1024 : S33792x1024.ShapeCasts S8x4224x1024
  slices_S8x4224x1024_S8x112x1024_0_0_0 : S8x4224x1024.Slices ![0, 0, 0] S8x112x1024
  bcast_S_S8x112x1024 : S_.BroadcastsInDim S8x112x1024 (![] : Fin 0 → Fin S8x112x1024.rank)

variable [Facts]

def fn {F : FTy → Type} [FloatOps F] (main_arg0 : FVec F S33792x1024 .bf16) (main_arg1 : FVec F S33792x1024 .f32) (main_arg2 : FVec F S3x1024 .f32) : IVec S8x112x1024 1 × IVec S8x112x1024 1 :=
  let main_v0 : FVec F S33792x1024 .f32 := (extf .f32 · bitsLt_bf16_f32) main_arg0
  let main_v1 : FVec F S8x4224x1024 .f32 := shapeCast S8x4224x1024 main_v0 shapeCasts_S33792x1024_S8x4224x1024
  let main_v2 : FVec F S8x112x1024 .f32 := (extractStridedSlice S8x112x1024 ![0, 0, 0] · slices_S8x4224x1024_S8x112x1024_0_0_0) main_v1
  let main_cst : FVec F S_ .f32 := constant S_ .f32 0x00000000#32
  let main_v3 : FVec F S8x112x1024 .f32 := broadcastInDim S8x112x1024 ![] bcast_S_S8x112x1024 main_cst
  let main_v4 : IVec S8x112x1024 1 := cmpf .oeq main_v2 main_v3
  let main_v5 : FVec F S8x4224x1024 .f32 := shapeCast S8x4224x1024 main_arg1 shapeCasts_S33792x1024_S8x4224x1024
  let main_v6 : FVec F S8x112x1024 .f32 := (extractStridedSlice S8x112x1024 ![0, 0, 0] · slices_S8x4224x1024_S8x112x1024_0_0_0) main_v5
  let main_cst_0 : FVec F S_ .f32 := constant S_ .f32 0x00000000#32
  let main_v7 : FVec F S8x112x1024 .f32 := broadcastInDim S8x112x1024 ![] bcast_S_S8x112x1024 main_cst_0
  let main_v8 : IVec S8x112x1024 1 := cmpf .oeq main_v6 main_v7
  (main_v4, main_v8)
-- ==== Kernel.lean ====
abbrev S33792x1024 : Shape := ⟨2, ![33792, 1024]⟩
abbrev S16x33792 : Shape := ⟨2, ![16, 33792]⟩
abbrev S8x2x8x11x384 : Shape := ⟨5, ![8, 2, 8, 11, 384]⟩
abbrev S8x8x11x2x384 : Shape := ⟨5, ![8, 8, 11, 2, 384]⟩
abbrev S384x128 : Shape := ⟨2, ![384, 128]⟩
abbrev S4224x128 : Shape := ⟨2, ![4224, 128]⟩
abbrev S1x1x11x2x384 : Shape := ⟨5, ![1, 1, 11, 2, 384]⟩
abbrev S384x384 : Shape := ⟨2, ![384, 384]⟩
abbrev S384x1 : Shape := ⟨2, ![384, 1]⟩
abbrev S1x1x1x1x384 : Shape := ⟨5, ![1, 1, 1, 1, 384]⟩
abbrev S1x384 : Shape := ⟨2, ![1, 384]⟩
abbrev S384 : Shape := ⟨1, ![384]⟩

abbrev nBuf : Space → Nat
  | .hbm => 7
  | .vmem => 10
  | .smem => 0
  | _ => 0

abbrev bufTy : (tb : Table) → Fin (tcTables nBuf tb) → BufTy
  | .hbm, ⟨0, _⟩ => ⟨S33792x1024, .bf16⟩
  | .hbm, ⟨1, _⟩ => ⟨S33792x1024, .bf16⟩
  | .hbm, ⟨2, _⟩ => ⟨S33792x1024, .bf16⟩
  | .hbm, ⟨3, _⟩ => ⟨S16x33792, .f32⟩
  | .hbm, ⟨4, _⟩ => ⟨S8x2x8x11x384, .f32⟩
  | .hbm, ⟨5, _⟩ => ⟨S8x8x11x2x384, .f32⟩
  | .hbm, ⟨6, _⟩ => ⟨S33792x1024, .bf16⟩
  | .local _ .vmem, ⟨0, _⟩ => ⟨S384x128, .bf16⟩
  | .local _ .vmem, ⟨1, _⟩ => ⟨S384x128, .bf16⟩
  | .local _ .vmem, ⟨2, _⟩ => ⟨S4224x128, .bf16⟩
  | .local _ .vmem, ⟨3, _⟩ => ⟨S4224x128, .bf16⟩
  | .local _ .vmem, ⟨4, _⟩ => ⟨S4224x128, .bf16⟩
  | .local _ .vmem, ⟨5, _⟩ => ⟨S4224x128, .bf16⟩
  | .local _ .vmem, ⟨6, _⟩ => ⟨S1x1x11x2x384, .f32⟩
  | .local _ .vmem, ⟨7, _⟩ => ⟨S1x1x11x2x384, .f32⟩
  | .local _ .vmem, ⟨8, _⟩ => ⟨S384x128, .bf16⟩
  | .local _ .vmem, ⟨9, _⟩ => ⟨S384x128, .bf16⟩
  | _, _ => ⟨S33792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 11], ![false, false, false]⟩

@[reducible] def k0_t1_loop (i : grid0.Coords) : Scf.Loop 32 :=
  let c0_i32_4 : BitVec 32 := 0#32
  let arg2 : BitVec 32 := BitVec.ofNat 32 (i 2).val
  let v14 : BitVec 32 := Scalar.subi arg2 c0_i32_4
  let c1_i32 : BitVec 32 := 1#32
  let v16 : BitVec 32 := Scalar.divsi v14 c1_i32
  let v17 : BitVec 32 := Scalar.muli v16 c1_i32
  let v18 : BitVec 32 := Scalar.addi c0_i32_4 v17
  let c1_i32_5 : BitVec 32 := 1#32
  ⟨c0_i32_4, v18, c1_i32_5⟩
def k0_mult1 (i : grid0.Coords) (k0_t1 : Fin (k0_t1_loop i).trips) : BitVec 32 :=
  let c0_i32_4 : BitVec 32 := 0#32
  let c1_i32_5 : BitVec 32 := 1#32
  let arg8 : BitVec 32 := Scf.iv c0_i32_4 c1_i32_5 k0_t1
  let c384_i32_43 : BitVec 32 := 384#32
  let v119 : BitVec 32 := Scalar.muli arg8 c384_i32_43
  v119
def k0_off1 (i : grid0.Coords) (k0_t1 : Fin (k0_t1_loop i).trips) : Fin 2 → Nat :=
  let c0_i32_4 : BitVec 32 := 0#32
  let c1_i32_5 : BitVec 32 := 1#32
  let arg8 : BitVec 32 := Scf.iv c0_i32_4 c1_i32_5 k0_t1
  let c384_i32_43 : BitVec 32 := 384#32
  let v119 : BitVec 32 := Scalar.muli arg8 c384_i32_43
  let v120 : BitVec 32 := v119
  let v121 : Index := Scalar.indexCast v120
  let c0_44 : Index := 0#32
  ![v121.toNat, 0]
def k0_off2 (i : grid0.Coords) (k0_t1 : Fin (k0_t1_loop i).trips) : Fin 5 → Nat :=
  let c0_47 : Index := 0#32
  let c0_48 : Index := 0#32
  let c0_i32_4 : BitVec 32 := 0#32
  let c1_i32_5 : BitVec 32 := 1#32
  let arg8 : BitVec 32 := Scf.iv c0_i32_4 c1_i32_5 k0_t1
  let v126 : Index := Scalar.indexCast arg8
  let c0_49 : Index := 0#32
  let c0_50 : Index := 0#32
  ![0, 0, v126.toNat, 0, 0]
@[reducible] def k0_t2_loop (i : grid0.Coords) : Scf.Loop 32 :=
  let c0_i32_4 : BitVec 32 := 0#32
  let arg2 : BitVec 32 := BitVec.ofNat 32 (i 2).val
  let v14 : BitVec 32 := Scalar.subi arg2 c0_i32_4
  let c1_i32 : BitVec 32 := 1#32
  let v16 : BitVec 32 := Scalar.divsi v14 c1_i32
  let v17 : BitVec 32 := Scalar.muli v16 c1_i32
  let v18 : BitVec 32 := Scalar.addi c0_i32_4 v17
  let v15 : BitVec 32 := Scalar.addi c0_i32_4 v14
  let c1_i32_6 : BitVec 32 := 1#32
  ⟨v18, v15, c1_i32_6⟩
def k0_mult2 (i : grid0.Coords) (k0_t2 : Fin (k0_t2_loop i).trips) : BitVec 32 :=
  let c0_i32_4 : BitVec 32 := 0#32
  let arg2 : BitVec 32 := BitVec.ofNat 32 (i 2).val
  let v14 : BitVec 32 := Scalar.subi arg2 c0_i32_4
  let c1_i32 : BitVec 32 := 1#32
  let v16 : BitVec 32 := Scalar.divsi v14 c1_i32
  let v17 : BitVec 32 := Scalar.muli v16 c1_i32
  let v18 : BitVec 32 := Scalar.addi c0_i32_4 v17
  let c1_i32_6 : BitVec 32 := 1#32
  let arg8 : BitVec 32 := Scf.iv v18 c1_i32_6 k0_t2
  let c384_i32_43 : BitVec 32 := 384#32
  let v119 : BitVec 32 := Scalar.muli arg8 c384_i32_43
  v119
def k0_off3 (i : grid0.Coords) (k0_t2 : Fin (k0_t2_loop i).trips) : Fin 2 → Nat :=
  let c0_i32_4 : BitVec 32 := 0#32
  let arg2 : BitVec 32 := BitVec.ofNat 32 (i 2).val
  let v14 : BitVec 32 := Scalar.subi arg2 c0_i32_4
  let c1_i32 : BitVec 32 := 1#32
  let v16 : BitVec 32 := Scalar.divsi v14 c1_i32
  let v17 : BitVec 32 := Scalar.muli v16 c1_i32
  let v18 : BitVec 32 := Scalar.addi c0_i32_4 v17
  let c1_i32_6 : BitVec 32 := 1#32
  let arg8 : BitVec 32 := Scf.iv v18 c1_i32_6 k0_t2
  let c384_i32_43 : BitVec 32 := 384#32
  let v119 : BitVec 32 := Scalar.muli arg8 c384_i32_43
  let v120 : BitVec 32 := v119
  let v121 : Index := Scalar.indexCast v120
  let c0_44 : Index := 0#32
  ![v121.toNat, 0]
def k0_off4 (i : grid0.Coords) (k0_t2 : Fin (k0_t2_loop i).trips) : Fin 5 → Nat :=
  let c0_47 : Index := 0#32
  let c0_48 : Index := 0#32
  let c0_i32_4 : BitVec 32 := 0#32
  let arg2 : BitVec 32 := BitVec.ofNat 32 (i 2).val
  let v14 : BitVec 32 := Scalar.subi arg2 c0_i32_4
  let c1_i32 : BitVec 32 := 1#32
  let v16 : BitVec 32 := Scalar.divsi v14 c1_i32
  let v17 : BitVec 32 := Scalar.muli v16 c1_i32
  let v18 : BitVec 32 := Scalar.addi c0_i32_4 v17
  let c1_i32_6 : BitVec 32 := 1#32
  let arg8 : BitVec 32 := Scf.iv v18 c1_i32_6 k0_t2
  let v126 : Index := Scalar.indexCast arg8
  let c0_49 : Index := 0#32
  let c0_50 : Index := 0#32
  ![0, 0, v126.toNat, 0, 0]
def k0_mult3 (i : grid0.Coords) : BitVec 32 :=
  let arg2 : BitVec 32 := BitVec.ofNat 32 (i 2).val
  let c384_i32 : BitVec 32 := 384#32
  let v21 : BitVec 32 := Scalar.muli arg2 c384_i32
  v21
def k0_off5 (i : grid0.Coords) : Fin 2 → Nat :=
  let arg2 : BitVec 32 := BitVec.ofNat 32 (i 2).val
  let c384_i32 : BitVec 32 := 384#32
  let v21 : BitVec 32 := Scalar.muli arg2 c384_i32
  let v22 : BitVec 32 := v21
  let v23 : Index := Scalar.indexCast v22
  let c0_7 : Index := 0#32
  ![v23.toNat, 0]
def k0_off6 (i : grid0.Coords) : Fin 5 → Nat :=
  let c0_10 : Index := 0#32
  let c0_11 : Index := 0#32
  let arg2 : BitVec 32 := BitVec.ofNat 32 (i 2).val
  let v28 : Index := Scalar.indexCast arg2
  let c0_12 : Index := 0#32
  let c0_13 : Index := 0#32
  ![0, 0, v28.toNat, 0, 0]
@[reducible] def k0_t3_loop (i : grid0.Coords) : Scf.Loop 32 :=
  let c0_i32_23 : BitVec 32 := 0#32
  let arg2 : BitVec 32 := BitVec.ofNat 32 (i 2).val
  let v65 : BitVec 32 := Scalar.subi arg2 c0_i32_23
  let c1_i32_24 : BitVec 32 := 1#32
  let v67 : BitVec 32 := Scalar.divsi v65 c1_i32_24
  let v68 : BitVec 32 := Scalar.muli v67 c1_i32_24
  let v69 : BitVec 32 := Scalar.addi c0_i32_23 v68
  let c1_i32_25 : BitVec 32 := 1#32
  ⟨c0_i32_23, v69, c1_i32_25⟩
def k0_mult4 (i : grid0.Coords) (k0_t3 : Fin (k0_t3_loop i).trips) : BitVec 32 :=
  let c0_i32_23 : BitVec 32 := 0#32
  let c1_i32_25 : BitVec 32 := 1#32
  let arg8 : BitVec 32 := Scf.iv c0_i32_23 c1_i32_25 k0_t3
  let c384_i32_43 : BitVec 32 := 384#32
  let v119 : BitVec 32 := Scalar.muli arg8 c384_i32_43
  v119
def k0_off7 (i : grid0.Coords) (k0_t3 : Fin (k0_t3_loop i).trips) : Fin 2 → Nat :=
  let c0_i32_23 : BitVec 32 := 0#32
  let c1_i32_25 : BitVec 32 := 1#32
  let arg8 : BitVec 32 := Scf.iv c0_i32_23 c1_i32_25 k0_t3
  let c384_i32_43 : BitVec 32 := 384#32
  let v119 : BitVec 32 := Scalar.muli arg8 c384_i32_43
  let v120 : BitVec 32 := v119
  let v121 : Index := Scalar.indexCast v120
  let c0_44 : Index := 0#32
  ![v121.toNat, 0]
def k0_off8 (i : grid0.Coords) (k0_t3 : Fin (k0_t3_loop i).trips) : Fin 5 → Nat :=
  let c0_47 : Index := 0#32
  let c0_48 : Index := 0#32
  let c0_i32_23 : BitVec 32 := 0#32
  let c1_i32_25 : BitVec 32 := 1#32
  let arg8 : BitVec 32 := Scf.iv c0_i32_23 c1_i32_25 k0_t3
  let v126 : Index := Scalar.indexCast arg8
  let c1_49 : Index := 1#32
  let c0_50 : Index := 0#32
  ![0, 0, v126.toNat, 1, 0]
@[reducible] def k0_t4_loop (i : grid0.Coords) : Scf.Loop 32 :=
  let c0_i32_23 : BitVec 32 := 0#32
  let arg2 : BitVec 32 := BitVec.ofNat 32 (i 2).val
  let v65 : BitVec 32 := Scalar.subi arg2 c0_i32_23
  let c1_i32_24 : BitVec 32 := 1#32
  let v67 : BitVec 32 := Scalar.divsi v65 c1_i32_24
  let v68 : BitVec 32 := Scalar.muli v67 c1_i32_24
  let v69 : BitVec 32 := Scalar.addi c0_i32_23 v68
  let v66 : BitVec 32 := Scalar.addi c0_i32_23 v65
  let c1_i32_26 : BitVec 32 := 1#32
  ⟨v69, v66, c1_i32_26⟩
def k0_mult5 (i : grid0.Coords) (k0_t4 : Fin (k0_t4_loop i).trips) : BitVec 32 :=
  let c0_i32_23 : BitVec 32 := 0#32
  let arg2 : BitVec 32 := BitVec.ofNat 32 (i 2).val
  let v65 : BitVec 32 := Scalar.subi arg2 c0_i32_23
  let c1_i32_24 : BitVec 32 := 1#32
  let v67 : BitVec 32 := Scalar.divsi v65 c1_i32_24
  let v68 : BitVec 32 := Scalar.muli v67 c1_i32_24
  let v69 : BitVec 32 := Scalar.addi c0_i32_23 v68
  let c1_i32_26 : BitVec 32 := 1#32
  let arg8 : BitVec 32 := Scf.iv v69 c1_i32_26 k0_t4
  let c384_i32_43 : BitVec 32 := 384#32
  let v119 : BitVec 32 := Scalar.muli arg8 c384_i32_43
  v119
def k0_off9 (i : grid0.Coords) (k0_t4 : Fin (k0_t4_loop i).trips) : Fin 2 → Nat :=
  let c0_i32_23 : BitVec 32 := 0#32
  let arg2 : BitVec 32 := BitVec.ofNat 32 (i 2).val
  let v65 : BitVec 32 := Scalar.subi arg2 c0_i32_23
  let c1_i32_24 : BitVec 32 := 1#32
  let v67 : BitVec 32 := Scalar.divsi v65 c1_i32_24
  let v68 : BitVec 32 := Scalar.muli v67 c1_i32_24
  let v69 : BitVec 32 := Scalar.addi c0_i32_23 v68
  let c1_i32_26 : BitVec 32 := 1#32
  let arg8 : BitVec 32 := Scf.iv v69 c1_i32_26 k0_t4
  let c384_i32_43 : BitVec 32 := 384#32
  let v119 : BitVec 32 := Scalar.muli arg8 c384_i32_43
  let v120 : BitVec 32 := v119
  let v121 : Index := Scalar.indexCast v120
  let c0_44 : Index := 0#32
  ![v121.toNat, 0]
def k0_off10 (i : grid0.Coords) (k0_t4 : Fin (k0_t4_loop i).trips) : Fin 5 → Nat :=
  let c0_47 : Index := 0#32
  let c0_48 : Index := 0#32
  let c0_i32_23 : BitVec 32 := 0#32
  let arg2 : BitVec 32 := BitVec.ofNat 32 (i 2).val
  let v65 : BitVec 32 := Scalar.subi arg2 c0_i32_23
  let c1_i32_24 : BitVec 32 := 1#32
  let v67 : BitVec 32 := Scalar.divsi v65 c1_i32_24
  let v68 : BitVec 32 := Scalar.muli v67 c1_i32_24
  let v69 : BitVec 32 := Scalar.addi c0_i32_23 v68
  let c1_i32_26 : BitVec 32 := 1#32
  let arg8 : BitVec 32 := Scf.iv v69 c1_i32_26 k0_t4
  let v126 : Index := Scalar.indexCast arg8
  let c1_49 : Index := 1#32
  let c0_50 : Index := 0#32
  ![0, 0, v126.toNat, 1, 0]
def k0_mult6 (i : grid0.Coords) : BitVec 32 :=
  let arg2 : BitVec 32 := BitVec.ofNat 32 (i 2).val
  let c384_i32_27 : BitVec 32 := 384#32
  let v72 : BitVec 32 := Scalar.muli arg2 c384_i32_27
  v72
def k0_off11 (i : grid0.Coords) : Fin 5 → Nat :=
  let c0_31 : Index := 0#32
  let c0_32 : Index := 0#32
  let arg2 : BitVec 32 := BitVec.ofNat 32 (i 2).val
  let v79 : Index := Scalar.indexCast arg2
  let c1 : Index := 1#32
  let c0_33 : Index := 0#32
  ![0, 0, v79.toNat, 1, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

abbrev stage0_0 : Fin 2 → Memref sig .tc .vmem S384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x11x2x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S33792x1024 : Shape := ⟨2, ![33792, 1024]⟩
abbrev S16x33792 : Shape := ⟨2, ![16, 33792]⟩
abbrev S8x4224x16x64 : Shape := ⟨4, ![8, 4224, 16, 64]⟩
abbrev S8x4112x16x64 : Shape := ⟨4, ![8, 4112, 16, 64]⟩
abbrev S8x16x4112x64 : Shape := ⟨4, ![8, 16, 4112, 64]⟩
abbrev S16x8x4224 : Shape := ⟨3, ![16, 8, 4224]⟩
abbrev S16x8x4112 : Shape := ⟨3, ![16, 8, 4112]⟩
abbrev S8x16x4112 : Shape := ⟨3, ![8, 16, 4112]⟩
abbrev S8x16x4112x4112 : Shape := ⟨4, ![8, 16, 4112, 4112]⟩
abbrev S8x16x4112x1 : Shape := ⟨4, ![8, 16, 4112, 1]⟩
abbrev S8x16x1x4112 : Shape := ⟨4, ![8, 16, 1, 4112]⟩
abbrev S4112 : Shape := ⟨1, ![4112]⟩
abbrev S4112x1 : Shape := ⟨2, ![4112, 1]⟩
abbrev S1x4112 : Shape := ⟨2, ![1, 4112]⟩
abbrev S4112x4112 : Shape := ⟨2, ![4112, 4112]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S33792x1024, .bf16⟩
  | .hbm, ⟨1, _⟩ => ⟨S33792x1024, .bf16⟩
  | .hbm, ⟨2, _⟩ => ⟨S33792x1024, .bf16⟩
  | .hbm, ⟨3, _⟩ => ⟨S16x33792, .f32⟩
  | .hbm, ⟨4, _⟩ => ⟨S33792x1024, .f32⟩
  | .hbm, ⟨5, _⟩ => ⟨S8x4224x16x64, .f32⟩
  | .hbm, ⟨6, _⟩ => ⟨S8x4112x16x64, .f32⟩
  | .hbm, ⟨7, _⟩ => ⟨S8x16x4112x64, .f32⟩
  | .hbm, ⟨8, _⟩ => ⟨S33792x1024, .f32⟩
  | .hbm, ⟨9, _⟩ => ⟨S8x4224x16x64, .f32⟩
  | .hbm, ⟨10, _⟩ => ⟨S8x4112x16x64, .f32⟩
  | .hbm, ⟨11, _⟩ => ⟨S8x16x4112x64, .f32⟩
  | .hbm, ⟨12, _⟩ => ⟨S33792x1024, .f32⟩
  | .hbm, ⟨13, _⟩ => ⟨S8x4224x16x64, .f32⟩
  | .hbm, ⟨14, _⟩ => ⟨S8x4112x16x64, .f32⟩
  | .hbm, ⟨15, _⟩ => ⟨S8x16x4112x64, .f32⟩
  | .hbm, ⟨16, _⟩ => ⟨S16x8x4224, .f32⟩
  | .hbm, ⟨17, _⟩ => ⟨S16x8x4112, .f32⟩
  | .hbm, ⟨18, _⟩ => ⟨S8x16x4112, .f32⟩
  | .hbm, ⟨19, _⟩ => ⟨S8x16x4112, .f32⟩
  | .hbm, ⟨20, _⟩ => ⟨S8x16x4112x4112, .f32⟩
  | .hbm, ⟨21, _⟩ => ⟨S8x16x4112x1, .f32⟩
  | .hbm, ⟨22, _⟩ => ⟨S8x16x4112x4112, .f32⟩
  | .hbm, ⟨23, _⟩ => ⟨S8x16x4112x4112, .f32⟩
  | .hbm, ⟨24, _⟩ => ⟨S8x16x1x4112, .f32⟩
  | .hbm, ⟨25, _⟩ => ⟨S8x16x4112x4112, .f32⟩
  | .hbm, ⟨26, _⟩ => ⟨S8x16x4112x4112, .f32⟩
  | .hbm, ⟨27, _⟩ => ⟨S4112, .i32⟩
  | .hbm, ⟨28, _⟩ => ⟨S4112x1, .i32⟩
  | .hbm, ⟨29, _⟩ => ⟨S1x4112, .i32⟩
  | .hbm, ⟨30, _⟩ => ⟨S4112x4112, .i32⟩
  | .hbm, ⟨31, _⟩ => ⟨S4112x4112, .i32⟩
  | .hbm, ⟨32, _⟩ => ⟨S4112x4112, .i1⟩
  | .hbm, ⟨33, _⟩ => ⟨S_, .f32⟩
  | .hbm, ⟨34, _⟩ => ⟨S_, .f32⟩
  | .hbm, ⟨35, _⟩ => ⟨S8x16x4112x4112, .i1⟩
  | .hbm, ⟨36, _⟩ => ⟨S8x16x4112x4112, .f32⟩
  | .hbm, ⟨37, _⟩ => ⟨S8x16x4112x4112, .f32⟩
  | .hbm, ⟨38, _⟩ => ⟨S_, .f32⟩
  | .hbm, ⟨39, _⟩ => ⟨S8x16x4112, .f32⟩
  | .hbm, ⟨40, _⟩ => ⟨S_, .f32⟩
  | .hbm, ⟨41, _⟩ => ⟨S8x16x4112, .f32⟩
  | .hbm, ⟨42, _⟩ => ⟨S8x16x4112, .f32⟩
  | .hbm, ⟨43, _⟩ => ⟨S8x16x4112x1, .f32⟩
  | .hbm, ⟨44, _⟩ => ⟨S8x16x4112x4112, .f32⟩
  | .hbm, ⟨45, _⟩ => ⟨S8x16x4112x4112, .f32⟩
  | .hbm, ⟨46, _⟩ => ⟨S8x16x4112x4112, .f32⟩
  | .hbm, ⟨47, _⟩ => ⟨S_, .f32⟩
  | .hbm, ⟨48, _⟩ => ⟨S8x16x4112, .f32⟩
  | .hbm, ⟨49, _⟩ => ⟨S8x16x4112x1, .f32⟩
  | .hbm, ⟨50, _⟩ => ⟨S8x16x4112x4112, .f32⟩
  | .hbm, ⟨51, _⟩ => ⟨S8x16x4112x4112, .f32⟩
  | .hbm, ⟨52, _⟩ => ⟨S8x16x4112x64, .f32⟩
  | .hbm, ⟨53, _⟩ => ⟨S8x4112x16x64, .f32⟩
  | .hbm, ⟨54, _⟩ => ⟨S_, .i32⟩
  | .hbm, ⟨55, _⟩ => ⟨S_, .f32⟩
  | .hbm, ⟨56, _⟩ => ⟨S8x4224x16x64, .f32⟩
  | .hbm, ⟨57, _⟩ => ⟨S33792x1024, .f32⟩
  | .hbm, ⟨58, _⟩ => ⟨S33792x1024, .bf16⟩
  | _, _ => ⟨S33792x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c : Ref sig .tc := ⟨.hbm, 54, rfl⟩
abbrev main_call1_v0 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Ffn.lean ====
abbrev S33792x1024 : Shape := ⟨2, ![33792, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 12
  | .vmem => 10
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S33792x1024 : Shape := ⟨2, ![33792, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x2816 : Shape := ⟨2, ![33792, 2816]⟩

abbrev nBuf : Space → Nat
  | .hbm => 55
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S33792x1024, .f32⟩
  | .hbm, ⟨7, _⟩ => ⟨S_, .f32⟩
  | .hbm, ⟨8, _⟩ => ⟨S33792, .f32⟩
  | .hbm, ⟨9, _⟩ => ⟨S33792x1, .f32⟩
  | .hbm, ⟨10, _⟩ => ⟨S_, .f32⟩
  | .hbm, ⟨11, _⟩ => ⟨S33792x1, .f32⟩
  | .hbm, ⟨12, _⟩ => ⟨S33792x1, .f32⟩
  | .hbm, ⟨13, _⟩ => ⟨S_, .f32⟩
  | .hbm, ⟨14, _⟩ => ⟨S33792x1, .f32⟩
  | .hbm, ⟨15, _⟩ => ⟨S33792x1, .f32⟩
  | .hbm, ⟨16, _⟩ => ⟨S33792x1, .f32⟩
  | .hbm, ⟨17, _⟩ => ⟨S33792x1024, .f32⟩
  | .hbm, ⟨18, _⟩ => ⟨S33792x1024, .f32⟩
  | .hbm, ⟨19, _⟩ => ⟨S1x1024, .f32⟩
  | .hbm, ⟨20, _⟩ => ⟨S33792x1024, .f32⟩
  | .hbm, ⟨21, _⟩ => ⟨S33792x1024, .f32⟩
  | .hbm, ⟨22, _⟩ => ⟨S33792x2816, .f32⟩
  | .hbm, ⟨23, _⟩ => ⟨S33792x2816, .f32⟩
  | .hbm, ⟨24, _⟩ => ⟨S33792x2816, .f32⟩
  | .hbm, ⟨25, _⟩ => ⟨S_, .f32⟩
  | .hbm, ⟨26, _⟩ => ⟨S33792x2816, .f32⟩
  | .hbm, ⟨27, _⟩ => ⟨S33792x2816, .f32⟩
  | .hbm, ⟨28, _⟩ => ⟨S_, .f32⟩
  | .hbm, ⟨29, _⟩ => ⟨S33792x2816, .f32⟩
  | .hbm, ⟨30, _⟩ => ⟨S33792x2816, .f32⟩
  | .hbm, ⟨31, _⟩ => ⟨S33792x2816, .f32⟩
  | .hbm, ⟨32, _⟩ => ⟨S33792x2816, .f32⟩
  | .hbm, ⟨33, _⟩ => ⟨S33792x2816, .f32⟩
  | .hbm, ⟨34, _⟩ => ⟨S33792x1024, .f32⟩
  | .hbm, ⟨35, _⟩ => ⟨S33792x1024, .f32⟩
  | .hbm, ⟨36, _⟩ => ⟨S_, .f32⟩
  | .hbm, ⟨37, _⟩ => ⟨S33792, .f32⟩
  | .hbm, ⟨38, _⟩ => ⟨S33792x1, .f32⟩
  | .hbm, ⟨39, _⟩ => ⟨S_, .f32⟩
  | .hbm, ⟨40, _⟩ => ⟨S33792x1, .f32⟩
  | .hbm, ⟨41, _⟩ => ⟨S33792x1, .f32⟩
  | .hbm, ⟨42, _⟩ => ⟨S_, .f32⟩
  | .hbm, ⟨43, _⟩ => ⟨S33792x1, .f32⟩
  | .hbm, ⟨44, _⟩ => ⟨S33792x1, .f32⟩
  | .hbm, ⟨45, _⟩ => ⟨S33792x1, .f32⟩
  | .hbm, ⟨46, _⟩ => ⟨S33792x1024, .f32⟩
  | .hbm, ⟨47, _⟩ => ⟨S33792x1024, .f32⟩
  | .hbm, ⟨48, _⟩ => ⟨S1x1024, .f32⟩
  | .hbm, ⟨49, _⟩ => ⟨S33792x1024, .f32⟩
  | .hbm, ⟨50, _⟩ => ⟨S33792x1024, .f32⟩
  | .hbm, ⟨51, _⟩ => ⟨S_, .f32⟩
  | .hbm, ⟨52, _⟩ => ⟨S33792x1024, .f32⟩
  | .hbm, ⟨53, _⟩ => ⟨S33792x1024, .f32⟩
  | .hbm, ⟨54, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== FfnMix.lean ====
abbrev S33792x1024 : Shape := ⟨2, ![33792, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 17
  | .vmem => 14
  | .smem => 0
  | _ => 0

abbrev bufTy : (tb : Table) → Fin (tcTables nBuf tb) → BufTy
  | .hbm, ⟨0, _⟩ => ⟨S33792x1024, .f32⟩
  | .hbm, ⟨1, _⟩ => ⟨S33792x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1024x1024, .bf16⟩
  | .hbm, ⟨15, _⟩ => ⟨S1x1024, .f32⟩
  | .hbm, ⟨16, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnMixIdeal.lean ====
abbrev S33792x1024 : Shape := ⟨2, ![33792, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 17
  | .vmem => 14
  | .smem => 0
  | _ => 0

abbrev bufTy : (tb : Table) → Fin (tcTables nBuf tb) → BufTy
  | .hbm, ⟨0, _⟩ => ⟨S33792x1024, .f32⟩
  | .hbm, ⟨1, _⟩ => ⟨S33792x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1024x1024, .bf16⟩
  | .hbm, ⟨15, _⟩ => ⟨S1x1024, .f32⟩
  | .hbm, ⟨16, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnMixRefIdeal.lean ====
abbrev S33792x1024 : Shape := ⟨2, ![33792, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x2816 : Shape := ⟨2, ![33792, 2816]⟩

abbrev nBuf : Space → Nat
  | .hbm => 77
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S33792x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S33792x1024, .f32⟩
  | .hbm, ⟨10, _⟩ => ⟨S33792x1024, .f32⟩
  | .hbm, ⟨11, _⟩ => ⟨S33792x1024, .f32⟩
  | .hbm, ⟨12, _⟩ => ⟨S_, .f32⟩
  | .hbm, ⟨13, _⟩ => ⟨S33792, .f32⟩
  | .hbm, ⟨14, _⟩ => ⟨S33792x1, .f32⟩
  | .hbm, ⟨15, _⟩ => ⟨S_, .f32⟩
  | .hbm, ⟨16, _⟩ => ⟨S33792x1, .f32⟩
  | .hbm, ⟨17, _⟩ => ⟨S33792x1, .f32⟩
  | .hbm, ⟨18, _⟩ => ⟨S_, .f32⟩
  | .hbm, ⟨19, _⟩ => ⟨S33792x1, .f32⟩
  | .hbm, ⟨20, _⟩ => ⟨S33792x1, .f32⟩
  | .hbm, ⟨21, _⟩ => ⟨S33792x1, .f32⟩
  | .hbm, ⟨22, _⟩ => ⟨S33792x1024, .f32⟩
  | .hbm, ⟨23, _⟩ => ⟨S33792x1024, .f32⟩
  | .hbm, ⟨24, _⟩ => ⟨S1x1024, .f32⟩
  | .hbm, ⟨25, _⟩ => ⟨S33792x1024, .f32⟩
  | .hbm, ⟨26, _⟩ => ⟨S33792x1024, .f32⟩
  | .hbm, ⟨27, _⟩ => ⟨S33792x1024, .f32⟩
  | .hbm, ⟨28, _⟩ => ⟨S33792x1024, .f32⟩
  | .hbm, ⟨29, _⟩ => ⟨S_, .f32⟩
  | .hbm, ⟨30, _⟩ => ⟨S33792, .f32⟩
  | .hbm, ⟨31, _⟩ => ⟨S33792x1, .f32⟩
  | .hbm, ⟨32, _⟩ => ⟨S_, .f32⟩
  | .hbm, ⟨33, _⟩ => ⟨S33792x1, .f32⟩
  | .hbm, ⟨34, _⟩ => ⟨S33792x1, .f32⟩
  | .hbm, ⟨35, _⟩ => ⟨S_, .f32⟩
  | .hbm, ⟨36, _⟩ => ⟨S33792x1, .f32⟩
  | .hbm, ⟨37, _⟩ => ⟨S33792x1, .f32⟩
  | .hbm, ⟨38, _⟩ => ⟨S33792x1, .f32⟩
  | .hbm, ⟨39, _⟩ => ⟨S33792x1024, .f32⟩
  | .hbm, ⟨40, _⟩ => ⟨S33792x1024, .f32⟩
  | .hbm, ⟨41, _⟩ => ⟨S1x1024, .f32⟩
  | .hbm, ⟨42, _⟩ => ⟨S33792x1024, .f32⟩
  | .hbm, ⟨43, _⟩ => ⟨S33792x1024, .f32⟩
  | .hbm, ⟨44, _⟩ => ⟨S33792x2816, .f32⟩
  | .hbm, ⟨45, _⟩ => ⟨S33792x2816, .f32⟩
  | .hbm, ⟨46, _⟩ => ⟨S33792x2816, .f32⟩
  | .hbm, ⟨47, _⟩ => ⟨S_, .f32⟩
  | .hbm, ⟨48, _⟩ => ⟨S33792x2816, .f32⟩
  | .hbm, ⟨49, _⟩ => ⟨S33792x2816, .f32⟩
  | .hbm, ⟨50, _⟩ => ⟨S_, .f32⟩
  | .hbm, ⟨51, _⟩ => ⟨S33792x2816, .f32⟩
  | .hbm, ⟨52, _⟩ => ⟨S33792x2816, .f32⟩
  | .hbm, ⟨53, _⟩ => ⟨S33792x2816, .f32⟩
  | .hbm, ⟨54, _⟩ => ⟨S33792x2816, .f32⟩
  | .hbm, ⟨55, _⟩ => ⟨S33792x2816, .f32⟩
  | .hbm, ⟨56, _⟩ => ⟨S33792x1024, .f32⟩
  | .hbm, ⟨57, _⟩ => ⟨S33792x1024, .f32⟩
  | .hbm, ⟨58, _⟩ => ⟨S_, .f32⟩
  | .hbm, ⟨59, _⟩ => ⟨S33792, .f32⟩
  | .hbm, ⟨60, _⟩ => ⟨S33792x1, .f32⟩
  | .hbm, ⟨61, _⟩ => ⟨S_, .f32⟩
  | .hbm, ⟨62, _⟩ => ⟨S33792x1, .f32⟩
  | .hbm, ⟨63, _⟩ => ⟨S33792x1, .f32⟩
  | .hbm, ⟨64, _⟩ => ⟨S_, .f32⟩
  | .hbm, ⟨65, _⟩ => ⟨S33792x1, .f32⟩
  | .hbm, ⟨66, _⟩ => ⟨S33792x1, .f32⟩
  | .hbm, ⟨67, _⟩ => ⟨S33792x1, .f32⟩
  | .hbm, ⟨68, _⟩ => ⟨S33792x1024, .f32⟩
  | .hbm, ⟨69, _⟩ => ⟨S33792x1024, .f32⟩
  | .hbm, ⟨70, _⟩ => ⟨S1x1024, .f32⟩
  | .hbm, ⟨71, _⟩ => ⟨S33792x1024, .f32⟩
  | .hbm, ⟨72, _⟩ => ⟨S33792x1024, .f32⟩
  | .hbm, ⟨73, _⟩ => ⟨S_, .f32⟩
  | .hbm, ⟨74, _⟩ => ⟨S33792x1024, .f32⟩
  | .hbm, ⟨75, _⟩ => ⟨S33792x1024, .f32⟩
  | .hbm, ⟨76, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== AttnProj.lean ====
abbrev S33792x1024 : Shape := ⟨2, ![33792, 1024]⟩
abbrev S1024 : Shape := ⟨1, ![1024]⟩
abbrev S1024x3088 : Shape := ⟨2, ![1024, 3088]⟩
abbrev S16 : Shape := ⟨1, ![16]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S16x1024 : Shape := ⟨2, ![16, 1024]⟩
abbrev S1x16 : Shape := ⟨2, ![1, 16]⟩
abbrev S16x1 : Shape := ⟨2, ![16, 1]⟩
abbrev S1x1024 : Shape := ⟨2, ![1, 1024]⟩
abbrev S33792x16 : Shape := ⟨2, ![33792, 16]⟩
abbrev S16x33792 : Shape := ⟨2, ![16, 33792]⟩
abbrev S512x1024 : Shape := ⟨2, ![512, 1024]⟩
abbrev S512x16 : Shape := ⟨2, ![512, 16]⟩
abbrev S16x512 : Shape := ⟨2, ![16, 512]⟩
abbrev S512 : Shape := ⟨1, ![512]⟩
abbrev S512x1 : Shape := ⟨2, ![512, 1]⟩
abbrev S512x128 : Shape := ⟨2, ![512, 128]⟩

abbrev nBuf : Space → Nat
  | .hbm => 27
  | .vmem => 24
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S16x1024, .f32⟩
  | .hbm, ⟨16, _⟩ => ⟨S16x1024, .bf16⟩
  | .hbm, ⟨17, _⟩ => ⟨S1x16, .f32⟩
  | .hbm, ⟨18, _⟩ => ⟨S16x1, .f32⟩
  | .hbm, ⟨19, _⟩ => ⟨S1x1024, .f32⟩
  | .hbm, ⟨20, _⟩ => ⟨S33792x1024, .bf16⟩
  | .hbm, ⟨21, _⟩ => ⟨S33792x1024, .f32⟩
  | .hbm, ⟨22, _⟩ => ⟨S33792x1024, .f32⟩
  | .hbm, ⟨23, _⟩ => ⟨S33792x1024, .bf16⟩
  | .hbm, ⟨24, _⟩ => ⟨S33792x1024, .bf16⟩
  | .hbm, ⟨25, _⟩ => ⟨S33792x16, .f32⟩
  | .hbm, ⟨26, _⟩ => ⟨S16x33792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S16x1024, .bf16⟩
  | .local _ .vmem, ⟨8, _⟩ => ⟨S1x16, .f32⟩
  | .local _ .vmem, ⟨9, _⟩ => ⟨S16x1, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x16, .f32⟩
  | .local _ .vmem, ⟨21, _⟩ => ⟨S512x16, .f32⟩
  | .local _ .vmem, ⟨22, _⟩ => ⟨S16x512, .f32⟩
  | .local _ .vmem, ⟨23, _⟩ => ⟨S16x512, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev main_v14_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AttnProjIdeal.lean ====
abbrev S33792x1024 : Shape := ⟨2, ![33792, 1024]⟩
abbrev S1024 : Shape := ⟨1, ![1024]⟩
abbrev S1024x3088 : Shape := ⟨2, ![1024, 3088]⟩
abbrev S16 : Shape := ⟨1, ![16]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S16x1024 : Shape := ⟨2, ![16, 1024]⟩
abbrev S1x16 : Shape := ⟨2, ![1, 16]⟩
abbrev S16x1 : Shape := ⟨2, ![16, 1]⟩
abbrev S1x1024 : Shape := ⟨2, ![1, 1024]⟩
abbrev S33792x16 : Shape := ⟨2, ![33792, 16]⟩
abbrev S16x33792 : Shape := ⟨2, ![16, 33792]⟩
abbrev S512x1024 : Shape := ⟨2, ![512, 1024]⟩
abbrev S512x16 : Shape := ⟨2, ![512, 16]⟩
abbrev S16x512 : Shape := ⟨2, ![16, 512]⟩
abbrev S512 : Shape := ⟨1, ![512]⟩
abbrev S512x1 : Shape := ⟨2, ![512, 1]⟩
abbrev S512x128 : Shape := ⟨2, ![512, 128]⟩

abbrev nBuf : Space → Nat
  | .hbm => 27
  | .vmem => 24
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S16x1024, .f32⟩
  | .hbm, ⟨16, _⟩ => ⟨S16x1024, .bf16⟩
  | .hbm, ⟨17, _⟩ => ⟨S1x16, .f32⟩
  | .hbm, ⟨18, _⟩ => ⟨S16x1, .f32⟩
  | .hbm, ⟨19, _⟩ => ⟨S1x1024, .f32⟩
  | .hbm, ⟨20, _⟩ => ⟨S33792x1024, .bf16⟩
  | .hbm, ⟨21, _⟩ => ⟨S33792x1024, .f32⟩
  | .hbm, ⟨22, _⟩ => ⟨S33792x1024, .f32⟩
  | .hbm, ⟨23, _⟩ => ⟨S33792x1024, .bf16⟩
  | .hbm, ⟨24, _⟩ => ⟨S33792x1024, .bf16⟩
  | .hbm, ⟨25, _⟩ => ⟨S33792x16, .f32⟩
  | .hbm, ⟨26, _⟩ => ⟨S16x33792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S16x1024, .bf16⟩
  | .local _ .vmem, ⟨8, _⟩ => ⟨S1x16, .f32⟩
  | .local _ .vmem, ⟨9, _⟩ => ⟨S16x1, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x16, .f32⟩
  | .local _ .vmem, ⟨21, _⟩ => ⟨S512x16, .f32⟩
  | .local _ .vmem, ⟨22, _⟩ => ⟨S16x512, .f32⟩
  | .local _ .vmem, ⟨23, _⟩ => ⟨S16x512, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev main_v14_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AttnProjRefIdeal.lean ====
abbrev S33792x1024 : Shape := ⟨2, ![33792, 1024]⟩
abbrev S1024 : Shape := ⟨1, ![1024]⟩
abbrev S1024x3088 : Shape := ⟨2, ![1024, 3088]⟩
abbrev S16 : Shape := ⟨1, ![16]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x3088 : Shape := ⟨2, ![33792, 3088]⟩
abbrev S33792x16 : Shape := ⟨2, ![33792, 16]⟩
abbrev S1x16 : Shape := ⟨2, ![1, 16]⟩
abbrev S16x33792 : Shape := ⟨2, ![16, 33792]⟩

abbrev nBuf : Space → Nat
  | .hbm => 51
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S33792x1024, .f32⟩
  | .hbm, ⟨5, _⟩ => ⟨S_, .f32⟩
  | .hbm, ⟨6, _⟩ => ⟨S33792, .f32⟩
  | .hbm, ⟨7, _⟩ => ⟨S33792x1, .f32⟩
  | .hbm, ⟨8, _⟩ => ⟨S_, .f32⟩
  | .hbm, ⟨9, _⟩ => ⟨S33792x1, .f32⟩
  | .hbm, ⟨10, _⟩ => ⟨S33792x1, .f32⟩
  | .hbm, ⟨11, _⟩ => ⟨S_, .f32⟩
  | .hbm, ⟨12, _⟩ => ⟨S33792x1, .f32⟩
  | .hbm, ⟨13, _⟩ => ⟨S33792x1, .f32⟩
  | .hbm, ⟨14, _⟩ => ⟨S33792x1, .f32⟩
  | .hbm, ⟨15, _⟩ => ⟨S33792x1024, .f32⟩
  | .hbm, ⟨16, _⟩ => ⟨S33792x1024, .f32⟩
  | .hbm, ⟨17, _⟩ => ⟨S1x1024, .f32⟩
  | .hbm, ⟨18, _⟩ => ⟨S33792x1024, .f32⟩
  | .hbm, ⟨19, _⟩ => ⟨S33792x1024, .f32⟩
  | .hbm, ⟨20, _⟩ => ⟨S33792x3088, .f32⟩
  | .hbm, ⟨21, _⟩ => ⟨S33792x1024, .f32⟩
  | .hbm, ⟨22, _⟩ => ⟨S33792x1024, .f32⟩
  | .hbm, ⟨23, _⟩ => ⟨S33792x1024, .f32⟩
  | .hbm, ⟨24, _⟩ => ⟨S33792x16, .f32⟩
  | .hbm, ⟨25, _⟩ => ⟨S1x16, .f32⟩
  | .hbm, ⟨26, _⟩ => ⟨S33792x16, .f32⟩
  | .hbm, ⟨27, _⟩ => ⟨S33792x16, .f32⟩
  | .hbm, ⟨28, _⟩ => ⟨S33792x16, .f32⟩
  | .hbm, ⟨29, _⟩ => ⟨S_, .f32⟩
  | .hbm, ⟨30, _⟩ => ⟨S33792x16, .f32⟩
  | .hbm, ⟨31, _⟩ => ⟨S33792x16, .f32⟩
  | .hbm, ⟨32, _⟩ => ⟨S33792x16, .f32⟩
  | .hbm, ⟨33, _⟩ => ⟨S33792x16, .f32⟩
  | .hbm, ⟨34, _⟩ => ⟨S33792x16, .i1⟩
  | .hbm, ⟨35, _⟩ => ⟨S33792x16, .f32⟩
  | .hbm, ⟨36, _⟩ => ⟨S33792x16, .f32⟩
  | .hbm, ⟨37, _⟩ => ⟨S33792x16, .f32⟩
  | .hbm, ⟨38, _⟩ => ⟨S33792x16, .f32⟩
  | .hbm, ⟨39, _⟩ => ⟨S33792x16, .f32⟩
  | .hbm, ⟨40, _⟩ => ⟨S33792x16, .f32⟩
  | .hbm, ⟨41, _⟩ => ⟨S33792x16, .f32⟩
  | .hbm, ⟨42, _⟩ => ⟨S33792x16, .f32⟩
  | .hbm, ⟨43, _⟩ => ⟨S33792x16, .f32⟩
  | .hbm, ⟨44, _⟩ => ⟨S_, .f32⟩
  | .hbm, ⟨45, _⟩ => ⟨S33792x1024, .f32⟩
  | .hbm, ⟨46, _⟩ => ⟨S33792x1024, .f32⟩
  | .hbm, ⟨47, _⟩ => ⟨S33792x1024, .bf16⟩
  | .hbm, ⟨48, _⟩ => ⟨S33792x1024, .bf16⟩
  | .hbm, ⟨49, _⟩ => ⟨S33792x1024, .bf16⟩
  | .hbm, ⟨50, _⟩ => ⟨S16x33792, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== KeyBias.lean ====
abbrev S16x33792 : Shape := ⟨2, ![16, 33792]⟩
abbrev S16x4224 : Shape := ⟨2, ![16, 4224]⟩
abbrev S16x128 : Shape := ⟨2, ![16, 128]⟩
abbrev S16x1 : Shape := ⟨2, ![16, 1]⟩

abbrev nBuf : Space → Nat
  | .hbm => 2
  | .vmem => 4
  | .smem => 0
  | _ => 0

abbrev bufTy : (tb : Table) → Fin (tcTables nBuf tb) → BufTy
  | .hbm, ⟨0, _⟩ => ⟨S16x33792, .f32⟩
  | .hbm, ⟨1, _⟩ => ⟨S16x33792, .f32⟩
  | .local _ .vmem, ⟨0, _⟩ => ⟨S16x4224, .f32⟩
  | .local _ .vmem, ⟨1, _⟩ => ⟨S16x4224, .f32⟩
  | .local _ .vmem, ⟨2, _⟩ => ⟨S16x4224, .f32⟩
  | .local _ .vmem, ⟨3, _⟩ => ⟨S16x4224, .f32⟩
  | _, _ => ⟨S16x33792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x4224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KeyBiasIdeal.lean ====
variable {F : FTy → Type} [FloatOps F] [Named F]
def κ : String → Option EReal := fun
  | "mask" => some ⊥
  | _ => none
-- ==== KeyBiasRefIdeal.lean ====
abbrev S16x33792 : Shape := ⟨2, ![16, 33792]⟩
abbrev S16x8x4224 : Shape := ⟨3, ![16, 8, 4224]⟩
abbrev S16x8x4112 : Shape := ⟨3, ![16, 8, 4112]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16x33792, .f32⟩
  | .hbm, ⟨1, _⟩ => ⟨S16x8x4224, .f32⟩
  | .hbm, ⟨2, _⟩ => ⟨S16x8x4112, .f32⟩
  | .hbm, ⟨3, _⟩ => ⟨S_, .f32⟩
  | .hbm, ⟨4, _⟩ => ⟨S_, .f32⟩
  | .hbm, ⟨5, _⟩ => ⟨S16x8x4112, .f32⟩
  | .hbm, ⟨6, _⟩ => ⟨S16x8x4112, .f32⟩
  | .hbm, ⟨7, _⟩ => ⟨S_, .f32⟩
  | .hbm, ⟨8, _⟩ => ⟨S_, .f32⟩
  | .hbm, ⟨9, _⟩ => ⟨S16x8x4224, .f32⟩
  | .hbm, ⟨10, _⟩ => ⟨S16x33792, .f32⟩
  | _, _ => ⟨S16x33792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_call0_cst : Ref sig .tc := ⟨.hbm, 3, rfl⟩
abbrev main_call0_call0_v0 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_call1_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== ConvProj.lean ====
abbrev S33792x1024 : Shape := ⟨2, ![33792, 1024]⟩
abbrev S1024 : Shape := ⟨1, ![1024]⟩
abbrev S1024x3072 : Shape := ⟨2, ![1024, 3072]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x3072, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S33792x1024, .bf16⟩
  | .hbm, ⟨11, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvProjIdeal.lean ====
abbrev S33792x1024 : Shape := ⟨2, ![33792, 1024]⟩
abbrev S1024 : Shape := ⟨1, ![1024]⟩
abbrev S1024x3072 : Shape := ⟨2, ![1024, 3072]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x3072, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S33792x1024, .bf16⟩
  | .hbm, ⟨11, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvProjRefIdeal.lean ====
abbrev S33792x1024 : Shape := ⟨2, ![33792, 1024]⟩
abbrev S1024 : Shape := ⟨1, ![1024]⟩
abbrev S1024x3072 : Shape := ⟨2, ![1024, 3072]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x3072 : Shape := ⟨2, ![33792, 3072]⟩

abbrev nBuf : Space → Nat
  | .hbm => 25
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x3072, .f32⟩
  | .hbm, ⟨3, _⟩ => ⟨S33792x1024, .f32⟩
  | .hbm, ⟨4, _⟩ => ⟨S_, .f32⟩
  | .hbm, ⟨5, _⟩ => ⟨S33792, .f32⟩
  | .hbm, ⟨6, _⟩ => ⟨S33792x1, .f32⟩
  | .hbm, ⟨7, _⟩ => ⟨S_, .f32⟩
  | .hbm, ⟨8, _⟩ => ⟨S33792x1, .f32⟩
  | .hbm, ⟨9, _⟩ => ⟨S33792x1, .f32⟩
  | .hbm, ⟨10, _⟩ => ⟨S_, .f32⟩
  | .hbm, ⟨11, _⟩ => ⟨S33792x1, .f32⟩
  | .hbm, ⟨12, _⟩ => ⟨S33792x1, .f32⟩
  | .hbm, ⟨13, _⟩ => ⟨S33792x1, .f32⟩
  | .hbm, ⟨14, _⟩ => ⟨S33792x1024, .f32⟩
  | .hbm, ⟨15, _⟩ => ⟨S33792x1024, .f32⟩
  | .hbm, ⟨16, _⟩ => ⟨S1x1024, .f32⟩
  | .hbm, ⟨17, _⟩ => ⟨S33792x1024, .f32⟩
  | .hbm, ⟨18, _⟩ => ⟨S33792x1024, .f32⟩
  | .hbm, ⟨19, _⟩ => ⟨S33792x3072, .f32⟩
  | .hbm, ⟨20, _⟩ => ⟨S33792x1024, .f32⟩
  | .hbm, ⟨21, _⟩ => ⟨S33792x1024, .f32⟩
  | .hbm, ⟨22, _⟩ => ⟨S33792x1024, .f32⟩
  | .hbm, ⟨23, _⟩ => ⟨S33792x1024, .bf16⟩
  | .hbm, ⟨24, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== ConvGate.lean ====
abbrev S33792x1024 : Shape := ⟨2, ![33792, 1024]⟩
abbrev S3x1024 : Shape := ⟨2, ![3, 1024]⟩
abbrev S1024x1024 : Shape := ⟨2, ![1024, 1024]⟩
abbrev S8x1024 : Shape := ⟨2, ![8, 1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S33792x1024, .bf16⟩
  | .hbm, ⟨1, _⟩ => ⟨S33792x1024, .f32⟩
  | .hbm, ⟨2, _⟩ => ⟨S3x1024, .f32⟩
  | .hbm, ⟨3, _⟩ => ⟨S33792x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S3x1024, .f32⟩
  | .local _ .vmem, ⟨7, _⟩ => ⟨S1024x1024, .bf16⟩
  | .local _ .vmem, ⟨8, _⟩ => ⟨S1024x1024, .bf16⟩
  | _, _ => ⟨S33792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvGateRefIdeal.lean ====
abbrev S33792x1024 : Shape := ⟨2, ![33792, 1024]⟩
abbrev S3x1024 : Shape := ⟨2, ![3, 1024]⟩
abbrev S_ : Shape := ⟨0, ![]⟩
abbrev S8x2x1024 : Shape := ⟨3, ![8, 2, 1024]⟩
abbrev S8x4224x1024 : Shape := ⟨3, ![8, 4224, 1024]⟩
abbrev S8x4112x1024 : Shape := ⟨3, ![8, 4112, 1024]⟩
abbrev S8x4114x1024 : Shape := ⟨3, ![8, 4114, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S33792x1024, .bf16⟩
  | .hbm, ⟨1, _⟩ => ⟨S33792x1024, .f32⟩
  | .hbm, ⟨2, _⟩ => ⟨S3x1024, .f32⟩
  | .hbm, ⟨3, _⟩ => ⟨S_, .f32⟩
  | .hbm, ⟨4, _⟩ => ⟨S8x2x1024, .f32⟩
  | .hbm, ⟨5, _⟩ => ⟨S8x4224x1024, .f32⟩
  | .hbm, ⟨6, _⟩ => ⟨S8x4112x1024, .f32⟩
  | .hbm, ⟨7, _⟩ => ⟨S8x4114x1024, .f32⟩
  | .hbm, ⟨8, _⟩ => ⟨S33792x1024, .f32⟩
  | .hbm, ⟨9, _⟩ => ⟨S8x4224x1024, .f32⟩
  | .hbm, ⟨10, _⟩ => ⟨S8x4112x1024, .f32⟩
  | .hbm, ⟨11, _⟩ => ⟨S1x1024, .f32⟩
  | .hbm, ⟨12, _⟩ => ⟨S1024, .f32⟩
  | .hbm, ⟨13, _⟩ => ⟨S8x4112x1024, .f32⟩
  | .hbm, ⟨14, _⟩ => ⟨S1x1x1024, .f32⟩
  | .hbm, ⟨15, _⟩ => ⟨S8x4112x1024, .f32⟩
  | .hbm, ⟨16, _⟩ => ⟨S8x4112x1024, .f32⟩
  | .hbm, ⟨17, _⟩ => ⟨S1x1024, .f32⟩
  | .hbm, ⟨18, _⟩ => ⟨S1024, .f32⟩
  | .hbm, ⟨19, _⟩ => ⟨S8x4112x1024, .f32⟩
  | .hbm, ⟨20, _⟩ => ⟨S1x1x1024, .f32⟩
  | .hbm, ⟨21, _⟩ => ⟨S8x4112x1024, .f32⟩
  | .hbm, ⟨22, _⟩ => ⟨S8x4112x1024, .f32⟩
  | .hbm, ⟨23, _⟩ => ⟨S8x4112x1024, .f32⟩
  | .hbm, ⟨24, _⟩ => ⟨S1x1024, .f32⟩
  | .hbm, ⟨25, _⟩ => ⟨S1024, .f32⟩
  | .hbm, ⟨26, _⟩ => ⟨S8x4112x1024, .f32⟩
  | .hbm, ⟨27, _⟩ => ⟨S1x1x1024, .f32⟩
  | .hbm, ⟨28, _⟩ => ⟨S8x4112x1024, .f32⟩
  | .hbm, ⟨29, _⟩ => ⟨S8x4112x1024, .f32⟩
  | .hbm, ⟨30, _⟩ => ⟨S8x4112x1024, .f32⟩
  | .hbm, ⟨31, _⟩ => ⟨S8x4112x1024, .f32⟩
  | .hbm, ⟨32, _⟩ => ⟨S_, .i32⟩
  | .hbm, ⟨33, _⟩ => ⟨S_, .f32⟩
  | .hbm, ⟨34, _⟩ => ⟨S8x4224x1024, .f32⟩
  | .hbm, ⟨35, _⟩ => ⟨S33792x1024, .f32⟩
  | .hbm, ⟨36, _⟩ => ⟨S33792x1024, .bf16⟩
  | _, _ => ⟨S33792x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c : Ref sig .tc := ⟨.hbm, 32, rfl⟩
abbrev main_call0_v0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== ConvGateSample.lean ====
abbrev S128x1024 : Shape := ⟨2, ![128, 1024]⟩
abbrev S32x2x1024 : Shape := ⟨3, ![32, 2, 1024]⟩
abbrev S3x1024 : Shape := ⟨2, ![3, 1024]⟩
abbrev S32x4x1024 : Shape := ⟨3, ![32, 4, 1024]⟩
abbrev S4x32x1024 : Shape := ⟨3, ![4, 32, 1024]⟩
abbrev S2x32x1024 : Shape := ⟨3, ![2, 32, 1024]⟩
abbrev S1x32x1024 : Shape := ⟨3, ![1, 32, 1024]⟩
abbrev S32x1024 : Shape := ⟨2, ![32, 1024]⟩
abbrev S1x1024 : Shape := ⟨2, ![1, 1024]⟩

abbrev nBuf : Space → Nat
  | .hbm => 10
  | .vmem => 5
  | .smem => 0
  | _ => 0

abbrev bufTy : (tb : Table) → Fin (tcTables nBuf tb) → BufTy
  | .hbm, ⟨0, _⟩ => ⟨S128x1024, .bf16⟩
  | .hbm, ⟨1, _⟩ => ⟨S128x1024, .f32⟩
  | .hbm, ⟨2, _⟩ => ⟨S32x2x1024, .f32⟩
  | .hbm, ⟨3, _⟩ => ⟨S3x1024, .f32⟩
  | .hbm, ⟨4, _⟩ => ⟨S32x4x1024, .bf16⟩
  | .hbm, ⟨5, _⟩ => ⟨S4x32x1024, .bf16⟩
  | .hbm, ⟨6, _⟩ => ⟨S32x4x1024, .f32⟩
  | .hbm, ⟨7, _⟩ => ⟨S4x32x1024, .f32⟩
  | .hbm, ⟨8, _⟩ => ⟨S2x32x1024, .f32⟩
  | .hbm, ⟨9, _⟩ => ⟨S4x32x1024, .bf16⟩
  | .local _ .vmem, ⟨0, _⟩ => ⟨S4x32x1024, .bf16⟩
  | .local _ .vmem, ⟨1, _⟩ => ⟨S4x32x1024, .f32⟩
  | .local _ .vmem, ⟨2, _⟩ => ⟨S2x32x1024, .f32⟩
  | .local _ .vmem, ⟨3, _⟩ => ⟨S3x1024, .f32⟩
  | .local _ .vmem, ⟨4, _⟩ => ⟨S4x32x1024, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ConvGateSampleRefIdeal.lean ====
abbrev S128x1024 : Shape := ⟨2, ![128, 1024]⟩
abbrev S32x2x1024 : Shape := ⟨3, ![32, 2, 1024]⟩
abbrev S3x1024 : Shape := ⟨2, ![3, 1024]⟩
abbrev S32x4x1024 : Shape := ⟨3, ![32, 4, 1024]⟩
abbrev S32x6x1024 : Shape := ⟨3, ![32, 6, 1024]⟩
abbrev S1x1024 : Shape := ⟨2, ![1, 1024]⟩
abbrev S1024 : Shape := ⟨1, ![1024]⟩
abbrev S1x1x1024 : Shape := ⟨3, ![1, 1, 1024]⟩
abbrev S4x32x1024 : Shape := ⟨3, ![4, 32, 1024]⟩

abbrev nBuf : Space → Nat
  | .hbm => 31
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x1024, .f32⟩
  | .hbm, ⟨2, _⟩ => ⟨S32x2x1024, .f32⟩
  | .hbm, ⟨3, _⟩ => ⟨S3x1024, .f32⟩
  | .hbm, ⟨4, _⟩ => ⟨S32x4x1024, .f32⟩
  | .hbm, ⟨5, _⟩ => ⟨S32x6x1024, .f32⟩
  | .hbm, ⟨6, _⟩ => ⟨S1x1024, .f32⟩
  | .hbm, ⟨7, _⟩ => ⟨S1024, .f32⟩
  | .hbm, ⟨8, _⟩ => ⟨S32x4x1024, .f32⟩
  | .hbm, ⟨9, _⟩ => ⟨S1x1x1024, .f32⟩
  | .hbm, ⟨10, _⟩ => ⟨S32x4x1024, .f32⟩
  | .hbm, ⟨11, _⟩ => ⟨S32x4x1024, .f32⟩
  | .hbm, ⟨12, _⟩ => ⟨S1x1024, .f32⟩
  | .hbm, ⟨13, _⟩ => ⟨S1024, .f32⟩
  | .hbm, ⟨14, _⟩ => ⟨S32x4x1024, .f32⟩
  | .hbm, ⟨15, _⟩ => ⟨S1x1x1024, .f32⟩
  | .hbm, ⟨16, _⟩ => ⟨S32x4x1024, .f32⟩
  | .hbm, ⟨17, _⟩ => ⟨S32x4x1024, .f32⟩
  | .hbm, ⟨18, _⟩ => ⟨S32x4x1024, .f32⟩
  | .hbm, ⟨19, _⟩ => ⟨S1x1024, .f32⟩
  | .hbm, ⟨20, _⟩ => ⟨S1024, .f32⟩
  | .hbm, ⟨21, _⟩ => ⟨S32x4x1024, .f32⟩
  | .hbm, ⟨22, _⟩ => ⟨S1x1x1024, .f32⟩
  | .hbm, ⟨23, _⟩ => ⟨S32x4x1024, .f32⟩
  | .hbm, ⟨24, _⟩ => ⟨S32x4x1024, .f32⟩
  | .hbm, ⟨25, _⟩ => ⟨S32x4x1024, .f32⟩
  | .hbm, ⟨26, _⟩ => ⟨S128x1024, .f32⟩
  | .hbm, ⟨27, _⟩ => ⟨S32x4x1024, .f32⟩
  | .hbm, ⟨28, _⟩ => ⟨S32x4x1024, .f32⟩
  | .hbm, ⟨29, _⟩ => ⟨S32x4x1024, .bf16⟩
  | .hbm, ⟨30, _⟩ => ⟨S4x32x1024, .bf16⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== ConvProjSample.lean ====
abbrev S128x1024 : Shape := ⟨2, ![128, 1024]⟩
abbrev S1024 : Shape := ⟨1, ![1024]⟩
abbrev S1024x3072 : Shape := ⟨2, ![1024, 3072]⟩
abbrev S1024x1024 : Shape := ⟨2, ![1024, 1024]⟩
abbrev S1x1024 : Shape := ⟨2, ![1, 1024]⟩
abbrev S128 : Shape := ⟨1, ![128]⟩
abbrev S128x1 : Shape := ⟨2, ![128, 1]⟩

abbrev nBuf : Space → Nat
  | .hbm => 12
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3072, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S128x1024, .bf16⟩
  | .hbm, ⟨11, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S128x1024, .bf16⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ConvProjSampleRefIdeal.lean ====
abbrev S128x1024 : Shape := ⟨2, ![128, 1024]⟩
abbrev S1024 : Shape := ⟨1, ![1024]⟩
abbrev S1024x3072 : Shape := ⟨2, ![1024, 3072]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x3072 : Shape := ⟨2, ![128, 3072]⟩

abbrev nBuf : Space → Nat
  | .hbm => 25
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3072, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x3072, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .bf16⟩
  | .hbm, ⟨24, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== AttnProjSample.lean ====
abbrev S128x1024 : Shape := ⟨2, ![128, 1024]⟩
abbrev S1024 : Shape := ⟨1, ![1024]⟩
abbrev S1024x3088 : Shape := ⟨2, ![1024, 3088]⟩
abbrev S16 : Shape := ⟨1, ![16]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S16x1024 : Shape := ⟨2, ![16, 1024]⟩
abbrev S1x16 : Shape := ⟨2, ![1, 16]⟩
abbrev S16x1 : Shape := ⟨2, ![16, 1]⟩
abbrev S1x1024 : Shape := ⟨2, ![1, 1024]⟩
abbrev S128x16 : Shape := ⟨2, ![128, 16]⟩
abbrev S16x128 : Shape := ⟨2, ![16, 128]⟩
abbrev S128 : Shape := ⟨1, ![128]⟩
abbrev S128x1 : Shape := ⟨2, ![128, 1]⟩
abbrev S128x128 : Shape := ⟨2, ![128, 128]⟩

abbrev nBuf : Space → Nat
  | .hbm => 27
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S16x1024, .f32⟩
  | .hbm, ⟨16, _⟩ => ⟨S16x1024, .bf16⟩
  | .hbm, ⟨17, _⟩ => ⟨S1x16, .f32⟩
  | .hbm, ⟨18, _⟩ => ⟨S16x1, .f32⟩
  | .hbm, ⟨19, _⟩ => ⟨S1x1024, .f32⟩
  | .hbm, ⟨20, _⟩ => ⟨S128x1024, .bf16⟩
  | .hbm, ⟨21, _⟩ => ⟨S128x1024, .f32⟩
  | .hbm, ⟨22, _⟩ => ⟨S128x1024, .f32⟩
  | .hbm, ⟨23, _⟩ => ⟨S128x1024, .bf16⟩
  | .hbm, ⟨24, _⟩ => ⟨S128x1024, .bf16⟩
  | .hbm, ⟨25, _⟩ => ⟨S128x16, .f32⟩
  | .hbm, ⟨26, _⟩ => ⟨S16x128, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S16x1024, .bf16⟩
  | .local _ .vmem, ⟨7, _⟩ => ⟨S1x16, .f32⟩
  | .local _ .vmem, ⟨8, _⟩ => ⟨S16x1, .f32⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x1024, .bf16⟩
  | .local _ .vmem, ⟨13, _⟩ => ⟨S128x1024, .bf16⟩
  | .local _ .vmem, ⟨14, _⟩ => ⟨S128x16, .f32⟩
  | .local _ .vmem, ⟨15, _⟩ => ⟨S16x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev main_v14_6 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S16x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== AttnProjSampleRefIdeal.lean ====
abbrev S128x1024 : Shape := ⟨2, ![128, 1024]⟩
abbrev S1024 : Shape := ⟨1, ![1024]⟩
abbrev S1024x3088 : Shape := ⟨2, ![1024, 3088]⟩
abbrev S16 : Shape := ⟨1, ![16]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x3088 : Shape := ⟨2, ![128, 3088]⟩
abbrev S128x16 : Shape := ⟨2, ![128, 16]⟩
abbrev S1x16 : Shape := ⟨2, ![1, 16]⟩
abbrev S16x128 : Shape := ⟨2, ![16, 128]⟩

abbrev nBuf : Space → Nat
  | .hbm => 51
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x3088, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x16, .f32⟩
  | .hbm, ⟨25, _⟩ => ⟨S1x16, .f32⟩
  | .hbm, ⟨26, _⟩ => ⟨S128x16, .f32⟩
  | .hbm, ⟨27, _⟩ => ⟨S128x16, .f32⟩
  | .hbm, ⟨28, _⟩ => ⟨S128x16, .f32⟩
  | .hbm, ⟨29, _⟩ => ⟨S_, .f32⟩
  | .hbm, ⟨30, _⟩ => ⟨S128x16, .f32⟩
  | .hbm, ⟨31, _⟩ => ⟨S128x16, .f32⟩
  | .hbm, ⟨32, _⟩ => ⟨S128x16, .f32⟩
  | .hbm, ⟨33, _⟩ => ⟨S128x16, .f32⟩
  | .hbm, ⟨34, _⟩ => ⟨S128x16, .i1⟩
  | .hbm, ⟨35, _⟩ => ⟨S128x16, .f32⟩
  | .hbm, ⟨36, _⟩ => ⟨S128x16, .f32⟩
  | .hbm, ⟨37, _⟩ => ⟨S128x16, .f32⟩
  | .hbm, ⟨38, _⟩ => ⟨S128x16, .f32⟩
  | .hbm, ⟨39, _⟩ => ⟨S128x16, .f32⟩
  | .hbm, ⟨40, _⟩ => ⟨S128x16, .f32⟩
  | .hbm, ⟨41, _⟩ => ⟨S128x16, .f32⟩
  | .hbm, ⟨42, _⟩ => ⟨S128x16, .f32⟩
  | .hbm, ⟨43, _⟩ => ⟨S128x16, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .bf16⟩
  | .hbm, ⟨48, _⟩ => ⟨S128x1024, .bf16⟩
  | .hbm, ⟨49, _⟩ => ⟨S128x1024, .bf16⟩
  | .hbm, ⟨50, _⟩ => ⟨S16x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== FfnMixSample.lean ====
abbrev S128x1024 : Shape := ⟨2, ![128, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S128x2816 : Shape := ⟨2, ![128, 2816]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩

abbrev nBuf : Space → Nat
  | .hbm => 17
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1024x1024, .bf16⟩
  | .hbm, ⟨15, _⟩ => ⟨S1x1024, .f32⟩
  | .hbm, ⟨16, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S128x1024, .f32⟩
  | .local _ .vmem, ⟨10, _⟩ => ⟨S128x2816, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FfnMixSampleRefIdeal.lean ====
abbrev S128x1024 : Shape := ⟨2, ![128, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2816 : Shape := ⟨2, ![128, 2816]⟩

abbrev nBuf : Space → Nat
  | .hbm => 77
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128, .f32⟩
  | .hbm, ⟨31, _⟩ => ⟨S128x1, .f32⟩
  | .hbm, ⟨32, _⟩ => ⟨S_, .f32⟩
  | .hbm, ⟨33, _⟩ => ⟨S128x1, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S128x1, .f32⟩
  | .hbm, ⟨39, _⟩ => ⟨S128x1024, .f32⟩
  | .hbm, ⟨40, _⟩ => ⟨S128x1024, .f32⟩
  | .hbm, ⟨41, _⟩ => ⟨S1x1024, .f32⟩
  | .hbm, ⟨42, _⟩ => ⟨S128x1024, .f32⟩
  | .hbm, ⟨43, _⟩ => ⟨S128x1024, .f32⟩
  | .hbm, ⟨44, _⟩ => ⟨S128x2816, .f32⟩
  | .hbm, ⟨45, _⟩ => ⟨S128x2816, .f32⟩
  | .hbm, ⟨46, _⟩ => ⟨S128x2816, .f32⟩
  | .hbm, ⟨47, _⟩ => ⟨S_, .f32⟩
  | .hbm, ⟨48, _⟩ => ⟨S128x2816, .f32⟩
  | .hbm, ⟨49, _⟩ => ⟨S128x2816, .f32⟩
  | .hbm, ⟨50, _⟩ => ⟨S_, .f32⟩
  | .hbm, ⟨51, _⟩ => ⟨S128x2816, .f32⟩
  | .hbm, ⟨52, _⟩ => ⟨S128x2816, .f32⟩
  | .hbm, ⟨53, _⟩ => ⟨S128x2816, .f32⟩
  | .hbm, ⟨54, _⟩ => ⟨S128x2816, .f32⟩
  | .hbm, ⟨55, _⟩ => ⟨S128x2816, .f32⟩
  | .hbm, ⟨56, _⟩ => ⟨S128x1024, .f32⟩
  | .hbm, ⟨57, _⟩ => ⟨S128x1024, .f32⟩
  | .hbm, ⟨58, _⟩ => ⟨S_, .f32⟩
  | .hbm, ⟨59, _⟩ => ⟨S128, .f32⟩
  | .hbm, ⟨60, _⟩ => ⟨S128x1, .f32⟩
  | .hbm, ⟨61, _⟩ => ⟨S_, .f32⟩
  | .hbm, ⟨62, _⟩ => ⟨S128x1, .f32⟩
  | .hbm, ⟨63, _⟩ => ⟨S128x1, .f32⟩
  | .hbm, ⟨64, _⟩ => ⟨S_, .f32⟩
  | .hbm, ⟨65, _⟩ => ⟨S128x1, .f32⟩
  | .hbm, ⟨66, _⟩ => ⟨S128x1, .f32⟩
  | .hbm, ⟨67, _⟩ => ⟨S128x1, .f32⟩
  | .hbm, ⟨68, _⟩ => ⟨S128x1024, .f32⟩
  | .hbm, ⟨69, _⟩ => ⟨S128x1024, .f32⟩
  | .hbm, ⟨70, _⟩ => ⟨S1x1024, .f32⟩
  | .hbm, ⟨71, _⟩ => ⟨S128x1024, .f32⟩
  | .hbm, ⟨72, _⟩ => ⟨S128x1024, .f32⟩
  | .hbm, ⟨73, _⟩ => ⟨S_, .f32⟩
  | .hbm, ⟨74, _⟩ => ⟨S128x1024, .f32⟩
  | .hbm, ⟨75, _⟩ => ⟨S128x1024, .f32⟩
  | .hbm, ⟨76, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Proof.Attn.Softmax.lean ====
/- Softmax over the extended reals, pure mathematics: no program is mentioned here.

   A family of scores `s` over a finite set `S` of keys has the greatest score `S.sup s`, the mass
   `∑ exp (s k - S.sup s)` and, for values `v`, the mix `∑ exp (s k - S.sup s) * v k`. A masked key has the score `-∞`
   and weighs nothing. `mass_union` and `mix_union` are the law that a running softmax rests on: what is known of one set of
   keys, rescaled to the new greatest score, and what a second set adds, make what is known of both together. -/
module

public import Idealize.ShloMosaic.PureOps.Ideal
public import Mathlib.Data.EReal.Operations
public import Mathlib.Data.EReal.Inv

@[expose] public section

noncomputable section

namespace Cert.Attn

open Idealize.ShloMosaic

/-! ## The exponential of a difference -/

/-- The exponential is nowhere negative. -/
theorem exp_nonneg (x : EReal) : 0 ≤ Ideal.exp x := by
  induction x using EReal.rec with
  | bot => simp
  | top => simp
  | coe r => rw [Ideal.exp_coe]; exact_mod_cast (Real.exp_pos r).le

/-- A score that is not `+∞` has a finite exponential. -/
theorem exp_ne_top {x : EReal} (h : x ≠ ⊤) : Ideal.exp x ≠ ⊤ := by
  induction x using EReal.rec with
  | bot => simp
  | top => exact absurd rfl h
  | coe r => rw [Ideal.exp_coe]; exact EReal.coe_ne_top _

/-- `-∞` less anything is `-∞`. -/
theorem bot_sub' (x : EReal) : (⊥ : EReal) - x = ⊥ := by rw [sub_eq_add_neg, EReal.bot_add]

/-- A score below a greatest score that is not `+∞` lies a finite way, or infinitely far, below it. -/
theorem sub_ne_top {x M : EReal} (hx : x ≤ M) (hM : M ≠ ⊤) : x - M ≠ ⊤ := by
  induction x using EReal.rec with
  | bot => rw [bot_sub']; exact bot_ne_top
  | top => exact absurd (top_le_iff.mp hx) hM
  | coe r =>
    induction M using EReal.rec with
    | bot => exact absurd (le_bot_iff.mp hx) (EReal.coe_ne_bot r)
    | top => exact absurd rfl hM
    | coe b => rw [← EReal.coe_sub]; exact EReal.coe_ne_top _

/-- THE RESCALING LAW: a weight taken against the greatest score `M`, times the exponential of what `M` lies below a later
    greatest score `M'`, is the weight against `M'`. -/
theorem rescale {x M M' : EReal} (hx : x ≤ M) (hM : M ≤ M') (hM' : M' ≠ ⊤) :
    Ideal.exp (M - M') * Ideal.exp (x - M) = Ideal.exp (x - M') := by
  induction x using EReal.rec with
  | bot => simp only [bot_sub', Ideal.exp_bot, mul_zero]
  | top => exact absurd (top_le_iff.mp (hx.trans hM)) hM'
  | coe a =>
    induction M using EReal.rec with
    | bot => exact absurd (le_bot_iff.mp hx) (EReal.coe_ne_bot a)
    | top => exact absurd (top_le_iff.mp hM) hM'
    | coe b =>
      induction M' using EReal.rec with
      | bot => exact absurd (le_bot_iff.mp hM) (EReal.coe_ne_bot b)
      | top => exact absurd rfl hM'
      | coe c =>
        rw [← EReal.coe_sub, ← EReal.coe_sub, ← EReal.coe_sub, Ideal.exp_coe, Ideal.exp_coe, Ideal.exp_coe, ← EReal.coe_mul,
          ← Real.exp_add]
        congr 2; ring

/-! ## Sums -/

variable {κ : Type} [DecidableEq κ]

/-- A factor that is neither negative nor infinite goes into a finite sum. -/
theorem mul_sum_of_nonneg (S : Finset κ) {a : EReal} (h0 : 0 ≤ a) (ha : a ≠ ⊤) (f : κ → EReal) :
    a * ∑ k ∈ S, f k = ∑ k ∈ S, a * f k := by
  induction S using Finset.induction_on with
  | empty => simp
  | insert k S hk ih => rw [Finset.sum_insert hk, Finset.sum_insert hk, EReal.left_distrib_of_nonneg_of_ne_top h0 ha, ih]

/-- A sum of terms none of which is `+∞` is not `+∞`. -/
theorem sum_ne_top (S : Finset κ) (f : κ → EReal) (h : ∀ k ∈ S, f k ≠ ⊤) : ∑ k ∈ S, f k ≠ ⊤ := by
  induction S using Finset.induction_on with
  | empty => simp
  | insert k S hk ih =>
    rw [Finset.sum_insert hk]
    exact EReal.add_ne_top (h k (Finset.mem_insert_self k S)) (ih fun j hj => h j (Finset.mem_insert_of_mem hj))

/-- A finite sum of finite terms is finite. -/
theorem sum_coe (S : Finset κ) (f : κ → EReal) (h : ∀ k ∈ S, f k ≠ ⊥ ∧ f k ≠ ⊤) : ∑ k ∈ S, f k ≠ ⊥ ∧ ∑ k ∈ S, f k ≠ ⊤ := by
  induction S using Finset.induction_on with
  | empty => simp
  | insert k S hk ih =>
    rw [Finset.sum_insert hk]
    have h1 := h k (Finset.mem_insert_self k S)
    have h2 := ih fun j hj => h j (Finset.mem_insert_of_mem hj)
    exact ⟨EReal.add_ne_bot_iff.mpr ⟨h1.1, h2.1⟩, EReal.add_ne_top h1.2 h2.2⟩

/-! ## Mass and mix -/

/-- The sum of the keys' weights against their greatest score. -/
def mass (S : Finset κ) (s : κ → EReal) : EReal := ∑ k ∈ S, Ideal.exp (s k - S.sup s)

/-- The keys' values, weighted and added up. -/
def mix (S : Finset κ) (s v : κ → EReal) : EReal := ∑ k ∈ S, Ideal.exp (s k - S.sup s) * v k

/-- No key at all has no mass. -/
theorem mass_empty (s : κ → EReal) : mass ∅ s = 0 := by simp [mass]

/-- No key at all mixes to nothing. -/
theorem mix_empty (s v : κ → EReal) : mix ∅ s v = 0 := by simp [mix]

/-- The greatest of finitely many scores, none `+∞`, is not `+∞`. -/
theorem sup_ne_top (S : Finset κ) (s : κ → EReal) (h : ∀ k ∈ S, s k ≠ ⊤) : S.sup s ≠ ⊤ := by
  refine ne_of_lt ((Finset.sup_lt_iff (by exact bot_lt_top)).mpr fun k hk => lt_top_iff_ne_top.mpr (h k hk))

/-- The factor that carries old weights to a later greatest score is finite and not negative. -/
theorem factor_ne_top {M M' : EReal} (hM : M ≤ M') (hM' : M' ≠ ⊤) : Ideal.exp (M - M') ≠ ⊤ := exp_ne_top (sub_ne_top hM hM')

/-- THE RUNNING MASS: the first set's mass, rescaled, and the second set's weights, are the mass of both. -/
theorem mass_union {S T : Finset κ} (hd : Disjoint S T) (s : κ → EReal) (h : ∀ k ∈ S ∪ T, s k ≠ ⊤) :
    Ideal.exp (S.sup s - (S ∪ T).sup s) * mass S s + ∑ k ∈ T, Ideal.exp (s k - (S ∪ T).sup s) = mass (S ∪ T) s := by
  have hM : S.sup s ≤ (S ∪ T).sup s := Finset.sup_mono Finset.subset_union_left
  have hT := sup_ne_top _ s h
  unfold mass
  rw [mul_sum_of_nonneg _ (exp_nonneg _) (factor_ne_top hM hT), Finset.sum_union hd]
  congr 1
  exact Finset.sum_congr rfl fun k hk => rescale (Finset.le_sup hk) hM hT

/-- THE RUNNING MIX: the first set's mix, rescaled, and the second set's weighted values, are the mix of both. -/
theorem mix_union {S T : Finset κ} (hd : Disjoint S T) (s v : κ → EReal) (h : ∀ k ∈ S ∪ T, s k ≠ ⊤) :
    Ideal.exp (S.sup s - (S ∪ T).sup s) * mix S s v + ∑ k ∈ T, Ideal.exp (s k - (S ∪ T).sup s) * v k = mix (S ∪ T) s v := by
  have hM : S.sup s ≤ (S ∪ T).sup s := Finset.sup_mono Finset.subset_union_left
  have hT := sup_ne_top _ s h
  unfold mix
  rw [mul_sum_of_nonneg _ (exp_nonneg _) (factor_ne_top hM hT), Finset.sum_union hd]
  congr 1
  exact Finset.sum_congr rfl fun k hk => by rw [← mul_assoc, rescale (Finset.le_sup hk) hM hT]

/-! ## Masked keys, a common shift, another numbering of the keys -/

/-- Keys of score `-∞` do not raise the greatest score. -/
theorem sup_of_masked {S T : Finset κ} (hST : S ⊆ T) (s : κ → EReal) (h : ∀ k ∈ T, k ∉ S → s k = ⊥) : T.sup s = S.sup s :=
  le_antisymm (Finset.sup_le fun k hk => by
    by_cases hS : k ∈ S
    · exact Finset.le_sup hS
    · rw [h k hk hS]; exact bot_le) (Finset.sup_mono hST)

/-- Keys of score `-∞` add no mass. -/
theorem mass_of_masked {S T : Finset κ} (hST : S ⊆ T) (s : κ → EReal) (h : ∀ k ∈ T, k ∉ S → s k = ⊥) : mass T s = mass S s := by
  unfold mass
  rw [sup_of_masked hST s h]
  exact (Finset.sum_subset hST fun k hk hS => by rw [h k hk hS, bot_sub', Ideal.exp_bot]).symm

/-- Keys of score `-∞` add no value. -/
theorem mix_of_masked {S T : Finset κ} (hST : S ⊆ T) (s v : κ → EReal) (h : ∀ k ∈ T, k ∉ S → s k = ⊥) : mix T s v = mix S s v := by
  unfold mix
  rw [sup_of_masked hST s h]
  exact (Finset.sum_subset hST fun k hk hS => by rw [h k hk hS, bot_sub', Ideal.exp_bot, zero_mul]).symm

/-- A finite number added to every score is added to the greatest. -/
theorem sup_shift {S : Finset κ} (hS : S.Nonempty) (s : κ → EReal) (c : ℝ) : S.sup (fun k => s k + c) = S.sup s + c := by
  refine le_antisymm (Finset.sup_le fun k hk => add_le_add_left (Finset.le_sup hk) _) ?_
  obtain ⟨k, hk, e⟩ := Finset.exists_mem_eq_sup S hS s
  rw [e]
  exact Finset.le_sup (f := fun k => s k + (c : EReal)) hk

/-- … and leaves every difference of scores as it was. -/
theorem sub_shift (x M : EReal) (c : ℝ) : (x + c) - (M + c) = x - M := by
  induction x using EReal.rec with
  | bot => simp only [EReal.bot_add, bot_sub']
  | top =>
    induction M using EReal.rec with
    | bot => simp only [EReal.bot_add, EReal.top_add_coe]
    | top => simp only [EReal.top_add_coe]
    | coe b => rw [EReal.top_add_coe, ← EReal.coe_add, EReal.top_sub_coe, EReal.top_sub_coe]
  | coe a =>
    induction M using EReal.rec with
    | bot => simp only [EReal.bot_add, ← EReal.coe_add, EReal.coe_sub_bot]
    | top => simp only [EReal.top_add_coe, ← EReal.coe_add, sub_eq_add_neg, EReal.neg_top, EReal.add_bot]
    | coe b => rw [← EReal.coe_add, ← EReal.coe_add, ← EReal.coe_sub, ← EReal.coe_sub]; congr 1; ring

/-- So the mass is the same, -/
theorem mass_shift {S : Finset κ} (hS : S.Nonempty) (s : κ → EReal) (c : ℝ) : mass S (fun k => s k + c) = mass S s := by
  unfold mass; simp only [sup_shift hS, sub_shift]

/-- and the mix is the same. -/
theorem mix_shift {S : Finset κ} (hS : S.Nonempty) (s v : κ → EReal) (c : ℝ) : mix S (fun k => s k + c) v = mix S s v := by
  unfold mix; simp only [sup_shift hS, sub_shift]

variable {ι : Type} [DecidableEq ι]

/-- The mass is the same however the keys are numbered, -/
theorem mass_image (S : Finset ι) (e : ι → κ) (he : Function.Injective e) (s : κ → EReal) : mass (S.image e) s = mass S (s ∘ e) := by
  unfold mass; rw [Finset.sup_image, Finset.sum_image fun _ _ _ _ h => he h]; rfl

/-- and so is the mix. -/
theorem mix_image (S : Finset ι) (e : ι → κ) (he : Function.Injective e) (s v : κ → EReal) :
    mix (S.image e) s v = mix S (s ∘ e) (v ∘ e) := by
  unfold mix; rw [Finset.sup_image, Finset.sum_image fun _ _ _ _ h => he h]; rfl

/-! ## The quotient -/

/-- A set with a key of finite score, and none of score `+∞`, has a mass that is positive and finite. -/
theorem mass_pos {S : Finset κ} (s : κ → EReal) (h : ∀ k ∈ S, s k ≠ ⊤) {k₀ : κ} (hk : k₀ ∈ S) (h0 : s k₀ ≠ ⊥) :
    0 < mass S s ∧ mass S s ≠ ⊤ := by
  have hM := sup_ne_top S s h
  refine ⟨?_, sum_ne_top _ _ fun k hk => exp_ne_top (sub_ne_top (Finset.le_sup hk) hM)⟩
  have hle := Finset.single_le_sum (f := fun k => Ideal.exp (s k - S.sup s)) (fun k _ => exp_nonneg _) hk
  refine lt_of_lt_of_le ?_ hle
  have hx : s k₀ ≤ S.sup s := Finset.le_sup hk
  generalize S.sup s = M at hM hx ⊢
  generalize s k₀ = x at h0 hx ⊢
  induction x using EReal.rec with
  | bot => exact absurd rfl h0
  | top => exact absurd (top_le_iff.mp hx) hM
  | coe a =>
    induction M using EReal.rec with
    | bot => exact absurd (le_bot_iff.mp hx) (EReal.coe_ne_bot a)
    | top => exact absurd rfl hM
    | coe b => rw [← EReal.coe_sub, Ideal.exp_coe]; exact_mod_cast Real.exp_pos _

/-- Softmax of the scores, applied to the values: the mix over the mass. -/
def attend (S : Finset κ) (s v : κ → EReal) : EReal := Ideal.div (mix S s v) (mass S s)

/-- THE REFERENCE'S ORDER: where the mass is positive and finite, every weight divided by the mass before it meets its value
    gives the same. -/
theorem sum_div_mul {S : Finset κ} (s v : κ → EReal) (h0 : 0 < mass S s) (ht : mass S s ≠ ⊤) :
    ∑ k ∈ S, Ideal.div (Ideal.exp (s k - S.sup s)) (mass S s) * v k = attend S s v := by
  have hn : mass S s ≠ 0 := ne_of_gt h0
  have hi : (0 : EReal) ≤ (mass S s)⁻¹ := EReal.inv_nonneg_of_nonneg h0.le
  have hit : (mass S s)⁻¹ ≠ ⊤ := by
    induction hm : mass S s using EReal.rec with
    | bot => simp
    | top => exact absurd hm ht
    | coe r => rw [← EReal.coe_inv]; exact EReal.coe_ne_top _
  unfold attend Ideal.div
  simp only [if_neg hn]
  unfold mix
  rw [mul_comm, mul_sum_of_nonneg _ hi hit]
  exact Finset.sum_congr rfl fun k _ => by rw [mul_comm (Ideal.exp _), mul_assoc]

end Cert.Attn

end
-- ==== Proof.Attn.Step.lean ====
/- One step of the prompt attention kernel over one block of 384 keys, in the kernel's own vectors.

   The kernel's payloads come twice, once per head of a pair, and once more for the block on the diagonal. They are one
   function: `scoresOf` (queries against the block's keys, plus the keys' gates), then `stepMax`, `stepMass`, `stepMix`
   (the running softmax), then `quotient`. Here they are defined once, the payloads shown to be them, and each read at an index. -/
module

public import proofs.«01_k».proof.Proof.Attn.Softmax
public import proofs.«01_k».proof.Proof.Gen.KernelIdeal.Skeleton
public import Idealize.ShloMosaic.Lib.Pointwise
public import Idealize.ShloMosaic.Lib.WordCmp

@[expose] public section

set_option maxRecDepth 16384

noncomputable section

namespace Cert.Attn

open Idealize.ShloMosaic Idealize.ShloMosaic.TcCoe Cert.KernelIdeal Cert.KernelIdeal.Gen

/-- A block's scores: queries against keys over the 128 lanes, plus the gate of each key. -/
def scoresOf (qe kb : Vec Ideal S384x128 .bf16) (nb : Vec Ideal S1x1x1x1x384 .f32) : FVec Ideal S384x384 .f32 :=
  addf (matmul (φ₁ := .bf16) (φ₂ := .bf16) dot_S384x128_S384x128_S384x384_1_1_0_0_n_n none qe kb (constant S384x384 .f32 0x00000000#32))
    (broadcastTo S384x384 (shapeCast S1x384 nb shapeCasts_S1x1x1x1x384_S1x384) broadcasts_S1x384_S384x384)

/-- The scores of the diagonal's block: keys after the query are masked. -/
def causal (s : FVec Ideal S384x384 .f32) : FVec Ideal S384x384 .f32 :=
  select (cmpi .sle (iota .tc S384x384 32 [1] iota_S384x384_d1_w32) (iota .tc S384x384 32 [0] iota_S384x384_d0_w32)) s
    (broadcast S384x384 (Named.named (F := Ideal) κ "mask" 0xF149F2CA#32))

/-- The greatest score, a block later. -/
def stepMax (s : FVec Ideal S384x384 .f32) (m : FVec Ideal S384x1 .f32) : FVec Ideal S384x1 .f32 :=
  maximumf m (shapeCast S384x1 (multiReduction .maximumf [1] S384 s 0xFF800000#32 reduces_S384x384_S384 (.inl rfl) rfl) shapeCasts_S384_S384x1)

/-- The weights of the block's keys against the later greatest score. -/
def stepWeights (s : FVec Ideal S384x384 .f32) (m : FVec Ideal S384x1 .f32) : FVec Ideal S384x384 .f32 :=
  exp (subf s (broadcastTo S384x384 (stepMax s m) broadcasts_S384x1_S384x384))

/-- The mass, a block later. -/
def stepMass (s : FVec Ideal S384x384 .f32) (m l : FVec Ideal S384x1 .f32) : FVec Ideal S384x1 .f32 :=
  addf (mulf (exp (subf m (stepMax s m))) l)
    (shapeCast S384x1 (multiReduction .add [1] S384 (stepWeights s m) 0x00000000#32 reduces_S384x384_S384 (.inl rfl) rfl) shapeCasts_S384_S384x1)

/-- The mix, a block later. -/
def stepMix (s : FVec Ideal S384x384 .f32) (m : FVec Ideal S384x1 .f32) (a : FVec Ideal S384x128 .f32) (vb : Vec Ideal S384x128 .bf16) :
    FVec Ideal S384x128 .f32 :=
  addf (mulf (broadcastTo S384x128 (exp (subf m (stepMax s m))) broadcasts_S384x1_S384x128) a)
    (matmul (φ₂ := .bf16) dot_S384x384_S384x128_S384x128_1_0_0_1_n_n none (truncf .bf16 (stepWeights s m) bitsLt_bf16_f32) vb
      (constant S384x128 .f32 0x00000000#32))

/-- The last step: the mix over the mass. -/
def quotient (s : FVec Ideal S384x384 .f32) (m l : FVec Ideal S384x1 .f32) (a : FVec Ideal S384x128 .f32) (vb : Vec Ideal S384x128 .bf16) :
    FVec Ideal S384x128 .f32 :=
  divf (stepMix s m a vb) (broadcastTo S384x128 (stepMass s m l) broadcasts_S384x1_S384x128)

/-- What the kernel stores: the first head's quotient on the lower 64 lanes, the second's on the others, and zero in the
    rows that pad the sequence in front. -/
def packed (i : BitVec 32) (o0 o1 : FVec Ideal S384x128 .f32) : FVec Ideal S384x128 .bf16 :=
  truncf .bf16 (select (cmpi .sge (addi (broadcast S384x128 (Scalar.muli i 384#32)) (iota .tc S384x128 32 [0] iota_S384x128_d0_w32)) (broadcast S384x128 112#32))
    (select (cmpi .slt (iota .tc S384x128 32 [1] iota_S384x128_d1_w32) (broadcast S384x128 64#32)) o0 o1)
    (broadcast S384x128 (Scalar.ofBits (F := Ideal) .f32 0x00000000#32))) bitsLt_bf16_f32

variable (q kb vb : Vec Ideal S384x128 .bf16) (nb : Vec Ideal S1x1x1x1x384 .f32) (m l : FVec Ideal S384x1 .f32) (a : FVec Ideal S384x128 .f32)

/-! ## The payloads are these -/

theorem pay7_eq : k0_pay7 q m kb nb = stepMax (scoresOf (k0_pay2 q) kb nb) m := rfl
theorem pay10_eq : k0_pay10 q m l kb nb = stepMass (scoresOf (k0_pay2 q) kb nb) m l := rfl
theorem pay11_eq : k0_pay11 q m a kb vb nb = stepMix (scoresOf (k0_pay2 q) kb nb) m a vb := rfl
theorem pay18_eq : k0_pay18 q kb nb = causal (scoresOf (k0_pay2 q) kb nb) := rfl
theorem pay19_eq (s : FVec Ideal S384x384 .f32) : k0_pay19 m l a vb s = quotient s m l a vb := rfl
/-- The lanes, numbered: what the second head's payloads take for telling its lanes. -/
abbrev lanes : IVec S384x128 32 := iota .tc S384x128 32 [1] iota_S384x128_d1_w32
theorem pay25_eq : k0_pay25 lanes q m kb nb = stepMax (scoresOf (k0_pay20 lanes q) kb nb) m := rfl
theorem pay28_eq : k0_pay28 lanes q m l kb nb = stepMass (scoresOf (k0_pay20 lanes q) kb nb) m l := rfl
theorem pay29_eq : k0_pay29 lanes q m a kb vb nb = stepMix (scoresOf (k0_pay20 lanes q) kb nb) m a vb := rfl
theorem pay1_eq (i : BitVec 32) (o0 : FVec Ideal S384x128 .f32) :
    k0_pay1 i lanes (iota .tc S384x384 32 [0] iota_S384x384_d0_w32) (iota .tc S384x384 32 [1] iota_S384x384_d1_w32) o0 m l a vb (k0_pay36 lanes q kb) nb
      = packed i o0 (quotient (causal (scoresOf (k0_pay20 lanes q) kb nb)) m l a vb) := rfl

/-! ## … and read so -/

/-- The word the greatest score is taken from is `-∞`. -/
theorem neg_inf : Ideal.ofBits FTy.f32 0xFF800000#32 = ⊥ := by simp [Ideal.ofBits, Ideal.ieee]

/-- The kernel's mask is `-∞`. -/
theorem mask_eq : Named.named (F := Ideal) κ "mask" (φ := .f32) 0xF149F2CA#32 = (⊥ : EReal) := by simp [Named.named, κ]

/-- The position of a block's row, as the kernel's words compute it. -/
theorem pos_word (i : Fin 11) (r : Fin 384) :
    IntOp.addi (Scalar.muli (BitVec.ofNat 32 i.val) 384#32) (BitVec.ofNat 32 r.val) = BitVec.ofNat 32 (384 * i.val + r.val) := by
  apply BitVec.eq_of_toNat_eq
  have hi := i.isLt
  have hr := r.isLt
  simp only [IntOp.addi, Scalar.muli, IntOp.muli, BitVec.toNat_add, BitVec.toNat_mul, BitVec.toNat_ofNat]
  omega

theorem scoresOf_at (r c : Fin 384) :
    scoresOf q kb nb (ix2 r c) = (∑ k : Fin 128, q (ix2 r k) * kb (ix2 c k)) + nb (ix5 0 0 0 0 c) := by
  pointwise [scoresOf]

theorem stepMax_at (s : FVec Ideal S384x384 .f32) (r : Fin 384) :
    stepMax s m (ix2 r 0) = max (m (ix2 r 0)) (Finset.univ.sup fun c : Fin 384 => (s (ix2 r c) : EReal)) := by
  pointwise [stepMax]
  rw [neg_inf]; rfl

theorem causal_at (s : FVec Ideal S384x384 .f32) (r c : Fin 384) :
    causal s (ix2 r c) = if c.val ≤ r.val then s (ix2 r c) else (⊥ : EReal) := by
  pointwise [causal]
  simp (disch := word_cmp_side) only [hlo_ix, mask_eq]

theorem stepMass_at (s : FVec Ideal S384x384 .f32) (r : Fin 384) :
    stepMass s m l (ix2 r 0) = Ideal.exp (m (ix2 r 0) - stepMax s m (ix2 r 0)) * l (ix2 r 0)
      + ∑ c : Fin 384, Ideal.exp (s (ix2 r c) - stepMax s m (ix2 r 0)) := by
  pointwise [stepMass, stepWeights]

theorem stepMix_at (s : FVec Ideal S384x384 .f32) (r : Fin 384) (d : Fin 128) :
    stepMix s m a vb (ix2 r d) = Ideal.exp (m (ix2 r 0) - stepMax s m (ix2 r 0)) * a (ix2 r d)
      + ∑ c : Fin 384, Ideal.exp (s (ix2 r c) - stepMax s m (ix2 r 0)) * vb (ix2 c d) := by
  pointwise [stepMix, stepWeights]

theorem quotient_at (s : FVec Ideal S384x384 .f32) (r : Fin 384) (d : Fin 128) :
    quotient s m l a vb (ix2 r d) = Ideal.div (stepMix s m a vb (ix2 r d)) (stepMass s m l (ix2 r 0)) := by
  pointwise [quotient]

theorem packed_at (i : Fin 11) (o0 o1 : FVec Ideal S384x128 .f32) (r : Fin 384) (d : Fin 128) :
    packed (BitVec.ofNat 32 i.val) o0 o1 (ix2 r d)
      = if 112 ≤ 384 * i.val + r.val then (if d.val < 64 then o0 (ix2 r d) else o1 (ix2 r d)) else (0 : EReal) := by
  pointwise [packed]
  rw [pos_word i r]
  simp (disch := word_cmp_side) only [hlo_ix]

theorem pay2_at (r : Fin 384) (d : Fin 128) : k0_pay2 q (ix2 r d) = if d.val < 64 then q (ix2 r d) else (0 : EReal) := by
  pointwise [k0_pay2]
  have h : d.val < 128 := d.isLt
  simp (disch := word_cmp_side) only [hlo_ix]
  simp

theorem pay20_at (r : Fin 384) (d : Fin 128) : k0_pay20 lanes q (ix2 r d) = if 64 ≤ d.val then q (ix2 r d) else (0 : EReal) := by
  pointwise [k0_pay20]
  have h : d.val < 128 := d.isLt
  simp (disch := word_cmp_side) only [hlo_ix]
  simp [h]

end Cert.Attn

end
-- ==== Proof.Attn.Block.lean ====
/- What one grid point of the prompt attention kernel leaves in its output block, as the steps of Step.lean: each head runs
   the blocks of keys before its own one after the other, then the diagonal's. -/
module

public import proofs.«01_k».proof.Proof.Attn.Step
public import proofs.«01_k».proof.Proof.Gen.KernelIdeal.Frame
public import Idealize.ShloMosaic.Lib.Pipeline.ValueKit

@[expose] public section

set_option maxRecDepth 16384

noncomputable section

namespace Cert.Attn

open Idealize.ShloMosaic Idealize.ShloMosaic.TcCoe Cert.KernelIdeal Cert.KernelIdeal.Gen

/-- Block `j` of 384 rows of an array of 4224. -/
def rows (x : Vec Ideal S4224x128 .bf16) (j : Fin 11) : Vec Ideal S384x128 .bf16 :=
  fun y => x (ix2 ⟨384 * j.val + (y 0).val, by have h := (y 0).isLt; have := j.isLt; change (y 0).val < 384 at h; omega⟩ (y 1))

/-- The gates of block `j` for head `h` of the pair. -/
def gates (x : Vec Ideal S1x1x11x2x384 .f32) (j : Fin 11) (h : Fin 2) : Vec Ideal S1x1x1x1x384 .f32 :=
  fun y => x (ix5 0 0 j h (y 4))

/-- What a head carries along the blocks: its greatest score so far, its mass and its mix. -/
abbrev Carried := FVec Ideal S384x1 .f32 × FVec Ideal S384x1 .f32 × FVec Ideal S384x128 .f32

/-- One block's step on what is carried. -/
def stepAll (s : FVec Ideal S384x384 .f32) (vb : Vec Ideal S384x128 .bf16) (a : Carried) : Carried :=
  (stepMax s a.1, stepMass s a.1 a.2.1, stepMix s a.1 a.2.2 vb)

/-- What a head starts from. -/
def start : Carried := (k0_pay3, k0_pay4, k0_pay5)

/-- What a head carries after its first `n` blocks. -/
def carried (qe : Vec Ideal S384x128 .bf16) (x1 x2 : Vec Ideal S4224x128 .bf16) (x3 : Vec Ideal S1x1x11x2x384 .f32) (h : Fin 2) : ℕ → Carried
  | 0 => start
  | n + 1 => if hn : n < 11 then stepAll (scoresOf qe (rows x1 ⟨n, hn⟩) (gates x3 ⟨n, hn⟩ h)) (rows x2 ⟨n, hn⟩) (carried qe x1 x2 x3 h n)
      else carried qe x1 x2 x3 h n

/-- A head's output for the queries of block `i`. -/
def headOut (qe : Vec Ideal S384x128 .bf16) (x1 x2 : Vec Ideal S4224x128 .bf16) (x3 : Vec Ideal S1x1x11x2x384 .f32) (h : Fin 2) (i : Fin 11) : FVec Ideal S384x128 .f32 :=
  let a := carried qe x1 x2 x3 h i.val
  quotient (causal (scoresOf qe (rows x1 i) (gates x3 i h))) a.1 a.2.1 a.2.2 (rows x2 i)

/-- The block of a grid point. -/
def blockOut (i : Fin 11) (x0 : Vec Ideal S384x128 .bf16) (x1 x2 : Vec Ideal S4224x128 .bf16) (x3 : Vec Ideal S1x1x11x2x384 .f32) : FVec Ideal S384x128 .bf16 :=
  packed (BitVec.ofNat 32 i.val) (headOut (k0_pay2 x0) x1 x2 x3 0 i) (headOut (k0_pay20 lanes x0) x1 x2 x3 1 i)

section Trips

variable (𝒱 : Variants) (c : Dev nD) (bd : Option 𝒱.V) (i : grid0.Coords) (arg3 : Memref sig .tc .vmem S384x128 .bf16) (harg3 : arg3.IsWhole) (arg4 : Memref sig .tc .vmem S4224x128 .bf16) (harg4 : arg4.IsWhole) (arg5 : Memref sig .tc .vmem S4224x128 .bf16) (harg5 : arg5.IsWhole) (arg6 : Memref sig .tc .vmem S1x1x11x2x384 .f32) (harg6 : arg6.IsWhole) (arg7 : Memref sig .tc .vmem S384x128 .bf16) (harg7 : arg7.IsWhole) (v3 : Vec Ideal S384x128 .bf16)
  (x1 x2 : Vec Ideal S4224x128 .bf16) (x3 : Vec Ideal S1x1x11x2x384 .f32)

/-- A load of 384 rows is the block they make up. -/
theorem ld_rows (x : Vec Ideal S4224x128 .bf16) (j : Fin 11) (off : Fin 2 → ℕ) (hoff : off = ![384 * j.val, 0])
    (inb : ∀ a, off a + S384x128.size a ≤ S4224x128.size a) :
    (View.ld (Val := Elt Ideal) (S := S4224x128) (e' := .bf16) x (Rect.unit (s := S4224x128) off S384x128.size inb) : Vec Ideal S384x128 .bf16) = rows x j := by
  subst hoff
  funext y
  refine congrArg x (funext fun a => Fin.ext ?_)
  match a with
  | ⟨0, _⟩ => show 384 * j.val + 1 * (y 0).val = 384 * j.val + (y 0).val; omega
  | ⟨1, _⟩ => show 0 + 1 * (y 1).val = (y 1).val; omega

/-- A load of one block's gates. -/
theorem ld_gates (x : Vec Ideal S1x1x11x2x384 .f32) (j : Fin 11) (h : Fin 2) (off : Fin 5 → ℕ) (hoff : off = ![0, 0, j.val, h.val, 0])
    (inb : ∀ a, off a + S1x1x1x1x384.size a ≤ S1x1x11x2x384.size a) :
    (View.ld (Val := Elt Ideal) (S := S1x1x11x2x384) (e' := .f32) x (Rect.unit (s := S1x1x11x2x384) off S1x1x1x1x384.size inb) : Vec Ideal S1x1x1x1x384 .f32) = gates x j h := by
  subst hoff
  funext y
  refine congrArg x (funext fun a => Fin.ext ?_)
  have e : ∀ b : Fin 1, b.val = 0 := fun b => by omega
  match a with
  | ⟨0, _⟩ => show 0 + 1 * (y 0).val = 0; have := e (y 0); omega
  | ⟨1, _⟩ => show 0 + 1 * (y 1).val = 0; have := e (y 1); omega
  | ⟨2, _⟩ => show j.val + 1 * (y 2).val = j.val; have := e (y 2); omega
  | ⟨3, _⟩ => show h.val + 1 * (y 3).val = h.val; have := e (y 3); omega
  | ⟨4, _⟩ => show 0 + 1 * (y 4).val = (y 4).val; omega

/-- The first head's payloads on one block are one step. -/
theorem step1 (acc : Carried) (kb vb : Vec Ideal S384x128 .bf16) (nb : Vec Ideal S1x1x1x1x384 .f32) (j : Fin 11)
    (hk : kb = rows x1 j) (hv : vb = rows x2 j) (hn : nb = gates x3 j 0) :
    (k0_pay7 v3 acc.1 kb nb, k0_pay10 v3 acc.1 acc.2.1 kb nb, k0_pay11 v3 acc.1 acc.2.2 kb vb nb)
      = stepAll (scoresOf (k0_pay2 v3) (rows x1 j) (gates x3 j 0)) (rows x2 j) acc := by
  subst hk hv hn; rfl

/-- And so are the second head's. -/
theorem step3 (acc : Carried) (kb vb : Vec Ideal S384x128 .bf16) (nb : Vec Ideal S1x1x1x1x384 .f32) (j : Fin 11)
    (hk : kb = rows x1 j) (hv : vb = rows x2 j) (hn : nb = gates x3 j 1) :
    (k0_pay25 lanes v3 acc.1 kb nb, k0_pay28 lanes v3 acc.1 acc.2.1 kb nb, k0_pay29 lanes v3 acc.1 acc.2.2 kb vb nb)
      = stepAll (scoresOf (k0_pay20 lanes v3) (rows x1 j) (gates x3 j 1)) (rows x2 j) acc := by
  subst hk hv hn; rfl

/-- A trip of the first head's loop is a step on that trip's block. -/
theorem trip1 (k : Fin (k0_t1_loop i).trips) (hk : k.val < 11) (acc : Carried) :
    tripR_k0_t1 (F := Ideal) 𝒱 c bd i arg3 harg3 arg4 harg4 arg5 harg5 arg6 harg6 arg7 harg7 v3 (harg4.unread x1) (harg5.unread x2) (harg6.unread x3) k acc
      = stepAll (scoresOf (k0_pay2 v3) (rows x1 ⟨k.val, hk⟩) (gates x3 ⟨k.val, hk⟩ 0)) (rows x2 ⟨k.val, hk⟩) acc := by
  unfold tripR_k0_t1 trip_k0_t1
  dsimp only
  sl_unfold_words
  simp only [View.readAt_eq_ld, harg4.read_unread, harg5.read_unread, harg6.read_unread]
  exact step1 v3 x1 x2 x3 acc _ _ _ ⟨k.val, hk⟩ (ld_rows x1 _ _ (k0_off1_eq i k) _) (ld_rows x2 _ _ (k0_off1_eq i k) _) (ld_gates x3 _ 0 _ (k0_off2_eq i k) _)

/-- A trip of the second head's loop is a step on that trip's block. -/
theorem trip3 (arg2 : BitVec 32) (b0 b1 : FVec Ideal S384x1 .f32) (b2 : FVec Ideal S384x128 .f32)
    (v26 : Vec Ideal S384x128 .bf16) (v35 : FVec Ideal S384x384 .f32)
    (k : Fin (k0_t3_loop i).trips) (hk : k.val < 11) (acc : Carried) :
    tripR_k0_t3 (F := Ideal) 𝒱 c bd i arg3 harg3 arg4 harg4 arg5 harg5 arg6 harg6 arg7 harg7 arg2 lanes v3 b0 b1 b2 v26 v35 (harg4.unread x1) (harg5.unread x2) (harg6.unread x3) k acc
      = stepAll (scoresOf (k0_pay20 lanes v3) (rows x1 ⟨k.val, hk⟩) (gates x3 ⟨k.val, hk⟩ 1)) (rows x2 ⟨k.val, hk⟩) acc := by
  unfold tripR_k0_t3 trip_k0_t3
  dsimp only
  sl_unfold_words
  simp only [View.readAt_eq_ld, harg4.read_unread, harg5.read_unread, harg6.read_unread]
  exact step3 v3 x1 x2 x3 acc _ _ _ ⟨k.val, hk⟩ (ld_rows x1 _ _ (k0_off7_eq i k) _) (ld_rows x2 _ _ (k0_off7_eq i k) _) (ld_gates x3 _ 1 _ (k0_off8_eq i k) _)

/-- The first loop of a head runs over the blocks before the queries' own. -/
theorem trips_full : ∀ v : Fin 11, Scf.trips 0#32 (Scalar.addi 0#32 (Scalar.muli (Scalar.divsi (Scalar.subi (BitVec.ofNat 32 v.val) 0#32) 1#32) 1#32)) 1#32 = v.val := by
  decide +kernel

/-- The second loop, for what does not divide by the step, is empty. -/
theorem trips_rest : ∀ v : Fin 11, Scf.trips (Scalar.addi 0#32 (Scalar.muli (Scalar.divsi (Scalar.subi (BitVec.ofNat 32 v.val) 0#32) 1#32) 1#32))
    (Scalar.addi 0#32 (Scalar.subi (BitVec.ofNat 32 v.val) 0#32)) 1#32 = 0 := by
  decide +kernel

/-- The first head's loop carries `carried`. -/
theorem state1 : ∀ n : ℕ, n ≤ (i 2).val →
    st_k0_t1 (F := Ideal) 𝒱 c bd i arg3 harg3 arg4 harg4 arg5 harg5 arg6 harg6 arg7 harg7 v3 (harg4.unread x1) (harg5.unread x2) (harg6.unread x3) (k0_pay3, k0_pay4, k0_pay5) n
      = carried (k0_pay2 v3) x1 x2 x3 0 n := by
  intro n
  induction n with
  | zero => intro _; rfl
  | succ n ih =>
    intro hn
    have hi : (i 2).val < 11 := (i 2).isLt
    have ht : n < (k0_t1_loop i).trips := by rw [show (k0_t1_loop i).trips = (i 2).val from trips_full ⟨(i 2).val, hi⟩]; omega
    rw [st_k0_t1_succ (F := Ideal) 𝒱 c bd i arg3 harg3 arg4 harg4 arg5 harg5 arg6 harg6 arg7 harg7 v3 _ _ _ _ ⟨n, ht⟩]
    rw [trip1 𝒱 c bd i arg3 harg3 arg4 harg4 arg5 harg5 arg6 harg6 arg7 harg7 v3 x1 x2 x3 ⟨n, ht⟩ (by dsimp only; omega), ih (by omega)]
    rw [carried, dif_pos (by omega : n < 11)]

/-- The second head's loop carries `carried`. -/
theorem state3 (arg2 : BitVec 32) (b0 b1 : FVec Ideal S384x1 .f32) (b2 : FVec Ideal S384x128 .f32)
    (v26 : Vec Ideal S384x128 .bf16) (v35 : FVec Ideal S384x384 .f32) : ∀ n : ℕ, n ≤ (i 2).val →
    st_k0_t3 (F := Ideal) 𝒱 c bd i arg3 harg3 arg4 harg4 arg5 harg5 arg6 harg6 arg7 harg7 arg2 lanes v3 b0 b1 b2 v26 v35 (harg4.unread x1) (harg5.unread x2) (harg6.unread x3) (k0_pay21, k0_pay22, k0_pay23) n
      = carried (k0_pay20 lanes v3) x1 x2 x3 1 n := by
  intro n
  induction n with
  | zero => intro _; rfl
  | succ n ih =>
    intro hn
    have hi : (i 2).val < 11 := (i 2).isLt
    have ht : n < (k0_t3_loop i).trips := by rw [show (k0_t3_loop i).trips = (i 2).val from trips_full ⟨(i 2).val, hi⟩]; omega
    rw [st_k0_t3_succ (F := Ideal) 𝒱 c bd i arg3 harg3 arg4 harg4 arg5 harg5 arg6 harg6 arg7 harg7 arg2 lanes v3 b0 b1 b2 v26 v35 _ _ _ _ ⟨n, ht⟩]
    rw [trip3 𝒱 c bd i arg3 harg3 arg4 harg4 arg5 harg5 arg6 harg6 arg7 harg7 v3 x1 x2 x3 arg2 b0 b1 b2 v26 v35 ⟨n, ht⟩ (by dsimp only; omega), ih (by omega)]
    rw [carried, dif_pos (by omega : n < 11)]

end Trips

/-- The last payload, over what the two heads carry and the diagonal's blocks, is the block. -/
theorem last_eq (i : Fin 11) (x0 : Vec Ideal S384x128 .bf16) (x1 x2 : Vec Ideal S4224x128 .bf16) (x3 : Vec Ideal S1x1x11x2x384 .f32)
    (a b : Carried) (kb vb : Vec Ideal S384x128 .bf16) (n0 n1 : Vec Ideal S1x1x1x1x384 .f32)
    (ha : a = carried (k0_pay2 x0) x1 x2 x3 0 i.val) (hb : b = carried (k0_pay20 lanes x0) x1 x2 x3 1 i.val)
    (hk : kb = rows x1 i) (hv : vb = rows x2 i) (h0 : n0 = gates x3 i 0) (h1 : n1 = gates x3 i 1) :
    k0_pay1 (BitVec.ofNat 32 i.val) lanes (iota .tc S384x384 32 [0] iota_S384x384_d0_w32) (iota .tc S384x384 32 [1] iota_S384x384_d1_w32)
        (k0_pay19 a.1 a.2.1 a.2.2 vb (k0_pay18 x0 kb n0)) b.1 b.2.1 b.2.2 vb (k0_pay36 lanes x0 kb) n1
      = blockOut i x0 x1 x2 x3 := by
  subst ha hb hk hv h0 h1; rfl

/-- The block a grid point stores is `blockOut` of the blocks it holds. -/
theorem out_eq (c : Dev nD) (i : grid0.Coords) (arg3 : Memref sig .tc .vmem S384x128 .bf16) (harg3 : arg3.IsWhole) (arg4 : Memref sig .tc .vmem S4224x128 .bf16) (harg4 : arg4.IsWhole) (arg5 : Memref sig .tc .vmem S4224x128 .bf16) (harg5 : arg5.IsWhole) (arg6 : Memref sig .tc .vmem S1x1x11x2x384 .f32) (harg6 : arg6.IsWhole) (arg7 : Memref sig .tc .vmem S384x128 .bf16) (harg7 : arg7.IsWhole)
    (x0 : Vec Ideal S384x128 .bf16) (x1 x2 : Vec Ideal S4224x128 .bf16) (x3 : Vec Ideal S1x1x11x2x384 .f32) :
    out0_A_4 (F := Ideal) c i arg3 harg3 arg4 harg4 arg5 harg5 arg6 harg6 arg7 harg7 x0 x1 x2 x3 = blockOut ⟨(i 2).val, (i 2).isLt⟩ x0 x1 x2 x3 := by
  have hz : (![0, 0] : Fin 2 → Nat) = fun _ => 0 := funext fun a => by fin_cases a <;> rfl
  unfold out0_A_4
  rw [View.read_writes_eq_canon _ _ _ (cover0_A_4 (F := Ideal) c i arg3 harg3 arg4 harg4 arg5 harg5 arg6 harg6 arg7 harg7 x0 x1 x2 x3)]
  unfold kernelRun0_A
  dsimp only
  sl_unfold_words
  rw [View.canon_unit_zero hz]
  simp only [View.readAt_eq_ld, harg3.read_unread, harg4.read_unread, harg5.read_unread, harg6.read_unread, View.ld_unit_zero (S := S384x128) hz]
  have hi : (i 2).val < 11 := (i 2).isLt
  simp only [trips_full ⟨(i 2).val, hi⟩, trips_rest ⟨(i 2).val, hi⟩, st_k0_t2_zero, st_k0_t4_zero]
  exact last_eq ⟨(i 2).val, hi⟩ x0 x1 x2 x3 _ _ _ _ _ _
    (state1 Variants.none c none i arg3 harg3 arg4 harg4 arg5 harg5 arg6 harg6 arg7 harg7 x0 x1 x2 x3 _ le_rfl)
    (state3 Variants.none c none i arg3 harg3 arg4 harg4 arg5 harg5 arg6 harg6 arg7 harg7 x0 x1 x2 x3 _ _ _ _ _ _ _ le_rfl)
    (ld_rows x1 _ _ (k0_off5_eq i) _) (ld_rows x2 _ _ (k0_off5_eq i) _) (ld_gates x3 _ 0 _ (k0_off6_eq i) _) (ld_gates x3 _ 1 _ (k0_off11_eq i) _)

end Cert.Attn

end
-- ==== Proof.Attn.Row.lean ====
/- One row of a grid point's block: the running softmax over the blocks of keys is the softmax over all keys.

   `blockOut_at` states it: the row of query `p`, in the columns of a head, is `attend` of that head's scores, where a key
   after the query is masked, and zero on the rows that pad the sequence in front. -/
module

public import proofs.«01_k».proof.Proof.Attn.Block

@[expose] public section

set_option maxRecDepth 16384

noncomputable section

namespace Cert.Attn

open Idealize.ShloMosaic Idealize.ShloMosaic.TcCoe Cert.KernelIdeal Cert.KernelIdeal.Gen

/-! ## Keys, block by block -/

/-- Key `c` of block `j`. -/
def key (j : Fin 11) (c : Fin 384) : Fin 4224 := ⟨384 * j.val + c.val, by have := j.isLt; have := c.isLt; omega⟩

/-- The keys of a block. -/
def blk (j : Fin 11) : Finset (Fin 4224) := Finset.univ.image (key j)

/-- The keys of the first `n` blocks. -/
def pre (n : ℕ) : Finset (Fin 4224) := Finset.univ.filter fun k => k.val < 384 * n

theorem key_injective (j : Fin 11) : Function.Injective (key j) := fun a b h => by
  have h' := congrArg Fin.val h
  simp only [key] at h'
  exact Fin.ext (by omega)

theorem mem_blk (j : Fin 11) (k : Fin 4224) : k ∈ blk j ↔ 384 * j.val ≤ k.val ∧ k.val < 384 * (j.val + 1) := by
  simp only [blk, Finset.mem_image, Finset.mem_univ, true_and]
  constructor
  · rintro ⟨c, rfl⟩
    have := c.isLt
    simp only [key]; omega
  · rintro ⟨h1, h2⟩
    exact ⟨⟨k.val - 384 * j.val, by omega⟩, Fin.ext (by simp only [key]; omega)⟩

theorem mem_pre (n : ℕ) (k : Fin 4224) : k ∈ pre n ↔ k.val < 384 * n := by simp [pre]

theorem pre_zero : pre 0 = ∅ := by ext k; simp [mem_pre]

theorem pre_succ (j : Fin 11) : pre (j.val + 1) = pre j.val ∪ blk j := by
  ext k; rw [Finset.mem_union, mem_pre, mem_pre, mem_blk]; omega

theorem pre_disjoint (j : Fin 11) : Disjoint (pre j.val) (blk j) := by
  rw [Finset.disjoint_left]; intro k h1 h2; rw [mem_pre] at h1; rw [mem_blk] at h2; omega

/-! ## One step, then all of them -/

/-- One step on a row that holds the greatest score, mass and mix of the keys `S` leaves those of `S` and the block's keys. -/
theorem step_at {S : Finset (Fin 4224)} (j : Fin 11) (hd : Disjoint S (blk j)) (s : Fin 4224 → EReal) (h : ∀ k ∈ S ∪ blk j, s k ≠ ⊤)
    (sb : FVec Ideal S384x384 .f32) (r : Fin 384) (hs : ∀ c : Fin 384, (sb (ix2 r c) : EReal) = s (key j c)) (x2 : Vec Ideal S4224x128 .bf16)
    (m l : FVec Ideal S384x1 .f32) (a : FVec Ideal S384x128 .f32) (h1 : (m (ix2 r 0) : EReal) = S.sup s) (h2 : (l (ix2 r 0) : EReal) = mass S s)
    (h3 : ∀ d : Fin 128, (a (ix2 r d) : EReal) = mix S s fun k => x2 (ix2 k d)) :
    (stepMax sb m (ix2 r 0) : EReal) = (S ∪ blk j).sup s
      ∧ (stepMass sb m l (ix2 r 0) : EReal) = mass (S ∪ blk j) s
      ∧ ∀ d : Fin 128, (stepMix sb m a (rows x2 j) (ix2 r d) : EReal) = mix (S ∪ blk j) s fun k => x2 (ix2 k d) := by
  have e1 : (stepMax sb m (ix2 r 0) : EReal) = (S ∪ blk j).sup s := by
    rw [stepMax_at, h1, Finset.sup_union, blk, Finset.sup_image]
    congr 1
    exact Finset.sup_congr rfl fun c _ => hs c
  refine ⟨e1, ?_, fun d => ?_⟩
  · rw [stepMass_at, e1, h1, h2, ← mass_union hd s h, blk, Finset.sum_image fun a _ b _ hab => key_injective j hab]
    congr 1
    exact Finset.sum_congr rfl fun c _ => by rw [hs c]
  · rw [stepMix_at, e1, h1, h3 d, ← mix_union hd s _ h, blk, Finset.sum_image fun a _ b _ hab => key_injective j hab]
    congr 1
    exact Finset.sum_congr rfl fun c _ => by rw [hs c]; rfl

section Heads

variable (qe : Vec Ideal S384x128 .bf16) (x1 x2 : Vec Ideal S4224x128 .bf16) (x3 : Vec Ideal S1x1x11x2x384 .f32) (h : Fin 2)

/-- The gate of a key in the pair's array of gates. -/
def gateOf (k : Fin 4224) : EReal :=
  x3 (ix5 0 0 ⟨k.val / 384, by have := k.isLt; omega⟩ h ⟨k.val % 384, by omega⟩)

/-- Row `r`'s score of key `k` over the 128 lanes, with nothing masked. -/
def raw (r : Fin 384) (k : Fin 4224) : EReal := (∑ l : Fin 128, (qe (ix2 r l) : EReal) * x1 (ix2 k l)) + gateOf x3 h k

/-- The block's scores are these. -/
theorem scores_at (j : Fin 11) (r c : Fin 384) : (scoresOf qe (rows x1 j) (gates x3 j h) (ix2 r c) : EReal) = raw qe x1 x3 h r (key j c) := by
  rw [scoresOf_at]
  have hc := c.isLt
  have e1 : (384 * j.val + c.val) / 384 = j.val := by omega
  have e2 : (384 * j.val + c.val) % 384 = c.val := by omega
  simp only [raw, gateOf, key, e1, e2]
  rfl

/-- After `n` blocks a head carries the softmax of their keys. -/
theorem carried_at (r : Fin 384) (ht : ∀ k, raw qe x1 x3 h r k ≠ ⊤) : ∀ n : ℕ, n ≤ 11 →
    ((carried qe x1 x2 x3 h n).1 (ix2 r 0) : EReal) = (pre n).sup (raw qe x1 x3 h r)
      ∧ ((carried qe x1 x2 x3 h n).2.1 (ix2 r 0) : EReal) = mass (pre n) (raw qe x1 x3 h r)
      ∧ ∀ d : Fin 128, ((carried qe x1 x2 x3 h n).2.2 (ix2 r d) : EReal) = mix (pre n) (raw qe x1 x3 h r) fun k => x2 (ix2 k d)
  | 0, _ => by
    rw [pre_zero, mass_empty]
    simp only [mix_empty, Finset.sup_empty, carried, start]
    refine ⟨?_, ?_, fun d => ?_⟩
    · exact mask_eq
    · pointwise [k0_pay4]
    · pointwise [k0_pay5]
  | n + 1, hn => by
    have hn' : n < 11 := hn
    obtain ⟨h1, h2, h3⟩ := carried_at r ht n (by omega)
    rw [carried, dif_pos hn', show pre (n + 1) = pre n ∪ blk ⟨n, hn'⟩ from pre_succ ⟨n, hn'⟩]
    exact step_at ⟨n, hn'⟩ (pre_disjoint ⟨n, hn'⟩) _ (fun k _ => ht k) _ r (fun c => scores_at qe x1 x3 h ⟨n, hn'⟩ r c) x2 _ _ _ h1 h2 h3

/-- Row `r` of block `i`'s score of key `k`: a key after the query is masked. -/
def masked (i : Fin 11) (r : Fin 384) (k : Fin 4224) : EReal := if k.val ≤ 384 * i.val + r.val then raw qe x1 x3 h r k else ⊥

/-- A head's output, read at an index: the softmax of the head's scores over all keys, applied to the values. -/
theorem headOut_at (i : Fin 11) (r : Fin 384) (ht : ∀ k, raw qe x1 x3 h r k ≠ ⊤) (d : Fin 128) :
    (headOut qe x1 x2 x3 h i (ix2 r d) : EReal) = attend Finset.univ (masked qe x1 x3 h i r) fun k => x2 (ix2 k d) := by
  have htm : ∀ k, masked qe x1 x3 h i r k ≠ ⊤ := fun k => by
    unfold masked; split_ifs
    · exact ht k
    · exact bot_ne_top
  have hi := i.isLt
  have hr := r.isLt
  obtain ⟨h1, h2, h3⟩ := carried_at qe x1 x2 x3 h r ht i.val (by omega)
  have hpre : ∀ k ∈ pre i.val, raw qe x1 x3 h r k = masked qe x1 x3 h i r k := fun k hk => by
    rw [mem_pre] at hk; unfold masked; rw [if_pos (by omega)]
  have hsup : (pre i.val).sup (raw qe x1 x3 h r) = (pre i.val).sup (masked qe x1 x3 h i r) := Finset.sup_congr rfl hpre
  have hmass : mass (pre i.val) (raw qe x1 x3 h r) = mass (pre i.val) (masked qe x1 x3 h i r) := by
    unfold mass; rw [hsup]; exact Finset.sum_congr rfl fun k hk => by rw [hpre k hk]
  have hmix : ∀ v : Fin 4224 → EReal, mix (pre i.val) (raw qe x1 x3 h r) v = mix (pre i.val) (masked qe x1 x3 h i r) v := fun v => by
    unfold mix; rw [hsup]; exact Finset.sum_congr rfl fun k hk => by rw [hpre k hk]
  obtain ⟨_, e2, e3⟩ := step_at i (pre_disjoint i) (masked qe x1 x3 h i r) (fun k _ => htm k)
    (causal (scoresOf qe (rows x1 i) (gates x3 i h))) r (fun c => by
      rw [causal_at, scores_at]
      have hk : (key i c).val = 384 * i.val + c.val := rfl
      unfold masked
      by_cases hc : c.val ≤ r.val
      · rw [if_pos hc, if_pos (by omega)]
      · rw [if_neg hc, if_neg (by omega)]) x2 _ _ _ (h1.trans hsup) (h2.trans hmass) (fun d => (h3 d).trans (hmix _))
  rw [headOut, quotient_at, e2, e3 d, ← pre_succ]
  have hlate : ∀ k ∈ (Finset.univ : Finset (Fin 4224)), k ∉ pre (i.val + 1) → masked qe x1 x3 h i r k = ⊥ := fun k _ hk => by
    rw [mem_pre] at hk; unfold masked; rw [if_neg (by omega)]
  rw [attend, mix_of_masked (Finset.subset_univ (pre (i.val + 1))) _ _ hlate, mass_of_masked (Finset.subset_univ (pre (i.val + 1))) _ hlate]

end Heads

/-! ## The two heads of a block -/

/-- Lane `d` of a pair's head `h`. -/
def lane (h : Fin 2) (d : Fin 64) : Fin 128 := ⟨64 * h.val + d.val, by have := h.isLt; have := d.isLt; omega⟩

/-- The head a lane belongs to. -/
def headOf (d : Fin 128) : Fin 2 := ⟨d.val / 64, by have := d.isLt; omega⟩

/-- A sum over the pair's lanes, of which only the first head's count. -/
theorem sum_first (q x : Fin 128 → EReal) : (∑ l : Fin 128, (if l.val < 64 then q l else 0) * x l) = ∑ d : Fin 64, q (lane 0 d) * x (lane 0 d) := by
  rw [show (∑ l : Fin 128, (if l.val < 64 then q l else 0) * x l) = ∑ l : Fin (64 + 64), (if l.val < 64 then q l else 0) * x l from rfl, Fin.sum_univ_add]
  rw [Finset.sum_eq_zero (s := (Finset.univ : Finset (Fin 64))) (f := fun l => (if (Fin.natAdd 64 l).val < 64 then q (Fin.natAdd 64 l) else 0) * x (Fin.natAdd 64 l))
    (fun l _ => by rw [if_neg (by simp), zero_mul]), add_zero]
  refine Finset.sum_congr rfl fun d _ => ?_
  have hd := d.isLt
  have e : (Fin.castAdd 64 d : Fin 128) = lane 0 d := Fin.ext (by simp [lane])
  rw [e, if_pos (by simp [lane])]

/-- A sum over the pair's lanes, of which only the second head's count. -/
theorem sum_second (q x : Fin 128 → EReal) : (∑ l : Fin 128, (if 64 ≤ l.val then q l else 0) * x l) = ∑ d : Fin 64, q (lane 1 d) * x (lane 1 d) := by
  rw [show (∑ l : Fin 128, (if 64 ≤ l.val then q l else 0) * x l) = ∑ l : Fin (64 + 64), (if 64 ≤ l.val then q l else 0) * x l from rfl, Fin.sum_univ_add]
  rw [Finset.sum_eq_zero (s := (Finset.univ : Finset (Fin 64))) (f := fun l => (if 64 ≤ (Fin.castAdd 64 l).val then q (Fin.castAdd 64 l) else 0) * x (Fin.castAdd 64 l))
    (fun l _ => by rw [if_neg (by simp), zero_mul]), zero_add]
  refine Finset.sum_congr rfl fun d _ => ?_
  have e : (Fin.natAdd 64 d : Fin 128) = lane 1 d := Fin.ext (by simp [lane]; omega)
  rw [e, if_pos (by simp [lane])]

/-- Head `h`'s query in row `r` against key `k`, over the head's 64 lanes, plus the key's gate. -/
def plain (x0 : Vec Ideal S384x128 .bf16) (x1 : Vec Ideal S4224x128 .bf16) (x3 : Vec Ideal S1x1x11x2x384 .f32) (h : Fin 2) (r : Fin 384) (k : Fin 4224) : EReal :=
  (∑ d : Fin 64, (x0 (ix2 r (lane h d)) : EReal) * x1 (ix2 k (lane h d))) + gateOf x3 h k

/-- The same for row `r` of block `i`, where a key after the query is masked. -/
def score (x0 : Vec Ideal S384x128 .bf16) (x1 : Vec Ideal S4224x128 .bf16) (x3 : Vec Ideal S1x1x11x2x384 .f32) (h : Fin 2) (i : Fin 11) (r : Fin 384) (k : Fin 4224) : EReal :=
  if k.val ≤ 384 * i.val + r.val then plain x0 x1 x3 h r k else ⊥

/-- The block of a grid point, read at an index. -/
theorem blockOut_at (i : Fin 11) (x0 : Vec Ideal S384x128 .bf16) (x1 x2 : Vec Ideal S4224x128 .bf16) (x3 : Vec Ideal S1x1x11x2x384 .f32) (r : Fin 384) (d : Fin 128)
    (ht : ∀ h k, plain x0 x1 x3 h r k ≠ ⊤) :
    (blockOut i x0 x1 x2 x3 (ix2 r d) : EReal)
      = if 112 ≤ 384 * i.val + r.val then attend Finset.univ (score x0 x1 x3 (headOf d) i r) fun k => x2 (ix2 k d) else 0 := by
  have r0 : ∀ k, raw (k0_pay2 x0) x1 x3 0 r k = plain x0 x1 x3 0 r k := fun k => by
    unfold raw plain
    simp only [pay2_at]
    rw [sum_first (fun l => x0 (ix2 r l)) fun l => x1 (ix2 k l)]
  have r1 : ∀ k, raw (k0_pay20 lanes x0) x1 x3 1 r k = plain x0 x1 x3 1 r k := fun k => by
    unfold raw plain
    simp only [pay20_at]
    rw [sum_second (fun l => x0 (ix2 r l)) fun l => x1 (ix2 k l)]
  have s0 : masked (k0_pay2 x0) x1 x3 0 i r = score x0 x1 x3 0 i r := funext fun k => by unfold masked score; rw [r0]
  have s1 : masked (k0_pay20 lanes x0) x1 x3 1 i r = score x0 x1 x3 1 i r := funext fun k => by unfold masked score; rw [r1]
  unfold blockOut
  rw [packed_at, headOut_at _ _ _ _ _ _ _ (fun k => by rw [r0]; exact ht 0 k), headOut_at _ _ _ _ _ _ _ (fun k => by rw [r1]; exact ht 1 k), s0, s1]
  have hd := d.isLt
  by_cases h64 : d.val < 64
  · rw [if_pos h64, show headOf d = 0 from Fin.ext (by simp [headOf]; omega)]
  · rw [if_neg h64, show headOf d = 1 from Fin.ext (by simp [headOf]; omega)]

end Cert.Attn

end
-- ==== Proof.Attn.Array.lean ====
/- The array the prompt attention kernel leaves: `attention` of its queries, keys, values and gates. -/
module

public import proofs.«01_k».proof.Proof.Attn.Row
public import proofs.«01_k».proof.Proof.Gen.KernelIdeal.Value
public import Idealize.ShloMosaic.Lib.Pipeline.ValueKit
public import Idealize.ShloMosaic.Lib.Pipeline.Covers
public import Idealize.ShloMosaic.Lib.Claim

@[expose] public section

set_option maxRecDepth 16384

noncomputable section

namespace Cert.Attn

open Idealize.ShloMosaic Idealize.ShloMosaic.TcCoe Idealize.SL.Sem Cert.KernelIdeal Cert.KernelIdeal.Gen
open Idealize.ShloMosaic.Pipeline (Dat)

/-! ## What is computed -/

/-- Position `p` of sequence `b`, as a row of the arrays. -/
def row (b : Fin 8) (p : Fin 4224) : Fin 33792 := ⟨4224 * b.val + p.val, by have := b.isLt; have := p.isLt; omega⟩

/-- Lane `d` of head `H`, as a column of the arrays. -/
def col (H : Fin 16) (d : Fin 64) : Fin 1024 := ⟨64 * H.val + d.val, by have := H.isLt; have := d.isLt; omega⟩

section

variable (Q K W : Vec Ideal S33792x1024 .bf16) (NF : Vec Ideal S16x33792 .f32)

/-- The query at `p` against the key at `k`, plus the key's gate. -/
def gated (b : Fin 8) (H : Fin 16) (p k : Fin 4224) : EReal :=
  (∑ d : Fin 64, (Q (ix2 (row b p) (col H d)) : EReal) * K (ix2 (row b k) (col H d))) + NF (ix2 H (row b k))

/-- The score of the key at `k`: masked where it comes after the query. -/
def scores (b : Fin 8) (H : Fin 16) (p k : Fin 4224) : EReal := if k.val ≤ p.val then gated Q K NF b H p k else ⊥

/-- Column `y` of the attention of head `H` at position `p` of sequence `b`. -/
def attendAt (b : Fin 8) (p : Fin 4224) (H : Fin 16) (y : Fin 1024) : EReal :=
  if 112 ≤ p.val then attend Finset.univ (scores Q K NF b H p) fun k => W (ix2 (row b k) y) else 0

/-- The attention of all sequences and heads; the rows that pad a sequence in front are zero. -/
def attention : Vec Ideal S33792x1024 .bf16 := fun y =>
  (attendAt Q K W NF ⟨(y 0).val / 4224, by have h := (y 0).isLt; change (y 0).val < 33792 at h; omega⟩ ⟨(y 0).val % 4224, Nat.mod_lt _ (by decide)⟩
    ⟨(y 1).val / 64, by have h := (y 1).isLt; change (y 1).val < 1024 at h; omega⟩ (y 1) : EReal)

end

/-! ## Where the blocks lie -/

theorem idx : ∀ t : Fin cfg0.N,
    win0_0.index t = ![11 * (grid0.coords t 0).val + (grid0.coords t 2).val, (grid0.coords t 1).val]
      ∧ win0_1.index t = ![(grid0.coords t 0).val, (grid0.coords t 1).val]
      ∧ win0_2.index t = ![(grid0.coords t 0).val, (grid0.coords t 1).val]
      ∧ win0_3.index t = ![(grid0.coords t 0).val, (grid0.coords t 1).val, 0, 0, 0]
      ∧ win0_4.index t = ![11 * (grid0.coords t 0).val + (grid0.coords t 2).val, (grid0.coords t 1).val] :=
  (by decide +kernel : ∀ t : Fin grid0.N, _)

variable (m : (ℓ : Loc nD τ sig) → Buf (Elt Ideal) ℓ)

section Reads

variable (c : Dev nD) (t : Fin cfg0.N) (b : Fin 8) (g : Fin 8) (i : Fin 11)
  (hb : (grid0.coords t 0).val = b.val) (hg : (grid0.coords t 1).val = g.val) (hi : (grid0.coords t 2).val = i.val)

include hb hg hi

theorem query_at (r : Fin 384) (l : Fin 128) (x : Fin 33792) (y : Fin 1024) (hx : x.val = 4224 * b.val + 384 * i.val + r.val) (hy : y.val = 128 * g.val + l.val) :
    (iblk m c 0 t (ix2 r l) : EReal) = m ((c : Thread nD τ).loc main_arg0) (ix2 x y) := by
  blk_ext [iblk, V, idx t]

theorem key_at (k : Fin 4224) (l : Fin 128) (x : Fin 33792) (y : Fin 1024) (hx : x.val = 4224 * b.val + k.val) (hy : y.val = 128 * g.val + l.val) :
    (iblk m c 1 t (ix2 k l) : EReal) = m ((c : Thread nD τ).loc main_arg1) (ix2 x y) := by
  blk_ext [iblk, V, idx t]

theorem value_at (k : Fin 4224) (l : Fin 128) (x : Fin 33792) (y : Fin 1024) (hx : x.val = 4224 * b.val + k.val) (hy : y.val = 128 * g.val + l.val) :
    (iblk m c 2 t (ix2 k l) : EReal) = m ((c : Thread nD τ).loc main_arg2) (ix2 x y) := by
  blk_ext [iblk, V, idx t]

theorem gate_at (j : Fin 11) (h : Fin 2) (r : Fin 384) (x : Fin 16) (y : Fin 33792) (hx : x.val = 2 * g.val + h.val) (hy : y.val = 4224 * b.val + 384 * j.val + r.val) :
    (iblk m c 3 t (ix5 0 0 j h r) : EReal) = m ((c : Thread nD τ).loc main_arg3) (ix2 x y) := by
  blk_simp [iblk]
  entry_read
  pointwise
  blk_ext [idx t]

end Reads

/-! ## The array -/

/-- Where no score is `+∞`, what a grid point stores at an index of its block is the attention there. -/
theorem point (c : Dev nD) (t : Fin cfg0.N)
    (ht : ∀ b H p k, gated (m ((c : Thread nD τ).loc main_arg0)) (m ((c : Thread nD τ).loc main_arg1)) (m ((c : Thread nD τ).loc main_arg3)) b H p k ≠ ⊤)
    (r : Fin 384) (d : Fin 128) (z : S33792x1024.Idx)
    (hz0 : (z 0).val = 384 * (11 * (grid0.coords t 0).val + (grid0.coords t 2).val) + r.val) (hz1 : (z 1).val = 128 * (grid0.coords t 1).val + d.val) :
    (blockOut ⟨(grid0.coords t 2).val, (grid0.coords t 2).isLt⟩ (iblk m c 0 t) (iblk m c 1 t) (iblk m c 2 t) (iblk m c 3 t) (ix2 r d) : EReal)
      = attention (m ((c : Thread nD τ).loc main_arg0)) (m ((c : Thread nD τ).loc main_arg1)) (m ((c : Thread nD τ).loc main_arg2)) (m ((c : Thread nD τ).loc main_arg3)) z := by
  have hi : (grid0.coords t 2).val < 11 := (grid0.coords t 2).isLt
  have hb : (grid0.coords t 0).val < 8 := (grid0.coords t 0).isLt
  have hg : (grid0.coords t 1).val < 8 := (grid0.coords t 1).isLt
  have hr := r.isLt
  have hd := d.isLt
  obtain ⟨b, eb⟩ : ∃ b : Fin 8, (grid0.coords t 0).val = b.val := ⟨⟨_, hb⟩, rfl⟩
  obtain ⟨g, eg⟩ : ∃ g : Fin 8, (grid0.coords t 1).val = g.val := ⟨⟨_, hg⟩, rfl⟩
  obtain ⟨i, ei⟩ : ∃ i : Fin 11, (grid0.coords t 2).val = i.val := ⟨⟨_, hi⟩, rfl⟩
  have hi' : (⟨(grid0.coords t 2).val, hi⟩ : Fin 11) = i := Fin.ext ei
  have hp : 384 * i.val + r.val < 4224 := by have := i.isLt; omega
  have hraw : ∀ (h : Fin 2) (k : Fin 4224),
      plain (iblk m c 0 t) (iblk m c 1 t) (iblk m c 3 t) h r k
        = gated (m ((c : Thread nD τ).loc main_arg0)) (m ((c : Thread nD τ).loc main_arg1)) (m ((c : Thread nD τ).loc main_arg3)) b
            ⟨2 * g.val + h.val, by have := g.isLt; have := h.isLt; omega⟩ ⟨384 * i.val + r.val, hp⟩ k := fun h k => by
    unfold gated plain gateOf
    congr 1
    · refine Finset.sum_congr rfl fun d _ => ?_
      rw [query_at m c t b g i eb eg ei r (lane h d) (row b ⟨384 * i.val + r.val, hp⟩) (col ⟨2 * g.val + h.val, by have := g.isLt; have := h.isLt; omega⟩ d)
          (by simp only [row]; omega) (by simp only [col, lane]; omega),
        key_at m c t b g i eb eg ei k (lane h d) (row b k) (col ⟨2 * g.val + h.val, by have := g.isLt; have := h.isLt; omega⟩ d)
          (by simp only [row]) (by simp only [col, lane]; omega)]
    · exact gate_at m c t b g i eb eg ei _ h _ _ _ (by dsimp only) (by simp only [row]; omega)
  have hz0' : (z 0).val = 4224 * b.val + (384 * i.val + r.val) := by omega
  have hz1' : (z 1).val = 128 * g.val + d.val := by omega
  rw [hi', blockOut_at _ _ _ _ _ _ _ fun h k => by rw [hraw]; exact ht _ _ _ _]
  have e1 : (⟨(z 0).val / 4224, by have h := (z 0).isLt; change (z 0).val < 33792 at h; omega⟩ : Fin 8) = b := Fin.ext (by dsimp only; omega)
  have e2 : (⟨(z 0).val % 4224, Nat.mod_lt _ (by decide)⟩ : Fin 4224) = ⟨384 * i.val + r.val, hp⟩ := Fin.ext (by dsimp only; omega)
  have e3 : (⟨(z 1).val / 64, by have h := (z 1).isLt; change (z 1).val < 1024 at h; omega⟩ : Fin 16)
      = ⟨2 * g.val + (headOf d).val, by have := g.isLt; have := (headOf d).isLt; omega⟩ := Fin.ext (by simp only [headOf]; omega)
  unfold attention
  rw [e1, e2, e3]
  unfold attendAt
  have es : score (iblk m c 0 t) (iblk m c 1 t) (iblk m c 3 t) (headOf d) i r
      = scores (m ((c : Thread nD τ).loc main_arg0)) (m ((c : Thread nD τ).loc main_arg1)) (m ((c : Thread nD τ).loc main_arg3)) b
          ⟨2 * g.val + (headOf d).val, by have := g.isLt; have := (headOf d).isLt; omega⟩ ⟨384 * i.val + r.val, hp⟩ :=
    funext fun k => by unfold score scores; rw [hraw]
  have ev : (fun k : Fin 4224 => (iblk m c 2 t (ix2 k d) : EReal)) = fun k => m ((c : Thread nD τ).loc main_arg2) (ix2 (row b k) (z 1)) :=
    funext fun k => value_at m c t b g i eb eg ei k d _ _ (by simp only [row]) hz1'
  rw [es, ev]

/-- Where no score is `+∞`, the kernel's result array is the attention of its arguments. -/
theorem final (c : Dev nD)
    (ht : ∀ b H p k, gated (m ((c : Thread nD τ).loc main_arg0)) (m ((c : Thread nD τ).loc main_arg1)) (m ((c : Thread nD τ).loc main_arg3)) b H p k ≠ ⊤) :
    (dats m 0 c).arrAt 4 cfg0.N
      = attention (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  rw [out_eq]
  idx_vars y
  refine point m c t ht _ _ _ ?_ ?_
  · blk_simp [idx t]; omega
  · blk_simp [idx t]; omega

end Cert.Attn

end
-- ==== Proof.Attn.Reference.lean ====
/- What the plain-jax attention computes, read at an index. -/
module

public import proofs.«01_k».proof.Proof.Attn.Array
public import proofs.«01_k».proof.Proof.Gen.ReferenceIdeal.Run
public import Idealize.ShloMosaic.Lib.Tactic.IndexArith

@[expose] public section

set_option maxRecDepth 16384

noncomputable section

namespace Cert.Attn

open Idealize.ShloMosaic Idealize.ShloMosaic.TcCoe
open Cert.ReferenceIdeal Cert.ReferenceIdeal.Gen

/-- The rows of an array head by head, the padding in front of each sequence dropped. -/
def heads (X : FVec Ideal S33792x1024 .bf16) : FVec Ideal S8x16x4112x64 .f32 :=
  transpose S8x16x4112x64 [0, 2, 1, 3] (extractStridedSlice S8x4112x16x64 ![0, 112, 0, 0] (shapeCast S8x4224x16x64 (extf .f32 X bitsLt_bf16_f32) shapeCasts_S33792x1024_S8x4224x16x64) slices_S8x4224x16x64_S8x4112x16x64_0_112_0_0) transposes_S8x4112x16x64_S8x16x4112x64_0_2_1_3

/-- The running sums of the gates' logarithms, head by head. -/
def sums (NF : FVec Ideal S16x33792 .f32) : FVec Ideal S8x16x4112 .f32 :=
  Host.negf (transpose S8x16x4112 [1, 0, 2] (extractStridedSlice S16x8x4112 ![0, 0, 112] (shapeCast S16x8x4224 NF shapeCasts_S16x33792_S16x8x4224) slices_S16x8x4224_S16x8x4112_0_0_112) transposes_S16x8x4112_S8x16x4112_1_0_2)

/-- The scores, a key after the query masked. -/
def logits (Q K : FVec Ideal S33792x1024 .bf16) (NF : FVec Ideal S16x33792 .f32) : FVec Ideal S8x16x4112x4112 .f32 :=
  select (broadcastInDim S8x16x4112x4112 ![2, 3] bcast_S4112x4112_S8x16x4112x4112_2_3 (cmpi .sge (broadcastInDim S4112x4112 ![0, 1] bcast_S4112x1_S4112x4112_0_1 (broadcastInDim S4112x1 ![0] bcast_S4112_S4112x1_0 (iotaInDim S4112 32 0))) (broadcastInDim S4112x4112 ![0, 1] bcast_S1x4112_S4112x4112_0_1 (broadcastInDim S1x4112 ![1] bcast_S4112_S1x4112_1 (iotaInDim S4112 32 0)))))
    (subf (addf (Host.dotGeneral dot_S8x16x4112x64_S8x16x4112x64_S8x16x4112x4112_3_3_2_2_01_01 none (heads Q) (heads K)) (broadcastInDim S8x16x4112x4112 ![0, 1, 2, 3] bcast_S8x16x4112x1_S8x16x4112x4112_0_1_2_3 (broadcastInDim S8x16x4112x1 ![0, 1, 2] bcast_S8x16x4112_S8x16x4112x1_0_1_2 (sums NF)))) (broadcastInDim S8x16x4112x4112 ![0, 1, 2, 3] bcast_S8x16x1x4112_S8x16x4112x4112_0_1_2_3 (broadcastInDim S8x16x1x4112 ![0, 1, 3] bcast_S8x16x4112_S8x16x1x4112_0_1_3 (sums NF))))
    (broadcastInDim S8x16x4112x4112 ![] bcast_S_S8x16x4112x4112 (id (constant S_ .f32 0xFF800000#32)))

/-- The greatest entry of each row. -/
def greatest (s : FVec Ideal S8x16x4112x4112 .f32) : FVec Ideal S8x16x4112 .f32 :=
  Host.reduce FloatOps.maximumf s (constant S_ .f32 0xFF800000#32) reducesTo_S8x16x4112x4112_S8x16x4112_d3 h_S_

/-- The exponentials of the scores less a number for each row. -/
def exps (s : FVec Ideal S8x16x4112x4112 .f32) (g : FVec Ideal S8x16x4112 .f32) : FVec Ideal S8x16x4112x4112 .f32 :=
  Host.exp (subf s (broadcastInDim S8x16x4112x4112 ![0, 1, 2, 3] bcast_S8x16x4112x1_S8x16x4112x4112_0_1_2_3 (broadcastInDim S8x16x4112x1 ![0, 1, 2] bcast_S8x16x4112_S8x16x4112x1_0_1_2 (maximumf (broadcastInDim S8x16x4112 ![] bcast_S_S8x16x4112 (constant S_ .f32 0xFF800000#32)) g))))

/-- The exponentials of the scores less the greatest of their row. -/
def weights (s : FVec Ideal S8x16x4112x4112 .f32) : FVec Ideal S8x16x4112x4112 .f32 := exps s (greatest s)

/-- The softmax: each weight over the sum of its row's. -/
def softmax (w : FVec Ideal S8x16x4112x4112 .f32) : FVec Ideal S8x16x4112x4112 .f32 :=
  Host.divf w (broadcastInDim S8x16x4112x4112 ![0, 1, 2, 3] bcast_S8x16x4112x1_S8x16x4112x4112_0_1_2_3 (broadcastInDim S8x16x4112x1 ![0, 1, 2] bcast_S8x16x4112_S8x16x4112x1_0_1_2 (Host.reduceAdd w (constant S_ .f32 0x00000000#32) reducesTo_S8x16x4112x4112_S8x16x4112_d3 h_S_)))

/-- The values mixed by the softmax, laid out as rows again with the padding in front. -/
def mixed (p : FVec Ideal S8x16x4112x4112 .f32) (v : FVec Ideal S8x16x4112x64 .f32) : FVec Ideal S33792x1024 .bf16 :=
  truncf .bf16 (shapeCast S33792x1024 (pad S8x4224x16x64 ![0, 112, 0, 0] ![0, 0, 0, 0] ![0, 0, 0, 0] (transpose S8x4112x16x64 [0, 2, 1, 3] (Host.dotGeneral dot_S8x16x4112x4112_S8x16x4112x64_S8x16x4112x64_3_2_2_3_01_01 none p v) transposes_S8x16x4112x64_S8x4112x16x64_0_2_1_3) (sitofp .f32 (constantI S_ 32 0#32)) pads_S8x4112x16x64_S8x4224x16x64_000_11200_000_000 h_S_) shapeCasts_S8x4224x16x64_S33792x1024) bitsLt_bf16_f32

/-- The reference's result is these, one after the other. -/
theorem reference_eq (m : (ℓ : Loc nD τ sig) → Buf (Elt Ideal) ℓ) (c : Dev nD) :
    Cert.ReferenceIdeal.Value.res_main_v45 (F := Ideal) m c
      = mixed (softmax (weights (logits (m ((c.tc : Thread nD τ).loc main_arg0)) (m ((c.tc : Thread nD τ).loc main_arg1)) (m ((c.tc : Thread nD τ).loc main_arg3)))))
          (heads (m ((c.tc : Thread nD τ).loc main_arg2))) := by
  unfold Cert.ReferenceIdeal.Value.res_main_v45; rfl

/-! ## … read so -/

/-- Position `p` of a sequence, the padding in front counted. -/
def pos (p : Fin 4112) : Fin 4224 := ⟨112 + p.val, by have := p.isLt; omega⟩

theorem heads_at (X : FVec Ideal S33792x1024 .bf16) (b : Fin 8) (H : Fin 16) (p : Fin 4112) (d : Fin 64) :
    (heads X (ix4 b H p d) : EReal) = X (ix2 (row b (pos p)) (col H d)) := by
  pointwise [heads]
  blk_ext [row, pos, col]

theorem sums_at (NF : FVec Ideal S16x33792 .f32) (b : Fin 8) (H : Fin 16) (p : Fin 4112) :
    (sums NF (ix3 b H p) : EReal) = -NF (ix2 H (row b (pos p))) := by
  pointwise [sums]
  refine congrArg (fun e : EReal => -e) ?_
  blk_ext [row, pos]

theorem logits_at (Q K : FVec Ideal S33792x1024 .bf16) (NF : FVec Ideal S16x33792 .f32) (b : Fin 8) (H : Fin 16) (p k : Fin 4112) :
    (logits Q K NF (ix4 b H p k) : EReal)
      = if k.val ≤ p.val then ((∑ d : Fin 64, (heads Q (ix4 b H p d) : EReal) * heads K (ix4 b H k d)) + sums NF (ix3 b H p)) - sums NF (ix3 b H k) else ⊥ := by
  rw [← neg_inf]
  pointwise [logits]
  simp (disch := word_cmp_side) only [hlo_ix]
  rfl

/-- The greatest entry along the last axis, from −∞. -/
theorem max_at {n₀ n₁ n₂ n₃ : Nat} {u : Shape} (x : FVec Ideal ⟨4, ![n₀, n₁, n₂, n₃]⟩ .f32) (init : u.Idx → Ideal .f32)
    (h : (⟨4, ![n₀, n₁, n₂, n₃]⟩ : Shape).ReducesTo [3] ⟨3, ![n₀, n₁, n₂]⟩) (hu : 0 < u.numel) (hi : (init (Shape.Idx.first hu) : EReal) = ⊥)
    (b : Fin n₀) (H : Fin n₁) (p : Fin n₂) :
    (Host.reduce (FloatOps.maximumf : Ideal .f32 → Ideal .f32 → Ideal .f32) x init h hu (ix3 b H p) : EReal) = Finset.univ.sup fun k : Fin n₃ => (x (ix4 b H p k) : EReal) := by
  pointwise
  rw [hi]
  rfl

theorem greatest_at (s : FVec Ideal S8x16x4112x4112 .f32) (b : Fin 8) (H : Fin 16) (p : Fin 4112) :
    (greatest s (ix3 b H p) : EReal) = Finset.univ.sup fun k : Fin 4112 => (s (ix4 b H p k) : EReal) :=
  max_at s _ _ _ neg_inf b H p

theorem exps_at (s : FVec Ideal S8x16x4112x4112 .f32) (g : FVec Ideal S8x16x4112 .f32) (b : Fin 8) (H : Fin 16) (p k : Fin 4112) :
    (exps s g (ix4 b H p k) : EReal) = Ideal.exp (s (ix4 b H p k) - g (ix3 b H p)) := by
  pointwise [exps]
  rw [neg_inf, max_bot_left]

theorem weights_at (s : FVec Ideal S8x16x4112x4112 .f32) (b : Fin 8) (H : Fin 16) (p k : Fin 4112) :
    (weights s (ix4 b H p k) : EReal) = Ideal.exp (s (ix4 b H p k) - Finset.univ.sup fun k : Fin 4112 => (s (ix4 b H p k) : EReal)) := by
  rw [← greatest_at]
  exact exps_at s (greatest s) b H p k

theorem softmax_at (w : FVec Ideal S8x16x4112x4112 .f32) (b : Fin 8) (H : Fin 16) (p k : Fin 4112) :
    (softmax w (ix4 b H p k) : EReal) = Ideal.div (w (ix4 b H p k)) (∑ k : Fin 4112, (w (ix4 b H p k) : EReal)) := by
  pointwise [softmax]

theorem zero_word : (FloatOps.sitofp .f32 (0#32 : BitVec 32) : Ideal .f32) = (0 : EReal) := by
  show (((0#32 : BitVec 32).toInt : ℝ) : EReal) = 0
  simp

/-- A row of a sequence: the values of its head mixed. -/
theorem mixed_row (q : FVec Ideal S8x16x4112x4112 .f32) (v : FVec Ideal S8x16x4112x64 .f32) (x : Fin 33792) (y : Fin 1024) (h : 112 ≤ x.val % 4224) :
    (mixed q v (ix2 x y) : EReal)
      = ∑ k : Fin 4112, (q (ix4 ⟨x.val / 4224, by omega⟩ ⟨y.val / 64, by omega⟩ ⟨x.val % 4224 - 112, by omega⟩ k) : EReal)
            * v (ix4 ⟨x.val / 4224, by omega⟩ ⟨y.val / 64, by omega⟩ k ⟨y.val % 64, Nat.mod_lt _ (by decide)⟩) := by
  pointwise [mixed]
  have hx := x.isLt
  have hy := y.isLt
  exact dif_pos ⟨by omega, ⟨h, by omega⟩, by omega, Nat.mod_lt _ (by decide)⟩

/-- A row in front of a sequence is zero. -/
theorem mixed_pad (q : FVec Ideal S8x16x4112x4112 .f32) (v : FVec Ideal S8x16x4112x64 .f32) (x : Fin 33792) (y : Fin 1024) (h : ¬ 112 ≤ x.val % 4224) :
    (mixed q v (ix2 x y) : EReal) = 0 := by
  pointwise [mixed]
  exact (dif_neg fun e => h e.2.1.1).trans zero_word

end Cert.Attn

end
-- ==== Proof.Attn.Equation.lean ====
/- The equation of the two attentions: where queries, keys and gates are finite and the gates of the padding are −∞, the
   kernel's array is the reference's. -/
module

public import proofs.«01_k».proof.Proof.Attn.Reference

@[expose] public section

set_option maxRecDepth 16384

noncomputable section

namespace Cert.Attn

open Idealize.ShloMosaic Idealize.ShloMosaic.TcCoe
open Cert.ReferenceIdeal Cert.ReferenceIdeal.Gen

/-- A number that is neither `+∞` nor `−∞`. -/
def IsReal (x : EReal) : Prop := ∃ r : ℝ, x = r

theorem IsReal.mul {x y : EReal} : IsReal x → IsReal y → IsReal (x * y) := by
  rintro ⟨r, rfl⟩ ⟨s, rfl⟩; exact ⟨r * s, (EReal.coe_mul r s).symm⟩

theorem IsReal.add {x y : EReal} : IsReal x → IsReal y → IsReal (x + y) := by
  rintro ⟨r, rfl⟩ ⟨s, rfl⟩; exact ⟨r + s, (EReal.coe_add r s).symm⟩

theorem IsReal.sum {n : Nat} (f : Fin n → EReal) (h : ∀ i, IsReal (f i)) : IsReal (∑ i, f i) :=
  Finset.sum_induction f IsReal (fun _ _ => IsReal.add) ⟨0, EReal.coe_zero.symm⟩ fun i _ => h i

theorem IsReal.ne_top {x : EReal} : IsReal x → x ≠ ⊤ := by rintro ⟨r, rfl⟩; exact EReal.coe_ne_top r
theorem IsReal.ne_bot {x : EReal} : IsReal x → x ≠ ⊥ := by rintro ⟨r, rfl⟩; exact EReal.coe_ne_bot r

/-- What the equation asks of the arguments: finite queries and keys, gates −∞ on the padding and finite past it. -/
structure Masked (Q K : FVec Ideal S33792x1024 .bf16) (NF : FVec Ideal S16x33792 .f32) : Prop where
  query : ∀ x y, IsReal (Q (ix2 x y))
  key : ∀ x y, IsReal (K (ix2 x y))
  pad : ∀ H b (k : Fin 4224), k.val < 112 → (NF (ix2 H (row b k)) : EReal) = ⊥
  gate : ∀ H b (k : Fin 4224), 112 ≤ k.val → IsReal (NF (ix2 H (row b k)))

section

variable {Q K W : FVec Ideal S33792x1024 .bf16} {NF : FVec Ideal S16x33792 .f32} (h : Masked Q K NF)
include h

theorem product_real (b : Fin 8) (H : Fin 16) (p k : Fin 4224) :
    IsReal (∑ d : Fin 64, (Q (ix2 (row b p) (col H d)) : EReal) * K (ix2 (row b k) (col H d))) :=
  IsReal.sum _ fun d => (h.query _ _).mul (h.key _ _)

theorem gated_pad (b : Fin 8) (H : Fin 16) (p k : Fin 4224) (hk : k.val < 112) : gated Q K NF b H p k = ⊥ := by
  unfold gated; rw [h.pad H b k hk, EReal.add_bot]

theorem gated_real (b : Fin 8) (H : Fin 16) (p k : Fin 4224) (hk : 112 ≤ k.val) : IsReal (gated Q K NF b H p k) :=
  (product_real h b H p k).add (h.gate H b k hk)

/-- No score is `+∞`. -/
theorem gated_ne_top (b : Fin 8) (H : Fin 16) (p k : Fin 4224) : gated Q K NF b H p k ≠ ⊤ := by
  rcases lt_or_ge k.val 112 with hk | hk
  · rw [gated_pad h b H p k hk]; exact bot_ne_top
  · exact (gated_real h b H p k hk).ne_top

/-- A reference score is the kernel's plus the same finite number for every key of the query. -/
theorem logits_eq (b : Fin 8) (H : Fin 16) (p : Fin 4112) :
    ∃ c : ℝ, ∀ k : Fin 4112, (logits Q K NF (ix4 b H p k) : EReal) = scores Q K NF b H (pos p) (pos k) + c := by
  obtain ⟨n, hn⟩ := h.gate H b (pos p) (Nat.le_add_right 112 _)
  refine ⟨-n, fun k => ?_⟩
  rw [logits_at]
  unfold scores
  have e : ((pos k).val ≤ (pos p).val) ↔ k.val ≤ p.val := Nat.add_le_add_iff_left
  by_cases hk : k.val ≤ p.val
  · rw [if_pos hk, if_pos (e.mpr hk)]
    simp only [heads_at, sums_at]
    unfold gated
    obtain ⟨r, hr⟩ := h.gate H b (pos k) (Nat.le_add_right 112 _)
    obtain ⟨d, hd⟩ := product_real h b H (pos p) (pos k)
    rw [hd, hr, hn]
    rw [← EReal.coe_neg, ← EReal.coe_neg, ← EReal.coe_add, ← EReal.coe_sub, ← EReal.coe_add, ← EReal.coe_add]
    exact congrArg _ (by ring)
  · rw [if_neg hk, if_neg fun a => hk (e.mp a), EReal.bot_add]

omit h in
theorem pos_injective : Function.Injective pos := fun p q e => Fin.ext (by
  have := congrArg Fin.val e
  change 112 + p.val = 112 + q.val at this
  omega)

/-- Past the padding the reference's mix of values is the kernel's attention. -/
theorem row_eq (b : Fin 8) (H : Fin 16) (p : Fin 4112) (v : Fin 4224 → EReal) :
    (∑ k : Fin 4112, (softmax (weights (logits Q K NF)) (ix4 b H p k) : EReal) * v (pos k))
      = attend Finset.univ (scores Q K NF b H (pos p)) v := by
  obtain ⟨c, hc⟩ := logits_eq h b H p
  let s : Fin 4112 → EReal := fun k => logits Q K NF (ix4 b H p k)
  have hs : s = fun k => (scores Q K NF b H (pos p) ∘ pos) k + c := funext hc
  have htop : ∀ k, s k ≠ ⊤ := fun k => by
    rw [hs]
    refine EReal.add_ne_top ?_ (EReal.coe_ne_top c)
    show scores Q K NF b H (pos p) (pos k) ≠ ⊤
    unfold scores
    split
    · exact gated_ne_top h b H _ _
    · exact bot_ne_top
  have hself : s p ≠ ⊥ := by
    rw [hs]
    show scores Q K NF b H (pos p) (pos p) + (c : EReal) ≠ ⊥
    unfold scores
    rw [if_pos le_rfl]
    exact ((gated_real h b H (pos p) (pos p) (Nat.le_add_right 112 _)).add ⟨c, rfl⟩).ne_bot
  obtain ⟨h0, ht⟩ := mass_pos (S := Finset.univ) s (fun k _ => htop k) (Finset.mem_univ p) hself
  have hw : ∀ k, (softmax (weights (logits Q K NF)) (ix4 b H p k) : EReal)
      = Ideal.div (Ideal.exp (s k - Finset.univ.sup s)) (mass Finset.univ s) := fun k => by
    rw [softmax_at]; simp only [weights_at]; rfl
  simp only [hw]
  rw [sum_div_mul s (fun k => v (pos k)) h0 ht]
  have hm : ∀ k ∈ (Finset.univ : Finset (Fin 4224)), k ∉ Finset.univ.image pos → scores Q K NF b H (pos p) k = ⊥ := fun k _ hk => by
    have hlt : k.val < 112 := by
      by_contra hge
      refine hk (Finset.mem_image.mpr ⟨⟨k.val - 112, by have := k.isLt; omega⟩, Finset.mem_univ _, Fin.ext ?_⟩)
      show 112 + (k.val - 112) = k.val
      omega
    unfold scores
    split
    · exact gated_pad h b H _ k hlt
    · rfl
  have hne : (Finset.univ : Finset (Fin 4112)).Nonempty := ⟨p, Finset.mem_univ p⟩
  unfold attend
  rw [mass_of_masked (Finset.subset_univ (Finset.univ.image pos)) _ hm, mix_of_masked (Finset.subset_univ (Finset.univ.image pos)) _ v hm,
    mass_image _ pos pos_injective, mix_image _ pos pos_injective, hs, mass_shift hne, mix_shift hne]
  rfl

/-- THE EQUATION, index by index. -/
theorem reference_attention_at (x : Fin 33792) (y : Fin 1024) :
    (mixed (softmax (weights (logits Q K NF))) (heads W) (ix2 x y) : EReal) = attention Q K W NF (ix2 x y) := by
  have hx := x.isLt
  have hy := y.isLt
  show _ = attendAt Q K W NF ⟨x.val / 4224, by omega⟩ ⟨x.val % 4224, Nat.mod_lt _ (by decide)⟩ ⟨y.val / 64, by omega⟩ y
  unfold attendAt
  by_cases hp : 112 ≤ x.val % 4224
  · rw [mixed_row _ _ x y hp, if_pos hp]
    have ep : (⟨x.val % 4224, Nat.mod_lt _ (by decide)⟩ : Fin 4224) = pos ⟨x.val % 4224 - 112, by omega⟩ := Fin.ext (by
      show x.val % 4224 = 112 + (x.val % 4224 - 112)
      omega)
    have ey : col ⟨y.val / 64, by omega⟩ ⟨y.val % 64, Nat.mod_lt _ (by decide)⟩ = y := Fin.ext (by
      show 64 * (y.val / 64) + y.val % 64 = y.val
      omega)
    rw [ep]
    refine Eq.trans ?_ (row_eq h _ _ _ fun k => W (ix2 (row ⟨x.val / 4224, by omega⟩ k) y))
    refine Finset.sum_congr rfl fun k _ => ?_
    rw [heads_at, ey]
  · rw [mixed_pad _ _ x y hp, if_neg hp]

/-- THE EQUATION: the reference's array is the attention that the kernel leaves. -/
theorem reference_attention : mixed (softmax (weights (logits Q K NF))) (heads W) = attention Q K W NF := by
  funext z
  idx_vars z
  exact reference_attention_at h _ _

end

end Cert.Attn

end
-- ==== Proof.Attn.Pre.lean ====
/- What the precondition says of the arguments' entries. -/
module

public import proofs.«01_k».proof.Proof.Attn.Equation
public import proofs.«01_k».proof.Defs

@[expose] public section

set_option maxRecDepth 16384

noncomputable section

namespace Cert.Attn

open Idealize.ShloMosaic Idealize.ShloMosaic.TcCoe
open Cert.Pre_gates_masked

theorem inf_word : Ideal.ofBits FTy.f32 0x7F800000#32 = ⊤ := by simp [Ideal.ofBits, Ideal.ieee]

/-- A number whose absolute value lies below `+∞` is real. -/
theorem real_of_abs {x : EReal} (h : max x (-x) < ⊤) : IsReal x := by
  induction x using EReal.rec with
  | bot => simp at h
  | top => simp at h
  | coe r => exact ⟨r, rfl⟩

/-- A truth value that is one is true. -/
theorem of_one {p : Prop} [Decidable p] (h : BitVec.ofBool (decide p) = 1#1) : p := by
  by_contra hp
  rw [decide_eq_false hp] at h
  exact absurd h (by decide)

/-- The side conditions of the precondition's operations. -/
theorem pre_facts : Cert.Pre_gates_masked.Facts := by
  constructor <;> decide

section

variable [Facts] (Q K W : FVec Ideal S33792x1024 .bf16) (NF : FVec Ideal S16x33792 .f32)

theorem pad_at (H : Fin 16) (b : Fin 8) (k : Fin 112) (h : (fn (F := Ideal) Q K W NF).1 = fun _ => 1#1) :
    (NF (ix2 H (row b ⟨k.val, by have := k.isLt; omega⟩)) : EReal) = ⊥ := by
  have e := congrFun h (ix3 H b k)
  unfold fn at e
  dsimp only at e
  pointwise at e
  refine Eq.trans ?_ ((of_one e).trans neg_inf)
  blk_ext [row]

theorem gate_real (H : Fin 16) (b : Fin 8) (k : Fin 4112) (h : (fn (F := Ideal) Q K W NF).2.1 = fun _ => 1#1) : IsReal (NF (ix2 H (row b (pos k)))) := by
  have e := congrFun h (ix3 H b k)
  unfold fn at e
  dsimp only at e
  pointwise at e
  have hr := of_one e
  rw [inf_word] at hr
  have hx : (NF (ix2 H (row b (pos k))) : EReal) = NF (ix2 H ⟨b.val * 4224 + (112 + k.val), by have := b.isLt; have := k.isLt; omega⟩) := by blk_ext [row, pos]
  rw [hx]
  exact real_of_abs hr

theorem query_real (x : Fin 33792) (y : Fin 1024) (h : (fn (F := Ideal) Q K W NF).2.2.1 = fun _ => 1#1) : IsReal (Q (ix2 x y)) := by
  have e := congrFun h (ix2 x y)
  unfold fn at e
  dsimp only at e
  pointwise at e
  have hr := of_one e
  rw [inf_word] at hr
  exact real_of_abs hr

theorem key_real (x : Fin 33792) (y : Fin 1024) (h : (fn (F := Ideal) Q K W NF).2.2.2 = fun _ => 1#1) : IsReal (K (ix2 x y)) := by
  have e := congrFun h (ix2 x y)
  unfold fn at e
  dsimp only at e
  pointwise at e
  have hr := of_one e
  rw [inf_word] at hr
  exact real_of_abs hr

/-- The precondition gives what the equation asks. -/
theorem masked_of_pre (h1 : (fn (F := Ideal) Q K W NF).1 = fun _ => 1#1) (h2 : (fn (F := Ideal) Q K W NF).2.1 = fun _ => 1#1)
    (h3 : (fn (F := Ideal) Q K W NF).2.2.1 = fun _ => 1#1) (h4 : (fn (F := Ideal) Q K W NF).2.2.2 = fun _ => 1#1) : Masked Q K NF where
  query x y := query_real Q K W NF x y h3
  key x y := key_real Q K W NF x y h4
  pad H b k hk := pad_at Q K W NF H b ⟨k.val, hk⟩ h1
  gate H b k hk := by
    have e : k = pos ⟨k.val - 112, by have := k.isLt; omega⟩ := Fin.ext (by show k.val = 112 + (k.val - 112); omega)
    rw [e]
    exact gate_real Q K W NF H b _ h2

end

open Idealize.SL.Sem in
/-- THE CLAIM on the attention. -/
theorem claim : algebraic_KernelIdeal_ReferenceIdeal_pre_gates_masked (hKernelIdeal := Cert.KernelIdeal.Gen.facts)
    (hReferenceIdeal := Cert.ReferenceIdeal.Gen.facts) (hPre_gates_masked := pre_facts) := by
  intro m g m' g' hpre hargs
  letI := pre_facts
  have hm := fun c => masked_of_pre _ _ _ _ (hpre c).1 (hpre c).2.1 (hpre c).2.2.1 (hpre c).2.2.2
  refine ⟨fun c => attention (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run _ _ _).mono (fun r h c => ⟨(h c).1.trans (final m c fun b H p k => gated_ne_top (hm c) b H p k), (h c).2⟩) (Cert.KernelIdeal.Value.run_blocks m g)
  · refine (θ_run _ _ _).mono (fun r h c => ⟨(h c).1.trans ?_, (h c).2⟩) (Cert.ReferenceIdeal.Value.run m' g')
    rw [reference_eq, (hargs c).1, (hargs c).2.1, (hargs c).2.2.1, (hargs c).2.2.2]
    exact reference_attention (hm c)

end Cert.Attn

end
-- ==== Proof.Layer.Norm.lean ====
/- The root-mean-square norm of a row, as all the projections' kernels and references compute it. -/
module

public import Idealize.ShloMosaic.Lib.Pointwise
public import Idealize.ShloMosaic.Lib.Pipeline.ValueKit

@[expose] public section

set_option maxRecDepth 16384

noncomputable section

namespace Cert.Layer

open Idealize.ShloMosaic

/-- Entry `k` of the norm of the row `x` with gains `g`. -/
def normAt (x g : Fin 1024 → EReal) (k : Fin 1024) : EReal :=
  x k * Ideal.rsqrt (Ideal.div (∑ j, x j * x j) (Ideal.ofBits .f32 0x44800000#32) + Ideal.ofBits .f32 0x358637BD#32) * g k

/-! The reference's norm of all `n` rows. -/

abbrev Rows (n : ℕ) : Shape := ⟨2, ![n, 1024]⟩
abbrev Gain : Shape := ⟨1, ![1024]⟩
abbrev Col (n : ℕ) : Shape := ⟨2, ![n, 1]⟩
abbrev Line (n : ℕ) : Shape := ⟨1, ![n]⟩
abbrev GainRow : Shape := ⟨2, ![1, 1024]⟩
abbrev One : Shape := ⟨0, ![]⟩

/-- There are many rows: of the prompt, or of the sample. -/
instance prompt_rows : Fact (33792 ≠ 1) := ⟨by decide⟩
instance sample_rows : Fact (128 ≠ 1) := ⟨by decide⟩

variable {n : ℕ}

/-- One number fills any array of rows. -/
theorem one_any {k : ℕ} : One.BroadcastsInDim ⟨2, ![n, k]⟩ (![] : Fin 0 → Fin 2) := ⟨fun a => a.elim0, fun a => a.elim0⟩

theorem line_col : (Line n).BroadcastsInDim (Col n) ![0] :=
  ⟨by intro a b h; fin_cases a; fin_cases b; rfl, by intro a; fin_cases a; simp⟩

theorem col_rows : (Col n).BroadcastsInDim (Rows n) ![0, 1] :=
  ⟨by intro a b h; fin_cases a <;> fin_cases b <;> simp_all, by intro a; fin_cases a <;> simp⟩

theorem gain_row : Gain.BroadcastsInDim GainRow ![1] := by decide

theorem gain_rows : GainRow.BroadcastsInDim (Rows n) ![0, 1] :=
  ⟨by intro a b h; fin_cases a <;> fin_cases b <;> simp_all, by intro a; fin_cases a <;> simp⟩

theorem rows_line : (Rows n).ReducesTo [1] (Line n) := ⟨rfl, fun b => by fin_cases b; rfl⟩

theorem one_pos : 0 < One.numel := by decide

/-- Every row normed. -/
def normed (X : FVec Ideal (Rows n) .f32) (G : FVec Ideal Gain .f32) : FVec Ideal (Rows n) .f32 :=
  mulf (mulf X (broadcastInDim (Rows n) ![0, 1] col_rows (Host.rsqrt (addf (Host.divf (broadcastInDim (Col n) ![0] line_col (Host.reduceAdd (mulf X X) (constant One .f32 0x00000000#32) rows_line Cert.Layer.one_pos)) (broadcastInDim (Col n) ![] one_any (constant One .f32 0x44800000#32))) (broadcastInDim (Col n) ![] one_any (constant One .f32 0x358637BD#32)))))) (broadcastInDim (Rows n) ![0, 1] gain_rows (broadcastInDim GainRow ![1] gain_row G))

theorem normed_at [hn : Fact (n ≠ 1)] (X : FVec Ideal (Rows n) .f32) (G : FVec Ideal Gain .f32) (x : Fin n) (k : Fin 1024) :
    (normed X G (ix2 x k) : EReal) = normAt (fun j => X (ix2 x j)) (fun j => G (ix1 j)) k := by
  have h1 : n ≠ 1 := hn.out
  pointwise [normed, normAt, h1]
  simp [Shape.Idx.norm_def, h1]

/-- The left operand's entry in a product of rows and columns. -/
theorem plain_left {K N : ℕ} (x : Fin n) (e : Fin N) (h : (DotDims.plain n K N).lhsContracting = [1]) (hK : (⟨2, ![n, K]⟩ : Shape).size 1 = K) (k : Fin K) :
    Shape.Idx.norm ((DotDims.plain n K N).lhsIdx (ix2 x e) ((DotDims.plain n K N).contrIdx₁ h hK k)) = ix2 x k :=
  funext fun a => by fin_cases a <;> rfl

/-- Arrays of rows are equal where their entries are. -/
theorem rows_ext {K : ℕ} {f g : (⟨2, ![n, K]⟩ : Shape).Idx → EReal} (h : ∀ (x : Fin n) (k : Fin K), f (ix2 x k) = g (ix2 x k)) : f = g :=
  funext fun y => by rw [eq_ix2 y]; exact h _ _

/-- Some columns of an array of rows. -/
theorem columns_at {K L : ℕ} (o : ℕ) (v : (⟨2, ![n, K]⟩ : Shape).Idx → EReal) (h : (⟨2, ![n, K]⟩ : Shape).Slices ![0, o] ⟨2, ![n, L]⟩) (x : Fin n) (k : Fin L)
    (z : Fin K) (hz : z.val = o + k.val) :
    extractStridedSlice ⟨2, ![n, L]⟩ ![0, o] v h (ix2 x k) = v (ix2 x z) :=
  congrArg v (funext fun a => by
    match a with
    | ⟨0, _⟩ => exact Fin.ext (Nat.zero_add x.val)
    | ⟨1, _⟩ => exact Fin.ext hz.symm)

/-- A normed row against a column of a weight. -/
def projAt (x g w : Fin 1024 → EReal) : EReal := ∑ k, normAt x g k * w k

end Cert.Layer

end
-- ==== Proof.Layer.Swiglu.lean ====
/- The swiglu feed-forward layer of a row, as its kernels and references compute it. -/
module

public import proofs.«01_k».proof.Proof.Layer.Norm

@[expose] public section

set_option maxRecDepth 16384

noncomputable section

namespace Cert.Layer

open Idealize.ShloMosaic

/-- One hidden unit: the gate's projection `a` through its logistic, times the other projection `b`. -/
def unit (a b : EReal) : EReal := a * Ideal.logistic a * b

/-- Hidden unit `j` of the row `x`. -/
def hiddenAt (x g : Fin 1024 → EReal) (wg wu : Fin 1024 → Fin 2816 → EReal) (j : Fin 2816) : EReal :=
  unit (projAt x g (fun k => wg k j)) (projAt x g (fun k => wu k j))

/-- Output `d` of the row `x` before the second norm. -/
def downAt (x g : Fin 1024 → EReal) (wg wu : Fin 1024 → Fin 2816 → EReal) (wd : Fin 2816 → Fin 1024 → EReal) (d : Fin 1024) : EReal :=
  ∑ j, hiddenAt x g wg wu j * wd j d

/-- The row `x` plus half the normed output of its feed-forward layer. -/
def ffnAt (x g g' : Fin 1024 → EReal) (wg wu : Fin 1024 → Fin 2816 → EReal) (wd : Fin 2816 → Fin 1024 → EReal) (d : Fin 1024) : EReal :=
  x d + Ideal.ofBits .f32 0x3F000000#32 * normAt (downAt x g wg wu wd) g' d

/-! The reference's feed-forward layer of all `n` rows. -/

abbrev Hidden (n : ℕ) : Shape := ⟨2, ![n, 2816]⟩
abbrev Up : Shape := ⟨2, ![1024, 2816]⟩
abbrev Down : Shape := ⟨2, ![2816, 1024]⟩

section

variable {n : ℕ} [hn : Fact (n ≠ 1)] (X : FVec Ideal (Rows n) .f32) (G G' : FVec Ideal Gain .f32) (Wg Wu : FVec Ideal Up .f32) (Wd : FVec Ideal Down .f32)

/-- All rows' projections onto the hidden units. -/
def ups (W : FVec Ideal Up .f32) : FVec Ideal (Hidden n) .f32 := Host.dotGeneral (DotDims.plain n 1024 2816) none (normed X G) W

/-- All rows' hidden units. -/
def hiddens : FVec Ideal (Hidden n) .f32 :=
  mulf (mulf (ups X G Wg) (Host.divf (broadcastInDim (Hidden n) ![] one_any (constant One .f32 0x3F800000#32))
    (addf (broadcastInDim (Hidden n) ![] one_any (constant One .f32 0x3F800000#32)) (Host.exp (Host.negf (ups X G Wg)))))) (ups X G Wu)

/-- All rows' outputs before the second norm. -/
def downs : FVec Ideal (Rows n) .f32 := Host.dotGeneral (DotDims.plain n 2816 1024) none (hiddens X G Wg Wu) Wd

/-- All rows of the layer. -/
def ffns : FVec Ideal (Rows n) .f32 :=
  addf X (mulf (broadcastInDim (Rows n) ![] one_any (constant One .f32 0x3F000000#32)) (normed (downs X G Wg Wu Wd) G'))

theorem ups_at (W : FVec Ideal Up .f32) (x : Fin n) (j : Fin 2816) :
    (ups X G W (ix2 x j) : EReal) = projAt (fun j => X (ix2 x j)) (fun j => G (ix1 j)) (fun k => W (ix2 k j)) := by
  unfold projAt
  simp only [← normed_at]
  pointwise [ups]
  simp only [plain_left]

theorem hiddens_at (x : Fin n) (j : Fin 2816) :
    (hiddens X G Wg Wu (ix2 x j) : EReal)
      = hiddenAt (fun j => X (ix2 x j)) (fun j => G (ix1 j)) (fun k j => Wg (ix2 k j)) (fun k j => Wu (ix2 k j)) j := by
  unfold hiddenAt unit Ideal.logistic
  rw [← ups_at, ← ups_at]
  pointwise [hiddens]

theorem downs_at (x : Fin n) (d : Fin 1024) :
    (downs X G Wg Wu Wd (ix2 x d) : EReal)
      = downAt (fun j => X (ix2 x j)) (fun j => G (ix1 j)) (fun k j => Wg (ix2 k j)) (fun k j => Wu (ix2 k j)) (fun j d => Wd (ix2 j d)) d := by
  unfold downAt
  simp only [← hiddens_at]
  pointwise [downs]
  simp only [plain_left]

theorem ffns_at (x : Fin n) (d : Fin 1024) :
    (ffns X G G' Wg Wu Wd (ix2 x d) : EReal)
      = ffnAt (fun j => X (ix2 x j)) (fun j => G (ix1 j)) (fun j => G' (ix1 j)) (fun k j => Wg (ix2 k j)) (fun k j => Wu (ix2 k j)) (fun j d => Wd (ix2 j d)) d := by
  unfold ffnAt
  rw [show downAt (fun j => X (ix2 x j)) (fun j => G (ix1 j)) (fun k j => Wg (ix2 k j)) (fun k j => Wu (ix2 k j)) (fun j d => Wd (ix2 j d))
      = fun d => downs X G Wg Wu Wd (ix2 x d) from funext fun d => (downs_at X G Wg Wu Wd x d).symm]
  rw [← normed_at (downs X G Wg Wu Wd) G']
  pointwise [ffns]

end

end Cert.Layer

end
-- ==== Proof.Feed.Block.lean ====
/- What one grid point of the feed-forward kernel leaves in its output block: eleven stores fill the hidden units, which a
   last contraction then reads whole. -/
module

public import proofs.«01_k».proof.Proof.Layer.Swiglu
public import proofs.«01_k».proof.Proof.Gen.FfnIdeal.Frame
public import Idealize.ShloMosaic.Lib.Pipeline.ValueKit

@[expose] public section

set_option maxRecDepth 16384

noncomputable section

namespace Cert.Feed

open Idealize.ShloMosaic Idealize.ShloMosaic.TcCoe Cert.FfnIdeal Cert.FfnIdeal.Gen Cert.Layer

/-- The block's hidden units from its normed rows. -/
def hidden (h : FVec Ideal S512x1024 .bf16) (wg wu : Vec Ideal S1024x2816 .bf16) : Vec Ideal S512x2816 .bf16 := fun y =>
  (unit (∑ k : Fin 1024, h (ix2 (y 0) k) * wg (ix2 k (y 1))) (∑ k : Fin 1024, h (ix2 (y 0) k) * wu (ix2 k (y 1))) : EReal)

theorem norm_at (x : Vec Ideal S512x1024 .f32) (g : Vec Ideal S1x1024 .f32) (r : Fin 512) (k : Fin 1024) :
    (k0_pay1 x g (ix2 r k) : EReal) = normAt (fun j => x (ix2 r j)) (fun j => g (ix2 0 j)) k := by
  pointwise [k0_pay1, normAt]

/-- The hidden units of 256 columns of the weights. -/
theorem chunk_at (h : FVec Ideal S512x1024 .bf16) (wg wu : Vec Ideal S1024x256 .bf16) (r : Fin 512) (y : Fin 256) :
    (k0_pay6 h wg wu (ix2 r y) : EReal) = unit (∑ k : Fin 1024, h (ix2 r k) * wg (ix2 k y)) (∑ k : Fin 1024, h (ix2 r k) * wu (ix2 k y)) := by
  pointwise [k0_pay6, unit]

/-- One store's payload is the hidden units its rectangle names. -/
theorem chunk_eq (h : FVec Ideal S512x1024 .bf16) (wg wu : Vec Ideal S1024x2816 .bf16) (o : ℕ)
    (inb : ∀ a, (![0, o] : Fin 2 → ℕ) a + S1024x256.size a ≤ S1024x2816.size a)
    (inb' : ∀ a, (![0, o] : Fin 2 → ℕ) a + S512x256.size a ≤ S512x2816.size a)
    (y : S512x256.Idx) :
    k0_pay6 h (View.ld (Val := Elt Ideal) (S := S1024x2816) (e' := .bf16) wg (Rect.unit (s := S1024x2816) ![0, o] S1024x256.size inb))
        (View.ld (Val := Elt Ideal) (S := S1024x2816) (e' := .bf16) wu (Rect.unit (s := S1024x2816) ![0, o] S1024x256.size inb)) y
      = hidden h wg wu ((Rect.unit (s := S512x2816) ![0, o] S512x256.size inb').emb y) := by
  idx_vars y
  refine (chunk_at _ _ _ _ _).trans ?_
  unfold hidden
  refine congrArg₂ unit (Finset.sum_congr rfl fun k _ => congrArg₂ (· * ·) ?_ ?_) (Finset.sum_congr rfl fun k _ => congrArg₂ (· * ·) ?_ ?_)
  · blk_ext []
  · refine congrArg wg (funext fun a => Fin.ext ?_)
    match a with
    | ⟨0, _⟩ => show 0 + 1 * k.val = k.val; omega
    | ⟨1, _⟩ => rfl
  · blk_ext []
  · refine congrArg wu (funext fun a => Fin.ext ?_)
    match a with
    | ⟨0, _⟩ => show 0 + 1 * k.val = k.val; omega
    | ⟨1, _⟩ => rfl

theorem out_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x2816 .bf16) (harg8 : arg8.IsWhole)
    (x0 : Vec Ideal S512x1024 .f32) (x1 : Vec Ideal S1x1024 .f32) (x2 : Vec Ideal S1x1024 .f32) (x3 : Vec Ideal S1024x2816 .bf16) (x4 : Vec Ideal S1024x2816 .bf16) (x5 : Vec Ideal S2816x1024 .bf16) :
    out0_A_6 (F := Ideal) c i arg1 harg1 arg2 harg2 arg3 harg3 arg4 harg4 arg5 harg5 arg6 harg6 arg7 harg7 arg8 harg8 x0 x1 x2 x3 x4 x5
      = k0_pay17 x0 (hidden (k0_pay1 x0 x1) x3 x4) x5 x2 := by
  have hz : (![0, 0] : Fin 2 → Nat) = fun _ => 0 := funext fun a => by fin_cases a <;> rfl
  unfold out0_A_6
  rw [View.read_writes_eq_canon _ _ _ (cover0_A_6 (F := Ideal) c i arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S512x1024) hz, View.ld_unit_zero (S := S1x1024) hz, View.ld_unit_zero (S := S2816x1024) hz]
  rw [View.readCov_eq_canon']
  refine congrArg (fun v => k0_pay17 x0 v x5 x2) (funext fun j => ?_)
  refine (View.canon_apply_of_pieces (hidden (k0_pay1 x0 x1) x3 x4) _ ?_ _ ?_).trans
    (congrFun (View.ld_unit_zero (S := S512x2816) hz _ (hidden (k0_pay1 x0 x1) x3 x4)) j)
  · iterate 11 refine List.forall_mem_cons.mpr ⟨fun y => chunk_eq _ _ _ _ _ (by decide) y, ?_⟩
    exact fun p hp => absurd hp List.not_mem_nil
  · refine View.cover_of_tiledL (s := S512x2816) _ S512x256.size ?_ _
    sl_kernel_rfl

/-- The block's outputs before the second norm. -/
def down (v : FVec Ideal S512x2816 .bf16) (wd : FVec Ideal S2816x1024 .bf16) : FVec Ideal S512x1024 .f32 :=
  matmul dot_S512x2816_S2816x1024_S512x1024_1_0_0_1_n_n none v wd (constant S512x1024 .f32 0x00000000#32)

theorem down_at (v : FVec Ideal S512x2816 .bf16) (wd : FVec Ideal S2816x1024 .bf16) (r : Fin 512) (d : Fin 1024) :
    (down v wd (ix2 r d) : EReal) = ∑ j : Fin 2816, v (ix2 r j) * wd (ix2 j d) := by
  pointwise [down]

theorem last_at (x : Vec Ideal S512x1024 .f32) (v : Vec Ideal S512x2816 .bf16) (wd : Vec Ideal S2816x1024 .bf16) (g : Vec Ideal S1x1024 .f32)
    (r : Fin 512) (d : Fin 1024) :
    (k0_pay17 x v wd g (ix2 r d) : EReal) = x (ix2 r d) + Ideal.ofBits .f32 0x3F000000#32 * normAt (fun d => ∑ j : Fin 2816, v (ix2 r j) * wd (ix2 j d)) (fun j => g (ix2 0 j)) d := by
  simp only [← down_at]
  pointwise [k0_pay17, down, normAt]

/-- The block is the layer's output of its rows. -/
theorem block_at (x : Vec Ideal S512x1024 .f32) (g g' : Vec Ideal S1x1024 .f32) (wg wu : Vec Ideal S1024x2816 .bf16) (wd : Vec Ideal S2816x1024 .bf16)
    (r : Fin 512) (d : Fin 1024) :
    (k0_pay17 x (hidden (k0_pay1 x g) wg wu) wd g' (ix2 r d) : EReal)
      = ffnAt (fun j => x (ix2 r j)) (fun j => g (ix2 0 j)) (fun j => g' (ix2 0 j)) (fun k j => wg (ix2 k j)) (fun k j => wu (ix2 k j)) (fun j d => wd (ix2 j d)) d := by
  refine (last_at _ _ _ _ r d).trans ?_
  unfold ffnAt downAt hiddenAt projAt
  simp only [← norm_at]
  rfl

end Cert.Feed

end
-- ==== Proof.Feed.Claim.lean ====
/- The feed-forward layer: what its array holds, what its reference computes, and the claim that they agree. -/
module

public import proofs.«01_k».proof.Proof.Feed.Block
public import proofs.«01_k».proof.Proof.Gen.FfnIdeal.Value
public import proofs.«01_k».proof.Proof.Gen.FfnRefIdeal.Run
public import proofs.«01_k».proof.Defs
public import Idealize.ShloMosaic.Lib.Pipeline.Covers
public import Idealize.ShloMosaic.Lib.Claim

@[expose] public section

set_option maxRecDepth 16384

noncomputable section

namespace Cert.Feed

open Idealize.ShloMosaic Idealize.ShloMosaic.TcCoe Idealize.SL.Sem Cert.FfnIdeal Cert.FfnIdeal.Gen Cert.Layer
open Idealize.ShloMosaic.Pipeline (Dat)

/-! ## The array -/

theorem idx : ∀ t : Fin cfg0.N,
    win0_0.index t = ![(grid0.coords t 0).val, 0] ∧ win0_1.index t = ![0, 0] ∧ win0_2.index t = ![0, 0] ∧ win0_3.index t = ![0, 0]
      ∧ win0_4.index t = ![0, 0] ∧ win0_5.index t = ![0, 0] ∧ win0_6.index t = ![(grid0.coords t 0).val, 0] :=
  (by decide +kernel : ∀ t : Fin grid0.N, _)

variable (m : (ℓ : Loc nD τ sig) → Buf (Elt Ideal) ℓ) (c : Dev nD) (t : Fin cfg0.N)

theorem row_at (r : Fin 512) (j : Fin 1024) (x : Fin 33792) (hx : x.val = 512 * (grid0.coords t 0).val + r.val) :
    (iblk m c 0 t (ix2 r j) : EReal) = m ((c : Thread nD τ).loc main_arg0) (ix2 x j) := by
  blk_ext [iblk, V, idx t]

theorem gain_at (j : Fin 1024) : (iblk m c 1 t (ix2 0 j) : EReal) = m ((c : Thread nD τ).loc main_arg1) (ix1 j) := by
  blk_simp [iblk]
  entry_read
  pointwise
  blk_ext [idx t]

theorem gain'_at (j : Fin 1024) : (iblk m c 2 t (ix2 0 j) : EReal) = m ((c : Thread nD τ).loc main_arg2) (ix1 j) := by
  blk_simp [iblk]
  entry_read
  pointwise
  blk_ext [idx t]

theorem gate_at (k : Fin 1024) (j : Fin 2816) : (iblk m c 3 t (ix2 k j) : EReal) = m ((c : Thread nD τ).loc main_arg3) (ix2 k j) := by
  blk_simp [iblk]
  entry_read
  pointwise
  blk_ext [idx t]

theorem up_at (k : Fin 1024) (j : Fin 2816) : (iblk m c 4 t (ix2 k j) : EReal) = m ((c : Thread nD τ).loc main_arg4) (ix2 k j) := by
  blk_simp [iblk]
  entry_read
  pointwise
  blk_ext [idx t]

theorem down'_at (j : Fin 2816) (d : Fin 1024) : (iblk m c 5 t (ix2 j d) : EReal) = m ((c : Thread nD τ).loc main_arg5) (ix2 j d) := by
  blk_simp [iblk]
  entry_read
  pointwise
  blk_ext [idx t]

/-- The layer on whole arrays. -/
abbrev result (m : (ℓ : Loc nD τ sig) → Buf (Elt Ideal) ℓ) (c : Dev nD) : Vec Ideal S33792x1024 .f32 :=
  ffns (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a grid point stores is the layer at the entry its block holds. -/
theorem point (r : Fin 512) (d : Fin 1024) (z : S33792x1024.Idx) (hz0 : (z 0).val = 512 * (grid0.coords t 0).val + r.val) (hz1 : (z 1).val = d.val) :
    (k0_pay17 (iblk m c 0 t) (hidden (k0_pay1 (iblk m c 0 t) (iblk m c 1 t)) (iblk m c 3 t) (iblk m c 4 t)) (iblk m c 5 t) (iblk m c 2 t) (ix2 r d) : EReal)
      = result m c z := by
  refine (block_at _ _ _ _ _ _ r d).trans ?_
  simp only [row_at m c t r _ (z 0) hz0, gain_at m c t, gain'_at m c t, gate_at m c t, up_at m c t, down'_at m c t]
  refine (ffns_at (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (z 0) d).symm.trans ?_
  exact congrArg (result m c) (funext fun a => Fin.ext (by match a with | ⟨0, _⟩ => rfl | ⟨1, _⟩ => exact hz1.symm))

theorem final : (dats m 0 c).arrAt 6 cfg0.N = result m c := by
  refine (dats m 0 c).arrAt_eq_of_covers 6 _ (by decide +kernel) fun t _ y => ?_
  blk_simp
  rw [after0_6]
  unfold outsAt0
  rw [out_eq]
  idx_vars y
  refine point m c t _ _ _ ?_ ?_
  · blk_simp [idx t]; omega
  · blk_simp [idx t]

/-! ## The reference -/

open Cert.FfnRefIdeal Cert.FfnRefIdeal.Gen in
theorem reference_eq (m' : (ℓ : Loc Cert.FfnRefIdeal.nD Cert.FfnRefIdeal.τ Cert.FfnRefIdeal.sig) → Buf (Elt Ideal) ℓ) (c : Dev Cert.FfnRefIdeal.nD) :
    Cert.FfnRefIdeal.Value.res_main_v33 (F := Ideal) m' c
      = ffns (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1))
        (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3))
        (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) := by
  unfold Cert.FfnRefIdeal.Value.res_main_v33 ffns downs hiddens ups normed
  rfl

/-- THE CLAIM on the feed-forward layer. -/
theorem claim : algebraic_FfnIdeal_FfnRefIdeal (hFfnIdeal := Cert.FfnIdeal.Gen.facts) (hFfnRefIdeal := Cert.FfnRefIdeal.Gen.facts) := by
  intro m g m' g' hpre hargs
  refine ⟨fun c => result m c, ?_, ?_⟩
  · exact (θ_run _ _ _).mono (fun r h c => ⟨(h c).1.trans (final m c), (h c).2⟩) (Cert.FfnIdeal.Value.run_blocks m g)
  · refine (θ_run _ _ _).mono (fun r h c => ⟨(h c).1.trans ?_, (h c).2⟩) (Cert.FfnRefIdeal.Value.run m' g')
    rw [reference_eq, (hargs c).1, (hargs c).2.1, (hargs c).2.2.1, (hargs c).2.2.2.1, (hargs c).2.2.2.2.1, (hargs c).2.2.2.2.2]

end Cert.Feed

end
-- ==== Proof.Layer.Residual.lean ====
/- A mixer's output projection, its norm and the residual, of a row, as the kernels and references compute it. -/
module

public import proofs.«01_k».proof.Proof.Layer.Norm

@[expose] public section

set_option maxRecDepth 16384

noncomputable section

namespace Cert.Layer

open Idealize.ShloMosaic

/-- The row `x` plus the normed projection of its mix. -/
def residualAt (x mix g : Fin 1024 → EReal) (wo : Fin 1024 → Fin 1024 → EReal) (d : Fin 1024) : EReal :=
  x d + normAt (fun e => ∑ k, mix k * wo k e) g d

abbrev Square : Shape := ⟨2, ![1024, 1024]⟩

section

variable {n : ℕ} [hn : Fact (n ≠ 1)] (X : FVec Ideal (Rows n) .f32) (M : FVec Ideal (Rows n) .bf16) (Wo : FVec Ideal Square .f32) (G : FVec Ideal Gain .f32)

theorem widens : FTy.bf16.bits < FTy.f32.bits := by decide

/-- All rows' projections of their mixes. -/
def outs : FVec Ideal (Rows n) .f32 := Host.dotGeneral (DotDims.plain n 1024 1024) none (extf .f32 M widens) Wo

/-- All rows after the mixer. -/
def residuals : FVec Ideal (Rows n) .f32 := addf X (normed (outs M Wo) G)

theorem outs_at (x : Fin n) (e : Fin 1024) : (outs M Wo (ix2 x e) : EReal) = ∑ k : Fin 1024, M (ix2 x k) * Wo (ix2 k e) := by
  pointwise [outs]
  simp only [plain_left]

theorem residuals_at (x : Fin n) (d : Fin 1024) :
    (residuals X M Wo G (ix2 x d) : EReal)
      = residualAt (fun j => X (ix2 x j)) (fun j => M (ix2 x j)) (fun j => G (ix1 j)) (fun k e => Wo (ix2 k e)) d := by
  unfold residualAt
  simp only [← outs_at]
  rw [← normed_at (outs M Wo) G]
  pointwise [residuals]

end

end Cert.Layer

end
-- ==== Proof.FeedMix.Block.lean ====
/- What one grid point of the feed-forward kernel with a mixer's residual leaves in its output block: the block of the plain
   feed-forward kernel, of the rows after the residual. -/
module

public import proofs.«01_k».proof.Proof.Feed.Block
public import proofs.«01_k».proof.Proof.Layer.Residual
public import proofs.«01_k».proof.Proof.Gen.FfnMixIdeal.Frame

@[expose] public section

set_option maxRecDepth 16384

noncomputable section

namespace Cert.FeedMix

open Idealize.ShloMosaic Idealize.ShloMosaic.TcCoe Cert.FfnMixIdeal Cert.FfnMixIdeal.Gen Cert.Layer
open Cert.Feed (hidden chunk_eq)

/-- The block's projections of the mixes. -/
def mixed (mix : FVec Ideal S512x1024 .bf16) (wo : FVec Ideal S1024x1024 .bf16) : FVec Ideal S512x1024 .f32 :=
  matmul dot_S512x1024_S1024x1024_S512x1024_1_0_0_1_n_n none mix wo (constant S512x1024 .f32 0x00000000#32)

theorem mixed_at (mix : FVec Ideal S512x1024 .bf16) (wo : FVec Ideal S1024x1024 .bf16) (r : Fin 512) (e : Fin 1024) :
    (mixed mix wo (ix2 r e) : EReal) = ∑ k : Fin 1024, mix (ix2 r k) * wo (ix2 k e) := by
  pointwise [mixed]

/-- The block's rows after the mixer. -/
theorem residual_at (mix : Vec Ideal S512x1024 .bf16) (wo : Vec Ideal S1024x1024 .bf16) (x : Vec Ideal S512x1024 .f32) (g : Vec Ideal S1x1024 .f32) (r : Fin 512) (d : Fin 1024) :
    (k0_pay2 mix wo x g (ix2 r d) : EReal)
      = residualAt (fun j => x (ix2 r j)) (fun j => mix (ix2 r j)) (fun j => g (ix2 0 j)) (fun k e => wo (ix2 k e)) d := by
  unfold residualAt
  simp only [← mixed_at]
  pointwise [k0_pay2, mixed, normAt]

theorem out_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S512x1024 .f32) (harg10 : arg10.IsWhole) (arg11 : Memref sig .tc .vmem S512x2816 .bf16) (harg11 : arg11.IsWhole)
    (x0 : Vec Ideal S512x1024 .f32) (x1 : Vec Ideal S512x1024 .bf16) (x2 : Vec Ideal S1024x1024 .bf16) (x3 : Vec Ideal S1x1024 .f32) (x4 : Vec Ideal S1x1024 .f32) (x5 : Vec Ideal S1x1024 .f32) (x6 : Vec Ideal S1024x2816 .bf16) (x7 : Vec Ideal S1024x2816 .bf16) (x8 : Vec Ideal S2816x1024 .bf16) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8
      = Cert.FfnIdeal.Gen.k0_pay17 (k0_pay2 x1 x2 x0 x3) (hidden (Cert.FfnIdeal.Gen.k0_pay1 (k0_pay2 x1 x2 x0 x3) x4) x6 x7) x8 x5 := by
  have hz : (![0, 0] : Fin 2 → Nat) = fun _ => 0 := funext fun a => by fin_cases a <;> rfl
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread,
    View.ld_unit_zero (S := S512x1024) hz, View.ld_unit_zero (S := S1x1024) hz, View.ld_unit_zero (S := S1024x1024) hz, View.ld_unit_zero (S := S2816x1024) hz]
  rw [View.readCov_eq_canon']
  refine congrArg (fun v => Cert.FfnIdeal.Gen.k0_pay17 (k0_pay2 x1 x2 x0 x3) v x8 x5) (funext fun j => ?_)
  refine (View.canon_apply_of_pieces (hidden (Cert.FfnIdeal.Gen.k0_pay1 (k0_pay2 x1 x2 x0 x3) x4) x6 x7) _ ?_ _ ?_).trans
    (congrFun (View.ld_unit_zero (S := S512x2816) hz _ (hidden (Cert.FfnIdeal.Gen.k0_pay1 (k0_pay2 x1 x2 x0 x3) x4) x6 x7)) j)
  · iterate 11 refine List.forall_mem_cons.mpr ⟨fun y => chunk_eq _ _ _ _ _ (by decide) y, ?_⟩
    exact fun p hp => absurd hp List.not_mem_nil
  · refine View.cover_of_tiledL (s := S512x2816) _ S512x256.size ?_ _
    sl_kernel_rfl

end Cert.FeedMix

end
-- ==== Proof.FeedMix.Claim.lean ====
/- The feed-forward layer with a mixer's residual: what its array holds, what its reference computes, and the claim that they
   agree. -/
module

public import proofs.«01_k».proof.Proof.FeedMix.Block
public import proofs.«01_k».proof.Proof.Gen.FfnMixIdeal.Value
public import proofs.«01_k».proof.Proof.Gen.FfnMixRefIdeal.Run
public import proofs.«01_k».proof.Defs
public import Idealize.ShloMosaic.Lib.Pipeline.Covers
public import Idealize.ShloMosaic.Lib.Claim

@[expose] public section

set_option maxRecDepth 16384

noncomputable section

namespace Cert.FeedMix

open Idealize.ShloMosaic Idealize.ShloMosaic.TcCoe Idealize.SL.Sem Cert.FfnMixIdeal Cert.FfnMixIdeal.Gen Cert.Layer
open Idealize.ShloMosaic.Pipeline (Dat)

/-! ## The array -/

theorem idx : ∀ t : Fin cfg0.N,
    win0_0.index t = ![(grid0.coords t 0).val, 0] ∧ win0_1.index t = ![(grid0.coords t 0).val, 0] ∧ win0_2.index t = ![0, 0] ∧ win0_3.index t = ![0, 0]
      ∧ win0_4.index t = ![0, 0] ∧ win0_5.index t = ![0, 0] ∧ win0_6.index t = ![0, 0] ∧ win0_7.index t = ![0, 0] ∧ win0_8.index t = ![0, 0]
      ∧ win0_9.index t = ![(grid0.coords t 0).val, 0] :=
  (by decide +kernel : ∀ t : Fin grid0.N, _)

variable (m : (ℓ : Loc nD τ sig) → Buf (Elt Ideal) ℓ) (c : Dev nD) (t : Fin cfg0.N)

theorem row_at (r : Fin 512) (j : Fin 1024) (x : Fin 33792) (hx : x.val = 512 * (grid0.coords t 0).val + r.val) :
    (iblk m c 0 t (ix2 r j) : EReal) = m ((c : Thread nD τ).loc main_arg0) (ix2 x j) := by
  blk_ext [iblk, V, idx t]

theorem mix_at (r : Fin 512) (j : Fin 1024) (x : Fin 33792) (hx : x.val = 512 * (grid0.coords t 0).val + r.val) :
    (iblk m c 1 t (ix2 r j) : EReal) = m ((c : Thread nD τ).loc main_arg1) (ix2 x j) := by
  blk_ext [iblk, V, idx t]

theorem out_at (k e : Fin 1024) : (iblk m c 2 t (ix2 k e) : EReal) = m ((c : Thread nD τ).loc main_arg2) (ix2 k e) := by
  blk_simp [iblk]
  entry_read
  pointwise
  blk_ext [idx t]

theorem gainMix_at (j : Fin 1024) : (iblk m c 3 t (ix2 0 j) : EReal) = m ((c : Thread nD τ).loc main_arg3) (ix1 j) := by
  blk_simp [iblk]
  entry_read
  pointwise
  blk_ext [idx t]

theorem gain_at (j : Fin 1024) : (iblk m c 4 t (ix2 0 j) : EReal) = m ((c : Thread nD τ).loc main_arg4) (ix1 j) := by
  blk_simp [iblk]
  entry_read
  pointwise
  blk_ext [idx t]

theorem gain'_at (j : Fin 1024) : (iblk m c 5 t (ix2 0 j) : EReal) = m ((c : Thread nD τ).loc main_arg5) (ix1 j) := by
  blk_simp [iblk]
  entry_read
  pointwise
  blk_ext [idx t]

theorem gate_at (k : Fin 1024) (j : Fin 2816) : (iblk m c 6 t (ix2 k j) : EReal) = m ((c : Thread nD τ).loc main_arg6) (ix2 k j) := by
  blk_simp [iblk]
  entry_read
  pointwise
  blk_ext [idx t]

theorem up_at (k : Fin 1024) (j : Fin 2816) : (iblk m c 7 t (ix2 k j) : EReal) = m ((c : Thread nD τ).loc main_arg7) (ix2 k j) := by
  blk_simp [iblk]
  entry_read
  pointwise
  blk_ext [idx t]

theorem down_at (j : Fin 2816) (d : Fin 1024) : (iblk m c 8 t (ix2 j d) : EReal) = m ((c : Thread nD τ).loc main_arg8) (ix2 j d) := by
  blk_simp [iblk]
  entry_read
  pointwise
  blk_ext [idx t]

/-- The rows after the mixer, on whole arrays. -/
abbrev after (m : (ℓ : Loc nD τ sig) → Buf (Elt Ideal) ℓ) (c : Dev nD) : Vec Ideal S33792x1024 .f32 :=
  residuals (m ((c : Thread nD τ).loc main_arg0)) (m ((c : Thread nD τ).loc main_arg1)) (m ((c : Thread nD τ).loc main_arg2)) (m ((c : Thread nD τ).loc main_arg3))

/-- The layer on whole arrays. -/
abbrev result (m : (ℓ : Loc nD τ sig) → Buf (Elt Ideal) ℓ) (c : Dev nD) : Vec Ideal S33792x1024 .f32 :=
  ffns (after m c) (m ((c : Thread nD τ).loc main_arg4)) (m ((c : Thread nD τ).loc main_arg5)) (m ((c : Thread nD τ).loc main_arg6)) (m ((c : Thread nD τ).loc main_arg7)) (m ((c : Thread nD τ).loc main_arg8))

/-- A block's rows after the mixer are the array's. -/
theorem after_at (r : Fin 512) (d : Fin 1024) (x : Fin 33792) (hx : x.val = 512 * (grid0.coords t 0).val + r.val) :
    (k0_pay2 (iblk m c 1 t) (iblk m c 2 t) (iblk m c 0 t) (iblk m c 3 t) (ix2 r d) : EReal) = after m c (ix2 x d) := by
  refine (residual_at _ _ _ _ r d).trans ?_
  simp only [row_at m c t r _ x hx, mix_at m c t r _ x hx, out_at m c t, gainMix_at m c t]
  exact (residuals_at (m ((c : Thread nD τ).loc main_arg0)) (m ((c : Thread nD τ).loc main_arg1)) (m ((c : Thread nD τ).loc main_arg2)) (m ((c : Thread nD τ).loc main_arg3)) x d).symm

/-- What a grid point stores is the layer at the entry its block holds. -/
theorem point (r : Fin 512) (d : Fin 1024) (z : S33792x1024.Idx) (hz0 : (z 0).val = 512 * (grid0.coords t 0).val + r.val) (hz1 : (z 1).val = d.val) :
    (Cert.FfnIdeal.Gen.k0_pay17 (k0_pay2 (iblk m c 1 t) (iblk m c 2 t) (iblk m c 0 t) (iblk m c 3 t))
        (Cert.Feed.hidden (Cert.FfnIdeal.Gen.k0_pay1 (k0_pay2 (iblk m c 1 t) (iblk m c 2 t) (iblk m c 0 t) (iblk m c 3 t)) (iblk m c 4 t)) (iblk m c 6 t) (iblk m c 7 t))
        (iblk m c 8 t) (iblk m c 5 t) (ix2 r d) : EReal)
      = result m c z := by
  refine (Cert.Feed.block_at _ _ _ _ _ _ r d).trans ?_
  simp only [after_at m c t r _ (z 0) hz0, gain_at m c t, gain'_at m c t, gate_at m c t, up_at m c t, down_at m c t]
  refine (ffns_at (after m c) (m ((c : Thread nD τ).loc main_arg4)) (m ((c : Thread nD τ).loc main_arg5)) (m ((c : Thread nD τ).loc main_arg6)) (m ((c : Thread nD τ).loc main_arg7)) (m ((c : Thread nD τ).loc main_arg8)) (z 0) d).symm.trans ?_
  exact congrArg (result m c) (funext fun a => Fin.ext (by match a with | ⟨0, _⟩ => rfl | ⟨1, _⟩ => exact hz1.symm))

theorem final : (dats m 0 c).arrAt 9 cfg0.N = result m c := by
  refine (dats m 0 c).arrAt_eq_of_covers 9 _ (by decide +kernel) fun t _ y => ?_
  blk_simp
  rw [after0_9]
  unfold outsAt0
  rw [out_eq]
  idx_vars y
  refine point m c t _ _ _ ?_ ?_
  · blk_simp [idx t]; omega
  · blk_simp [idx t]

/-! ## The reference -/

open Cert.FfnMixRefIdeal Cert.FfnMixRefIdeal.Gen in
theorem reference_eq (m' : (ℓ : Loc Cert.FfnMixRefIdeal.nD Cert.FfnMixRefIdeal.τ Cert.FfnMixRefIdeal.sig) → Buf (Elt Ideal) ℓ) (c : Dev Cert.FfnMixRefIdeal.nD) :
    Cert.FfnMixRefIdeal.Value.res_main_v49 (F := Ideal) m' c
      = ffns (residuals (m' ((c.tc : Thread Cert.FfnMixRefIdeal.nD Cert.FfnMixRefIdeal.τ).loc Cert.FfnMixRefIdeal.main_arg0)) (m' ((c.tc : Thread Cert.FfnMixRefIdeal.nD Cert.FfnMixRefIdeal.τ).loc Cert.FfnMixRefIdeal.main_arg1)) (m' ((c.tc : Thread Cert.FfnMixRefIdeal.nD Cert.FfnMixRefIdeal.τ).loc Cert.FfnMixRefIdeal.main_arg2)) (m' ((c.tc : Thread Cert.FfnMixRefIdeal.nD Cert.FfnMixRefIdeal.τ).loc Cert.FfnMixRefIdeal.main_arg3)))
        (m' ((c.tc : Thread Cert.FfnMixRefIdeal.nD Cert.FfnMixRefIdeal.τ).loc Cert.FfnMixRefIdeal.main_arg4)) (m' ((c.tc : Thread Cert.FfnMixRefIdeal.nD Cert.FfnMixRefIdeal.τ).loc Cert.FfnMixRefIdeal.main_arg5)) (m' ((c.tc : Thread Cert.FfnMixRefIdeal.nD Cert.FfnMixRefIdeal.τ).loc Cert.FfnMixRefIdeal.main_arg6)) (m' ((c.tc : Thread Cert.FfnMixRefIdeal.nD Cert.FfnMixRefIdeal.τ).loc Cert.FfnMixRefIdeal.main_arg7)) (m' ((c.tc : Thread Cert.FfnMixRefIdeal.nD Cert.FfnMixRefIdeal.τ).loc Cert.FfnMixRefIdeal.main_arg8)) := by
  unfold Cert.FfnMixRefIdeal.Value.res_main_v49 ffns downs hiddens ups residuals outs normed
  rfl

/-- THE CLAIM on the feed-forward layer with a mixer's residual. -/
theorem claim : algebraic_FfnMixIdeal_FfnMixRefIdeal (hFfnMixIdeal := Cert.FfnMixIdeal.Gen.facts) (hFfnMixRefIdeal := Cert.FfnMixRefIdeal.Gen.facts) := by
  intro m g m' g' hpre hargs
  refine ⟨fun c => result m c, ?_, ?_⟩
  · exact (θ_run _ _ _).mono (fun r h c => ⟨(h c).1.trans (final m c), (h c).2⟩) (Cert.FfnMixIdeal.Value.run_blocks m g)
  · refine (θ_run _ _ _).mono (fun r h c => ⟨(h c).1.trans ?_, (h c).2⟩) (Cert.FfnMixRefIdeal.Value.run m' g')
    obtain ⟨h0, h1, h2, h3, h4, h5, h6, h7, h8⟩ := hargs c
    rw [reference_eq, h0, h1, h2, h3, h4, h5, h6, h7, h8]

end Cert.FeedMix

end
-- ==== Proof.Layer.LogSig.lean ====
/- The logarithm of the logistic function, as the kernel and as the reference write it. -/
module

public import Idealize.ShloMosaic.Lib.Pointwise

@[expose] public section

set_option maxRecDepth 16384

noncomputable section

namespace Cert.Layer

open Idealize.ShloMosaic

/-- The logarithm of the logistic function at `z`, by the kernel's formula. -/
def logSigAt (z : EReal) : EReal := min z 0 - Ideal.log1p (Ideal.exp (0 - max z (-z)))

/-- The second summand is no infinite loss: `1 + exp y` is at least one. -/
theorem log1p_exp_ne_bot (y : EReal) : Ideal.log1p (Ideal.exp y) ≠ ⊥ := by
  unfold Ideal.log1p
  induction y with
  | bot => rw [Ideal.exp_bot, add_zero, ← EReal.coe_one, Ideal.log_coe, if_neg (by norm_num)]; exact EReal.coe_ne_bot _
  | top => rw [Ideal.exp_top, EReal.add_top_of_ne_bot (by decide), Ideal.log_top]; decide
  | coe r =>
    have h := Real.exp_pos r
    rw [Ideal.exp_coe, ← EReal.coe_one, ← EReal.coe_add, Ideal.log_coe, if_neg (by linarith)]
    exact EReal.coe_ne_bot _

/-- The reference's formula, minus the logarithm of `exp (−z) + exp 0`, is the kernel's. -/
theorem logSig_eq (z : EReal) : -(max (-z) 0 + Ideal.log1p (Ideal.exp (-(max (-z - 0) (-(-z - 0)))))) = logSigAt z := by
  unfold logSigAt
  rw [sub_zero, neg_neg, zero_sub, max_comm (-z) z,
    EReal.neg_add (.inl (ne_of_gt (lt_of_lt_of_le EReal.bot_lt_zero (le_max_right _ _)))) (.inr (log1p_exp_ne_bot _))]
  congr 1
  rcases le_total z 0 with h | h
  · rw [min_eq_left h, max_eq_left (EReal.neg_nonneg.mpr h), neg_neg]
  · rw [min_eq_right h, max_eq_right ((EReal.neg_le_neg_iff.mpr h).trans_eq neg_zero), neg_zero]

end Cert.Layer

end
-- ==== Proof.Layer.ProjArrays.lean ====
/- The attention's projections of `n` rows, as arrays, and what the reference computes of them. -/
module

public import proofs.«01_k».proof.Proof.Layer.Norm
public import proofs.«01_k».proof.Proof.Layer.LogSig

@[expose] public section

set_option maxRecDepth 16384

noncomputable section

namespace Cert.Proj

open Idealize.ShloMosaic Cert.Layer

abbrev Weight : Shape := ⟨2, ![1024, 3088]⟩
abbrev Projs (n : ℕ) : Shape := ⟨2, ![n, 3088]⟩
abbrev Heads : Shape := ⟨1, ![16]⟩
abbrev HeadRow : Shape := ⟨2, ![1, 16]⟩
abbrev Gates (n : ℕ) : Shape := ⟨2, ![n, 16]⟩
abbrev GatesT (n : ℕ) : Shape := ⟨2, ![16, n]⟩

variable {n : ℕ} [hn : Fact (n ≠ 1)] (X : FVec Ideal (Rows n) .f32) (G : FVec Ideal Gain .f32) (W : FVec Ideal Weight .f32) (B : FVec Ideal Heads .f32)

/-- Entry `z` of the projection of row `x`. -/
def proj (x : Fin n) (z : Fin 3088) : EReal := projAt (fun j => X (ix2 x j)) (fun j => G (ix1 j)) (fun k => W (ix2 k z))

/-- The 1024 entries of the projections from the entry `o` on. -/
def part (o : Nat) (ho : o + 1024 ≤ 3088) : (Rows n).Idx → EReal := fun y =>
  proj X G W (y 0) ⟨o + (y 1).val, by have h := (y 1).isLt; change (y 1).val < 1024 at h; omega⟩

/-- The queries, scaled. -/
def queries : Vec Ideal (Rows n) .bf16 := fun y => (part X G W 0 (by decide) y * Ideal.ofBits .f32 0x3E000000#32 : EReal)

/-- The log forget gate of a row and a head. -/
def gateAt (x : Fin n) (h : Fin 16) : EReal := logSigAt (proj X G W x ⟨3072 + h.val, by omega⟩ + B (ix1 h))

def gates : Vec Ideal (Gates n) .f32 := fun y => gateAt X G W B (y 0) (y 1)

def gatesT : Vec Ideal (GatesT n) .f32 := fun y => gateAt X G W B (y 1) (y 0)

/-! The reference. -/

/-- All projections of all rows. -/
def projs : FVec Ideal (Projs n) .f32 := Host.dotGeneral (DotDims.plain n 1024 3088) none (normed X G) W

theorem projs_at (x : Fin n) (z : Fin 3088) : (projs X G W (ix2 x z) : EReal) = proj X G W x z := by
  unfold proj projAt
  simp only [← normed_at]
  pointwise [projs]
  simp only [plain_left]

theorem queries_eq (hb : FTy.bf16.bits < FTy.f32.bits) (h : (Projs n).Slices ![0, 0] (Rows n)) (hr : One.BroadcastsInDim (Rows n) ![]) : truncf .bf16 (mulf (extractStridedSlice (Rows n) ![0, 0] (projs X G W) h) (broadcastInDim (Rows n) ![] hr (constant One .f32 0x3E000000#32))) hb
    = queries X G W :=
  rows_ext fun x k => congrArg (· * Ideal.ofBits .f32 0x3E000000#32)
    ((columns_at 0 (projs X G W) h x k ⟨0 + k.val, by omega⟩ rfl).trans (projs_at X G W _ _))

/-- Slices of the projections: the keys from 1024 on, the values from 2048 on. -/
theorem part_eq (o : ℕ) (ho : o + 1024 ≤ 3088) (h : (Projs n).Slices ![0, o] (Rows n)) : extractStridedSlice (Rows n) ![0, o] (projs X G W) h = part X G W o ho :=
  rows_ext fun x k => (columns_at o (projs X G W) h x k ⟨o + k.val, by omega⟩ rfl).trans (projs_at X G W _ _)

theorem gate_slice : (Projs n).Slices ![0, 3072] (Gates n) := ⟨rfl, fun a => by fin_cases a <;> simp⟩

theorem head_row : Heads.BroadcastsInDim HeadRow ![1] := by decide

theorem head_rows : HeadRow.BroadcastsInDim (Gates n) ![0, 1] :=
  ⟨by intro a b h; fin_cases a <;> fin_cases b <;> simp_all, by intro a; fin_cases a <;> simp⟩

/-- The gates' arguments: the last 16 projections plus the bias. -/
def shifted : FVec Ideal (Gates n) .f32 :=
  addf (extractStridedSlice (Gates n) ![0, 3072] (projs X G W) gate_slice) (broadcastInDim (Gates n) ![0, 1] head_rows (broadcastInDim HeadRow ![1] head_row B))

theorem shifted_at (x : Fin n) (h : Fin 16) : (shifted X G W B (ix2 x h) : EReal) = proj X G W x ⟨3072 + h.val, by omega⟩ + B (ix1 h) := by
  unfold shifted
  refine (Ideal.addf_def _ _).trans ?_
  refine congrArg₂ (· + ·) ((columns_at 3072 (projs X G W) gate_slice x h ⟨3072 + h.val, by omega⟩ rfl).trans (projs_at X G W _ _)) ?_
  pointwise

/-- Zero everywhere. -/
def zeros : FVec Ideal (Gates n) .f32 := broadcastInDim (Gates n) ![] one_any (constant One .f32 0x00000000#32)

/-- The logarithm of the logistic function of every entry, as the reference writes it out. -/
def logSigs (Z : FVec Ideal (Gates n) .f32) : FVec Ideal (Gates n) .f32 :=
  Host.negf (select (cmpf .une (subf (Host.negf Z) zeros) (subf (Host.negf Z) zeros)) (addf (Host.negf Z) zeros)
    (addf (maximumf (Host.negf Z) zeros) (Host.log1p (Host.exp (Host.negf (Host.absf (subf (Host.negf Z) zeros)))))))

theorem logSigs_at (Z : FVec Ideal (Gates n) .f32) (x : Fin n) (h : Fin 16) : (logSigs Z (ix2 x h) : EReal) = logSigAt (Z (ix2 x h)) := by
  rw [← logSig_eq]
  pointwise [logSigs, zeros]
  rw [if_neg (fun h => h rfl)]
  rfl

theorem gates_eq : logSigs (shifted X G W B) = gates X G W B :=
  rows_ext fun x h => (logSigs_at ..).trans (congrArg logSigAt (shifted_at X G W B x h))

theorem gatesT_eq (h : (Gates n).Transposes [1, 0] (GatesT n)) : transpose (GatesT n) [1, 0] (logSigs (shifted X G W B)) h = gatesT X G W B := by
  rw [gates_eq]
  refine rows_ext fun x k => ?_
  pointwise [gates, gatesT]
  rfl

end Cert.Proj

end
-- ==== Proof.Layer.Proj.lean ====
/- The attention's projections and log forget gates: what a block computes, what the arrays hold, what the reference computes,
   and the claim that they agree. -/
module

public import proofs.«01_k».proof.Proof.Layer.ProjArrays
public import proofs.«01_k».proof.Proof.Gen.AttnProjIdeal.Value
public import proofs.«01_k».proof.Proof.Gen.AttnProjRefIdeal.Run
public import proofs.«01_k».proof.Defs
public import Idealize.ShloMosaic.Lib.Pipeline.Covers
public import Idealize.ShloMosaic.Lib.Claim

@[expose] public section

set_option maxRecDepth 16384

noncomputable section

namespace Cert.Proj

open Idealize.ShloMosaic Idealize.ShloMosaic.TcCoe Idealize.SL.Sem Cert.AttnProjIdeal Cert.AttnProjIdeal.Gen Cert.Layer
open Idealize.ShloMosaic.Pipeline (Dat)

/-! ## A block -/

theorem norm_at (x : Vec Ideal S512x1024 .f32) (g : Vec Ideal S1x1024 .f32) (r : Fin 512) (k : Fin 1024) :
    (k0_pay1 x g (ix2 r k) : EReal) = normAt (fun j => x (ix2 r j)) (fun j => g (ix2 0 j)) k := by
  pointwise [k0_pay1, normAt]

/-- A projection, as a block stores it: the keys and the values. -/
theorem plain_at (x : Vec Ideal S512x1024 .f32) (g : Vec Ideal S1x1024 .f32) (w : Vec Ideal S1024x1024 .bf16) (r : Fin 512) (y : Fin 1024) :
    (k0_pay3 x g w (ix2 r y) : EReal) = projAt (fun j => x (ix2 r j)) (fun j => g (ix2 0 j)) (fun k => w (ix2 k y)) := by
  unfold projAt
  simp only [← norm_at]
  pointwise [k0_pay3]

/-- The scaled projection: the queries. -/
theorem scaled_at (x : Vec Ideal S512x1024 .f32) (g : Vec Ideal S1x1024 .f32) (w : Vec Ideal S1024x1024 .bf16) (r : Fin 512) (y : Fin 1024) :
    (k0_pay2 x g w (ix2 r y) : EReal)
      = projAt (fun j => x (ix2 r j)) (fun j => g (ix2 0 j)) (fun k => w (ix2 k y)) * Ideal.ofBits .f32 0x3E000000#32 := by
  unfold projAt
  simp only [← norm_at]
  pointwise [k0_pay2]

/-- The log forget gates, rows first. -/
theorem gate_at (x : Vec Ideal S512x1024 .f32) (g : Vec Ideal S1x1024 .f32) (w : Vec Ideal S1024x128 .bf16) (b : Vec Ideal S1x16 .f32) (r : Fin 512) (h : Fin 16) :
    (k0_pay7 (k0_pay1 x g) w b (ix2 r h) : EReal)
      = logSigAt (projAt (fun j => x (ix2 r j)) (fun j => g (ix2 0 j)) (fun k => w (ix2 k ⟨h.val, by omega⟩)) + b (ix2 0 h)) := by
  unfold projAt logSigAt
  simp only [← norm_at]
  pointwise [k0_pay7]
  rfl

/-- The log forget gates, heads first. -/
theorem gateT_at (x : Vec Ideal S512x1024 .f32) (g : Vec Ideal S1x1024 .f32) (w : Vec Ideal S16x1024 .bf16) (b : Vec Ideal S16x1 .f32) (h : Fin 16) (r : Fin 512) :
    (k0_pay8 (k0_pay1 x g) w b (ix2 h r) : EReal)
      = logSigAt (projAt (fun j => x (ix2 r j)) (fun j => g (ix2 0 j)) (fun k => w (ix2 h k)) + b (ix2 h 0)) := by
  unfold projAt logSigAt
  simp only [← norm_at, mul_comm _ (w (ix2 h _))]
  pointwise [k0_pay8]
  rfl

/-! What the body leaves in each output block. -/

theorem zero2 : (![0, 0] : Fin 2 → Nat) = fun _ => 0 := funext fun a => by fin_cases a <;> rfl

theorem out11_eq (x0 : Vec Ideal S512x1024 .f32) (x1 : Vec Ideal S1x1024 .f32) (x2 x3 x4 : Vec Ideal S1024x1024 .bf16) (x5 : Vec Ideal S1024x128 .bf16) (x6 : Vec Ideal S16x1024 .bf16) (x7 : Vec Ideal S1x16 .f32) (x8 : Vec Ideal S16x1 .f32) :
    out0_11 x0 x1 x2 x3 x4 x5 x6 x7 x8 = k0_pay5 x0 x1 x4 := by
  unfold out0_11 k0_pay10
  rw [View.canon_unit_zero (S := S512x1024) zero2]
  simp only [View.ld_unit_zero (S := S512x1024) zero2, View.ld_unit_zero (S := S1x1024) zero2, View.ld_unit_zero (S := S1024x1024) zero2]

theorem out13_eq (x0 : Vec Ideal S512x1024 .f32) (x1 : Vec Ideal S1x1024 .f32) (x2 x3 x4 : Vec Ideal S1024x1024 .bf16) (x5 : Vec Ideal S1024x128 .bf16) (x6 : Vec Ideal S16x1024 .bf16) (x7 : Vec Ideal S1x16 .f32) (x8 : Vec Ideal S16x1 .f32) :
    out0_13 x0 x1 x2 x3 x4 x5 x6 x7 x8 = k0_pay6 (k0_pay5 x0 x1 x4) := by
  unfold out0_13 k0_pay10
  rw [View.canon_unit_zero (S := S512x1024) zero2]
  simp only [View.ld_unit_zero (S := S512x1024) zero2, View.ld_unit_zero (S := S1x1024) zero2, View.ld_unit_zero (S := S1024x1024) zero2]

theorem out14_eq (x0 : Vec Ideal S512x1024 .f32) (x1 : Vec Ideal S1x1024 .f32) (x2 x3 x4 : Vec Ideal S1024x1024 .bf16) (x5 : Vec Ideal S1024x128 .bf16) (x6 : Vec Ideal S16x1024 .bf16) (x7 : Vec Ideal S1x16 .f32) (x8 : Vec Ideal S16x1 .f32) :
    out0_14 x0 x1 x2 x3 x4 x5 x6 x7 x8 = k0_pay7 (k0_pay1 x0 x1) x5 x7 := by
  unfold out0_14 k0_pay9
  rw [View.canon_unit_zero (S := S512x16) zero2]
  simp only [View.ld_unit_zero (S := S512x1024) zero2, View.ld_unit_zero (S := S1x1024) zero2, View.ld_unit_zero (S := S1024x128) zero2, View.ld_unit_zero (S := S1x16) zero2]

theorem out15_eq (x0 : Vec Ideal S512x1024 .f32) (x1 : Vec Ideal S1x1024 .f32) (x2 x3 x4 : Vec Ideal S1024x1024 .bf16) (x5 : Vec Ideal S1024x128 .bf16) (x6 : Vec Ideal S16x1024 .bf16) (x7 : Vec Ideal S1x16 .f32) (x8 : Vec Ideal S16x1 .f32) :
    out0_15 x0 x1 x2 x3 x4 x5 x6 x7 x8 = k0_pay8 (k0_pay1 x0 x1) x6 x8 := by
  unfold out0_15 k0_pay9
  rw [View.canon_unit_zero (S := S16x512) zero2]
  simp only [View.ld_unit_zero (S := S512x1024) zero2, View.ld_unit_zero (S := S1x1024) zero2, View.ld_unit_zero (S := S16x1024) zero2, View.ld_unit_zero (S := S16x1) zero2]

/-! ## The arrays -/

theorem idx : ∀ t : Fin cfg0.N,
    win0_0.index t = ![(grid0.coords t 0).val, 0] ∧ win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0] ∧ win0_8.index t = ![0, 0]
      ∧ win0_9.index t = ![(grid0.coords t 0).val, 0] ∧ win0_10.index t = ![(grid0.coords t 0).val, 0] ∧ win0_11.index t = ![(grid0.coords t 0).val, 0]
      ∧ win0_12.index t = ![(grid0.coords t 0).val, 0] ∧ win0_13.index t = ![(grid0.coords t 0).val, 0] ∧ win0_14.index t = ![(grid0.coords t 0).val, 0]
      ∧ win0_15.index t = ![0, (grid0.coords t 0).val] :=
  (by decide +kernel : ∀ t : Fin grid0.N, _)

variable (m : (ℓ : Loc nD τ sig) → Buf (Elt Ideal) ℓ) (c : Dev nD) (t : Fin cfg0.N)

theorem row_at (r : Fin 512) (j : Fin 1024) (x : Fin 33792) (hx : x.val = 512 * (grid0.coords t 0).val + r.val) :
    (iblk m c 0 t (ix2 r j) : EReal) = m ((c : Thread nD τ).loc main_arg0) (ix2 x j) := by
  blk_ext [iblk, V, idx t]

theorem gain_at (j : Fin 1024) : (iblk m c 1 t (ix2 0 j) : EReal) = m ((c : Thread nD τ).loc main_arg1) (ix1 j) := by
  blk_simp [iblk]
  simp only [V, hostOps0, hostOps0_1, hostOps0_2, List.flatten_cons, List.flatten_nil, List.append_nil, List.cons_append, List.nil_append]
  entry_read
  pointwise
  blk_ext [idx t]

theorem weight_at₀ (k y : Fin 1024) (z : Fin 3088) (hz : z.val = 0 + y.val) : (iblk m c 2 t (ix2 k y) : EReal) = m ((c : Thread nD τ).loc main_arg2) (ix2 k z) := by
  blk_simp [iblk]
  simp only [V, hostOps0, hostOps0_1, hostOps0_2, List.flatten_cons, List.flatten_nil, List.append_nil, List.cons_append, List.nil_append]
  entry_read
  pointwise
  blk_ext [idx t]

theorem weight_at₁ (k y : Fin 1024) (z : Fin 3088) (hz : z.val = 1024 + y.val) : (iblk m c 3 t (ix2 k y) : EReal) = m ((c : Thread nD τ).loc main_arg2) (ix2 k z) := by
  blk_simp [iblk]
  simp only [V, hostOps0, hostOps0_1, hostOps0_2, List.flatten_cons, List.flatten_nil, List.append_nil, List.cons_append, List.nil_append]
  entry_read
  pointwise
  blk_ext [idx t]

theorem weight_at₂ (k y : Fin 1024) (z : Fin 3088) (hz : z.val = 2048 + y.val) : (iblk m c 4 t (ix2 k y) : EReal) = m ((c : Thread nD τ).loc main_arg2) (ix2 k z) := by
  blk_simp [iblk]
  simp only [V, hostOps0, hostOps0_1, hostOps0_2, List.flatten_cons, List.flatten_nil, List.append_nil, List.cons_append, List.nil_append]
  entry_read
  pointwise
  blk_ext [idx t]

theorem weight_at₃ (k : Fin 1024) (h : Fin 128) (z : Fin 3088) (hh : h.val < 16) (hz : z.val = 3072 + h.val) : (iblk m c 5 t (ix2 k h) : EReal) = m ((c : Thread nD τ).loc main_arg2) (ix2 k z) := by
  blk_simp [iblk]
  simp only [V, hostOps0, hostOps0_1, hostOps0_2, List.flatten_cons, List.flatten_nil, List.append_nil, List.cons_append, List.nil_append]
  entry_read
  simp only [StableHlo.TRef.toBuf, StableHlo.TRef.ofBuf, cast_eq]
  pointwise
  have e : (((View.whole main_v8).slice (win0_5.rect t)).emb (ix2 k h) 1).val = h.val := by
    blk_simp [idx t]
  refine (dif_pos (e.trans_lt hh)).trans ?_
  blk_ext [idx t]

theorem weightT_at (h : Fin 16) (k : Fin 1024) (z : Fin 3088) (hz : z.val = 3072 + h.val) : (iblk m c 6 t (ix2 h k) : EReal) = m ((c : Thread nD τ).loc main_arg2) (ix2 k z) := by
  blk_simp [iblk]
  simp only [V, hostOps0, hostOps0_1, hostOps0_2, List.flatten_cons, List.flatten_nil, List.append_nil, List.cons_append, List.nil_append]
  entry_read
  pointwise
  blk_ext [idx t]

theorem bias_at (h : Fin 16) : (iblk m c 7 t (ix2 0 h) : EReal) = m ((c : Thread nD τ).loc main_arg3) (ix1 h) := by
  blk_simp [iblk]
  simp only [V, hostOps0, hostOps0_1, hostOps0_2, List.flatten_cons, List.flatten_nil, List.append_nil, List.cons_append, List.nil_append]
  entry_read
  pointwise
  blk_ext [idx t]

theorem biasT_at (h : Fin 16) : (iblk m c 8 t (ix2 h 0) : EReal) = m ((c : Thread nD τ).loc main_arg3) (ix1 h) := by
  blk_simp [iblk]
  simp only [V, hostOps0, hostOps0_1, hostOps0_2, List.flatten_cons, List.flatten_nil, List.append_nil, List.cons_append, List.nil_append]
  entry_read
  pointwise
  blk_ext [idx t]

/-- Equal rows, gains, weights and biases have equal gates. -/
theorem gate_congr {x x' g g' w w' : Fin 1024 → EReal} {b b' : EReal} (hx : ∀ j, x j = x' j) (hg : ∀ j, g j = g' j) (hw : ∀ k, w k = w' k) (hb : b = b') :
    logSigAt (projAt x g w + b) = logSigAt (projAt x' g' w' + b') := by
  rw [funext hx, funext hg, funext hw, hb]

/-- What a grid point stores of the queries. -/
theorem point_q (r : Fin 512) (d : Fin 1024) (z : S33792x1024.Idx) (hz0 : (z 0).val = 512 * (grid0.coords t 0).val + r.val) (hz1 : (z 1).val = d.val) :
    (k0_pay2 (iblk m c 0 t) (iblk m c 1 t) (iblk m c 2 t) (ix2 r d) : EReal) = queries (m ((c : Thread nD τ).loc main_arg0)) (m ((c : Thread nD τ).loc main_arg1)) (m ((c : Thread nD τ).loc main_arg2)) z := by
  refine (scaled_at _ _ _ r d).trans ?_
  unfold queries part proj
  simp only [row_at m c t r _ (z 0) hz0, gain_at m c t]
  exact congrArg (projAt _ _ · * _) (funext fun k => weight_at₀ m c t k d _ (congrArg (0 + ·) hz1))

/-- What a grid point stores of the keys. -/
theorem point_k (r : Fin 512) (d : Fin 1024) (z : S33792x1024.Idx) (hz0 : (z 0).val = 512 * (grid0.coords t 0).val + r.val) (hz1 : (z 1).val = d.val) :
    (k0_pay3 (iblk m c 0 t) (iblk m c 1 t) (iblk m c 3 t) (ix2 r d) : EReal) = part (m ((c : Thread nD τ).loc main_arg0)) (m ((c : Thread nD τ).loc main_arg1)) (m ((c : Thread nD τ).loc main_arg2)) 1024 (by decide) z := by
  refine (plain_at _ _ _ r d).trans ?_
  unfold part proj
  simp only [row_at m c t r _ (z 0) hz0, gain_at m c t]
  exact congrArg (projAt _ _) (funext fun k => weight_at₁ m c t k d _ (congrArg (1024 + ·) hz1))

/-- What a grid point stores of the values. -/
theorem point_v (r : Fin 512) (d : Fin 1024) (z : S33792x1024.Idx) (hz0 : (z 0).val = 512 * (grid0.coords t 0).val + r.val) (hz1 : (z 1).val = d.val) :
    (k0_pay5 (iblk m c 0 t) (iblk m c 1 t) (iblk m c 4 t) (ix2 r d) : EReal) = part (m ((c : Thread nD τ).loc main_arg0)) (m ((c : Thread nD τ).loc main_arg1)) (m ((c : Thread nD τ).loc main_arg2)) 2048 (by decide) z := by
  refine (plain_at _ _ _ r d).trans ?_
  unfold part proj
  simp only [row_at m c t r _ (z 0) hz0, gain_at m c t]
  exact congrArg (projAt _ _) (funext fun k => weight_at₂ m c t k d _ (congrArg (2048 + ·) hz1))

/-- What a grid point stores of the gates, rows first. -/
theorem point_f (r : Fin 512) (h : Fin 16) (z : S33792x16.Idx) (hz0 : (z 0).val = 512 * (grid0.coords t 0).val + r.val) (hz1 : (z 1).val = h.val) :
    (k0_pay7 (k0_pay1 (iblk m c 0 t) (iblk m c 1 t)) (iblk m c 5 t) (iblk m c 7 t) (ix2 r h) : EReal) = gates (m ((c : Thread nD τ).loc main_arg0)) (m ((c : Thread nD τ).loc main_arg1)) (m ((c : Thread nD τ).loc main_arg2)) (m ((c : Thread nD τ).loc main_arg3)) z := by
  obtain rfl : z 1 = h := Fin.ext hz1
  have h16 : (z 1).val < 16 := (z 1).isLt
  exact (gate_at _ _ _ _ r (z 1)).trans (gate_congr (fun j => row_at m c t r j (z 0) hz0) (gain_at m c t)
    (fun k => weight_at₃ m c t k ⟨(z 1).val, by omega⟩ ⟨3072 + (z 1).val, by omega⟩ h16 rfl) (bias_at m c t (z 1)))

/-- What a grid point stores of the gates, heads first. -/
theorem point_t (h : Fin 16) (r : Fin 512) (z : S16x33792.Idx) (hz0 : (z 0).val = h.val) (hz1 : (z 1).val = 512 * (grid0.coords t 0).val + r.val) :
    (k0_pay8 (k0_pay1 (iblk m c 0 t) (iblk m c 1 t)) (iblk m c 6 t) (iblk m c 8 t) (ix2 h r) : EReal) = gatesT (m ((c : Thread nD τ).loc main_arg0)) (m ((c : Thread nD τ).loc main_arg1)) (m ((c : Thread nD τ).loc main_arg2)) (m ((c : Thread nD τ).loc main_arg3)) z := by
  obtain rfl : z 0 = h := Fin.ext hz0
  have h16 : (z 0).val < 16 := (z 0).isLt
  exact (gateT_at _ _ _ _ (z 0) r).trans (gate_congr (fun j => row_at m c t r j (z 1) hz1) (gain_at m c t)
    (fun k => weightT_at m c t (z 0) k ⟨3072 + (z 0).val, by omega⟩ rfl) (biasT_at m c t (z 0)))

theorem final9 : (dats m 0 c).arrAt 9 cfg0.N = queries (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  frame_out
  idx_vars y
  refine point_q m c t _ _ _ ?_ ?_
  · blk_simp [idx t]; omega
  · blk_simp [idx t]

theorem final10 : (dats m 0 c).arrAt 10 cfg0.N = part (m ((c : Thread nD τ).loc main_arg0)) (m ((c : Thread nD τ).loc main_arg1)) (m ((c : Thread nD τ).loc main_arg2)) 1024 (by decide) := by
  refine (dats m 0 c).arrAt_eq_of_covers 10 _ (by decide +kernel) fun t _ y => ?_
  blk_simp
  rw [after0_10]
  frame_out
  idx_vars y
  refine point_k m c t _ _ _ ?_ ?_
  · blk_simp [idx t]; omega
  · blk_simp [idx t]

theorem final11 : (dats m 0 c).arrAt 11 cfg0.N = part (m ((c : Thread nD τ).loc main_arg0)) (m ((c : Thread nD τ).loc main_arg1)) (m ((c : Thread nD τ).loc main_arg2)) 2048 (by decide) := by
  refine (dats m 0 c).arrAt_eq_of_covers 11 _ (by decide +kernel) fun t _ y => ?_
  blk_simp
  rw [after0_11, out11_eq]
  idx_vars y
  refine point_v m c t _ _ _ ?_ ?_
  · blk_simp [idx t]; omega
  · blk_simp [idx t]

theorem final12 : (dats m 0 c).arrAt 12 cfg0.N = part (m ((c : Thread nD τ).loc main_arg0)) (m ((c : Thread nD τ).loc main_arg1)) (m ((c : Thread nD τ).loc main_arg2)) 1024 (by decide) := by
  refine (dats m 0 c).arrAt_eq_of_covers 12 _ (by decide +kernel) fun t _ y => ?_
  blk_simp
  rw [after0_12]
  frame_out
  idx_vars y
  refine point_k m c t _ _ _ ?_ ?_
  · blk_simp [idx t]; omega
  · blk_simp [idx t]

theorem final13 : (dats m 0 c).arrAt 13 cfg0.N = part (m ((c : Thread nD τ).loc main_arg0)) (m ((c : Thread nD τ).loc main_arg1)) (m ((c : Thread nD τ).loc main_arg2)) 2048 (by decide) := by
  refine (dats m 0 c).arrAt_eq_of_covers 13 _ (by decide +kernel) fun t _ y => ?_
  blk_simp
  rw [after0_13, out13_eq]
  idx_vars y
  refine point_v m c t _ _ _ ?_ ?_
  · blk_simp [idx t]; omega
  · blk_simp [idx t]

theorem final14 : (dats m 0 c).arrAt 14 cfg0.N = gates (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t _ y => ?_
  blk_simp
  rw [after0_14, out14_eq]
  idx_vars y
  refine point_f m c t _ _ _ ?_ ?_
  · blk_simp [idx t]; omega
  · blk_simp [idx t]

theorem final15 : (dats m 0 c).arrAt 15 cfg0.N = gatesT (m ((c : Thread nD τ).loc main_arg0)) (m ((c : Thread nD τ).loc main_arg1)) (m ((c : Thread nD τ).loc main_arg2)) (m ((c : Thread nD τ).loc main_arg3)) := by
  refine (dats m 0 c).arrAt_eq_of_covers 15 _ (by decide +kernel) fun t _ y => ?_
  blk_simp
  rw [after0_15, out15_eq]
  idx_vars y
  refine point_t m c t _ _ _ ?_ ?_
  · blk_simp [idx t]
  · blk_simp [idx t]; omega

/-! ## The reference -/

open Cert.AttnProjRefIdeal Cert.AttnProjRefIdeal.Gen in
theorem reference_gates (m' : (ℓ : Loc Cert.AttnProjRefIdeal.nD Cert.AttnProjRefIdeal.τ Cert.AttnProjRefIdeal.sig) → Buf (Elt Ideal) ℓ) (c : Dev Cert.AttnProjRefIdeal.nD) :
    Cert.AttnProjRefIdeal.Value.res_main_v21 (F := Ideal) m' c
      = logSigs (shifted (m' ((c.tc : Thread Cert.AttnProjRefIdeal.nD Cert.AttnProjRefIdeal.τ).loc Cert.AttnProjRefIdeal.main_arg0)) (m' ((c.tc : Thread Cert.AttnProjRefIdeal.nD Cert.AttnProjRefIdeal.τ).loc Cert.AttnProjRefIdeal.main_arg1)) (m' ((c.tc : Thread Cert.AttnProjRefIdeal.nD Cert.AttnProjRefIdeal.τ).loc Cert.AttnProjRefIdeal.main_arg2)) (m' ((c.tc : Thread Cert.AttnProjRefIdeal.nD Cert.AttnProjRefIdeal.τ).loc Cert.AttnProjRefIdeal.main_arg3))) := by
  unfold Cert.AttnProjRefIdeal.Value.res_main_v21 logSigs shifted zeros projs normed
  rfl

open Cert.AttnProjRefIdeal Cert.AttnProjRefIdeal.Gen in
theorem reference_gatesT (m' : (ℓ : Loc Cert.AttnProjRefIdeal.nD Cert.AttnProjRefIdeal.τ Cert.AttnProjRefIdeal.sig) → Buf (Elt Ideal) ℓ) (c : Dev Cert.AttnProjRefIdeal.nD) :
    Cert.AttnProjRefIdeal.Value.res_main_v27 (F := Ideal) m' c
      = transpose Cert.AttnProjRefIdeal.S16x33792 [1, 0] (logSigs (shifted (m' ((c.tc : Thread Cert.AttnProjRefIdeal.nD Cert.AttnProjRefIdeal.τ).loc Cert.AttnProjRefIdeal.main_arg0)) (m' ((c.tc : Thread Cert.AttnProjRefIdeal.nD Cert.AttnProjRefIdeal.τ).loc Cert.AttnProjRefIdeal.main_arg1)) (m' ((c.tc : Thread Cert.AttnProjRefIdeal.nD Cert.AttnProjRefIdeal.τ).loc Cert.AttnProjRefIdeal.main_arg2)) (m' ((c.tc : Thread Cert.AttnProjRefIdeal.nD Cert.AttnProjRefIdeal.τ).loc Cert.AttnProjRefIdeal.main_arg3)))) transposes_S33792x16_S16x33792_1_0 := by
  unfold Cert.AttnProjRefIdeal.Value.res_main_v27 logSigs shifted zeros projs normed
  rfl

/-- THE CLAIM on the attention's projections and log forget gates. -/
theorem claim : algebraic_AttnProjIdeal_AttnProjRefIdeal (hAttnProjIdeal := Cert.AttnProjIdeal.Gen.facts) (hAttnProjRefIdeal := Cert.AttnProjRefIdeal.Gen.facts) := by
  intro m g m' g' hpre hargs
  refine ⟨fun c => queries (m ((c : Thread nD τ).loc main_arg0)) (m ((c : Thread nD τ).loc main_arg1)) (m ((c : Thread nD τ).loc main_arg2)),
    fun c => part (m ((c : Thread nD τ).loc main_arg0)) (m ((c : Thread nD τ).loc main_arg1)) (m ((c : Thread nD τ).loc main_arg2)) 1024 (by decide),
    fun c => part (m ((c : Thread nD τ).loc main_arg0)) (m ((c : Thread nD τ).loc main_arg1)) (m ((c : Thread nD τ).loc main_arg2)) 2048 (by decide),
    fun c => part (m ((c : Thread nD τ).loc main_arg0)) (m ((c : Thread nD τ).loc main_arg1)) (m ((c : Thread nD τ).loc main_arg2)) 1024 (by decide),
    fun c => part (m ((c : Thread nD τ).loc main_arg0)) (m ((c : Thread nD τ).loc main_arg1)) (m ((c : Thread nD τ).loc main_arg2)) 2048 (by decide),
    fun c => gates (m ((c : Thread nD τ).loc main_arg0)) (m ((c : Thread nD τ).loc main_arg1)) (m ((c : Thread nD τ).loc main_arg2)) (m ((c : Thread nD τ).loc main_arg3)),
    fun c => gatesT (m ((c : Thread nD τ).loc main_arg0)) (m ((c : Thread nD τ).loc main_arg1)) (m ((c : Thread nD τ).loc main_arg2)) (m ((c : Thread nD τ).loc main_arg3)), ?_, ?_⟩
  · exact (θ_run _ _ _).mono (fun r h c => ⟨(h c).1.trans (final9 m c), (h c).2.1.trans (final10 m c), (h c).2.2.1.trans (final11 m c), (h c).2.2.2.1.trans (final12 m c), (h c).2.2.2.2.1.trans (final13 m c), (h c).2.2.2.2.2.1.trans (final14 m c), (h c).2.2.2.2.2.2.1.trans (final15 m c), (h c).2.2.2.2.2.2.2⟩) (Cert.AttnProjIdeal.Value.run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.AttnProjRefIdeal.Value.run m' g')
    · rw [(hargs c).1, (hargs c).2.1, (hargs c).2.2.1]
      exact queries_eq _ _ _ _ _ _
    · rw [(hargs c).1, (hargs c).2.1, (hargs c).2.2.1]
      exact part_eq _ _ _ 1024 (by decide) (by decide)
    · rw [(hargs c).1, (hargs c).2.1, (hargs c).2.2.1]
      exact part_eq _ _ _ 2048 (by decide) (by decide)
    · rw [(hargs c).1, (hargs c).2.1, (hargs c).2.2.1]
      exact part_eq _ _ _ 1024 (by decide) (by decide)
    · rw [(hargs c).1, (hargs c).2.1, (hargs c).2.2.1]
      exact part_eq _ _ _ 2048 (by decide) (by decide)
    · rw [reference_gates, (hargs c).1, (hargs c).2.1, (hargs c).2.2.1, (hargs c).2.2.2]
      exact gates_eq _ _ _ _
    · rw [reference_gatesT, (hargs c).1, (hargs c).2.1, (hargs c).2.2.1, (hargs c).2.2.2]
      exact gatesT_eq _ _ _ _ _

end Cert.Proj

end
-- ==== Proof.Bias.Chain.lean ====
/- The key's bias, chunk by chunk: each stored chunk is minus the running sum of its own entries and the carry, and the carry is the
   last column of the chunk before. -/
module

public import proofs.«01_k».proof.Proof.Gen.KeyBiasIdeal.Value

@[expose] public section

set_option maxRecDepth 16384

noncomputable section

namespace Cert.Bias

open Idealize.ShloMosaic Idealize.ShloMosaic.TcCoe Idealize.SL.Sem
open Cert.KeyBiasIdeal Cert.KeyBiasIdeal.Gen

variable {F : FTy → Type} [FloatOps F] [Named F]

/-- Each lane plus the lane `k` to its left, where there is one. -/
def stage (k : BitVec 32) (x : FVec F S16x128 .f32) : FVec F S16x128 .f32 :=
  addf x (select (cmpi .sge (iota .tc S16x128 32 [1] iota_S16x128_d1_w32) (broadcast S16x128 k)) (dynamicRotate 1 k none x rotates_S16x128_d1)
    (broadcast S16x128 (Scalar.ofBits .f32 0x00000000#32)))

/-- The running sum along the lanes. -/
def scan (x : FVec F S16x128 .f32) : FVec F S16x128 .f32 :=
  stage 64#32 (stage 32#32 (stage 16#32 (stage 8#32 (stage 4#32 (stage 2#32 (stage 1#32 x))))))

/-- A chunk's running sum, the carry added. -/
def total (c x : FVec F S16x128 .f32) : FVec F S16x128 .f32 := addf (scan x) c

/-- The carry into the chunk after: the last column on every lane. -/
def next (c x : FVec F S16x128 .f32) : FVec F S16x128 .f32 :=
  broadcastTo S16x128 (shapeCast S16x1 (extractStridedSlice S16x1 ![0, 127] (total c x) slices_S16x128_o0_127_S16x1) shapeCasts_S16x1_S16x1) broadcasts_S16x1_S16x128

/-- Minus a chunk. -/
def neg (x : FVec F S16x128 .f32) : FVec F S16x128 .f32 := subf (broadcast S16x128 (Scalar.ofBits .f32 0x00000000#32)) x

/-- The lanes past the padding. -/
def past : IVec S16x128 1 := cmpi .sge (iota .tc S16x128 32 [1] iota_S16x128_d1_w32) (broadcast S16x128 112#32)

/-- The first chunk, its padding zero. -/
def head (x : FVec F S16x128 .f32) : FVec F S16x128 .f32 := select past x (broadcast S16x128 (Scalar.ofBits .f32 0x00000000#32))

/-- The first chunk as stored, its padding the mask's constant. -/
def first (x : FVec F S16x128 .f32) : FVec F S16x128 .f32 :=
  select past (neg (total (k0_pay2 (F := F)) (head x))) (broadcast S16x128 (Named.named κ "mask" 0xF149F2CA#32))

variable (x0 : Vec F S16x4224 .f32)

/-- The rectangle of the chunk `k`. -/
abbrev rect (k : ℕ) : Rect S16x4224 := Rect.unit (s := S16x4224) ![0, 128 * min k 32] S16x128.size (by
  intro a
  match a with
  | ⟨0, _⟩ => exact Nat.le_refl 16
  | ⟨1, _⟩ => show 128 * min k 32 + 128 ≤ 4224; omega)

/-- The chunk `k`, the padding zero. -/
def chunk : ℕ → FVec F S16x128 .f32
  | 0 => head (View.ld x0 (rect 0))
  | k + 1 => View.ld x0 (rect (k + 1))

/-- The carry into the chunk `k`. -/
def carry : ℕ → FVec F S16x128 .f32
  | 0 => k0_pay2
  | k + 1 => next (carry k) (chunk x0 k)

/-- The chunk `k` as stored. -/
def stored : ℕ → FVec F S16x128 .f32
  | 0 => first (View.ld x0 (rect 0))
  | k + 1 => neg (total (carry x0 (k + 1)) (chunk x0 (k + 1)))

/-- The stores, the last first. -/
def pieces : List (View.Piece (Elt F) S16x4224 .f32) := ((List.range 33).map fun k => ⟨rect k, stored x0 k⟩).reverse

theorem out_eq : out0_1 x0 = View.canon (pieces x0) := rfl

end Cert.Bias
-- ==== Proof.Bias.Prefix.lean ====
/- Running sums: sums over the last entries, and the host's sum over a window that reaches back to the first. -/
module

public import proofs.«01_k».proof.Proof.Attn.Pre

@[expose] public section

noncomputable section

namespace Cert.Bias

open Idealize.ShloMosaic
open scoped BigOperators

/-! ## Sums over the last entries -/

/-- The sum of the `k` entries that end at `l`. -/
def window (f : ℕ → EReal) (k l : ℕ) : EReal := ∑ i ∈ Finset.range k, if i ≤ l then f (l - i) else 0

theorem window_one (f : ℕ → EReal) (l : ℕ) : window f 1 l = f l := by simp [window]

theorem window_double (f : ℕ → EReal) (k l : ℕ) : window f (k + k) l = window f k l + if k ≤ l then window f k (l - k) else 0 := by
  unfold window
  rw [Finset.sum_range_add]
  congr 1
  split_ifs with h
  · refine Finset.sum_congr rfl fun i _ => ?_
    by_cases hi : i ≤ l - k
    · rw [if_pos (by omega), if_pos hi, show l - (k + i) = l - k - i by omega]
    · rw [if_neg (by omega), if_neg hi]
  · exact Finset.sum_eq_zero fun i _ => if_neg (by omega)

theorem window_all (f : ℕ → EReal) (n l : ℕ) (h : l < n) : window f n l = ∑ j ∈ Finset.range (l + 1), f j := by
  obtain ⟨m, rfl⟩ : ∃ m, n = l + 1 + m := ⟨n - (l + 1), by omega⟩
  unfold window
  rw [Finset.sum_range_add, Finset.sum_eq_zero (s := Finset.range m) (fun i _ => if_neg (by omega)), add_zero, ← Finset.sum_range_reflect f]
  refine Finset.sum_congr rfl fun i hi => ?_
  rw [Finset.mem_range] at hi
  rw [if_pos (by omega)]
  exact congrArg f (by omega)

/-! ## A window's fold -/

theorem fold_sum {n : ℕ} (f : Fin n → EReal) : (List.finRange n).foldl (fun r i => r + f i) 0 = ∑ i, f i := by
  rw [Fin.sum_univ_def, List.sum_eq_foldl, List.foldl_map]

/-- The windows' positions. -/
def spanEquiv (n : ℕ) : (⟨3, ![1, 1, n]⟩ : Shape).Idx ≃ Fin n where
  toFun w := w 2
  invFun q := ix3 0 0 q
  left_inv w := by
    funext a
    match a with
    | ⟨0, _⟩ => exact Subsingleton.elim (α := Fin 1) _ _
    | ⟨1, _⟩ => exact Subsingleton.elim (α := Fin 1) _ _
    | ⟨2, _⟩ => rfl
  right_inv q := rfl

/-- A position of a window: the entry it covers, or none before the first. -/
theorem position_at {H B n : ℕ} (x : (⟨3, ![H, B, n + 1]⟩ : Shape).Idx → EReal) (f : ℕ → EReal) (r : Fin H) (b : Fin B)
    (hf : ∀ p : Fin (n + 1), x (ix3 r b p) = f p.val) (p : Fin (n + 1)) (w : (⟨3, ![1, 1, n + 1]⟩ : Shape).Idx)
    (q : Fin 3 → ℕ) (hq : ∀ a : Fin 3, q a = ((ix3 r b p : (⟨3, ![H, B, n + 1]⟩ : Shape).Idx) a).val * (![1, 1, 1] : Fin 3 → ℕ) a + (w a).val)
    (D : Decidable (∀ a : Fin 3, (![0, 0, n] : Fin 3 → ℕ) a ≤ q a ∧ q a - (![0, 0, n] : Fin 3 → ℕ) a < (⟨3, ![H, B, n + 1]⟩ : Shape).size a)) :
    (if hin : ∀ a : Fin 3, (![0, 0, n] : Fin 3 → ℕ) a ≤ q a ∧ q a - (![0, 0, n] : Fin 3 → ℕ) a < (⟨3, ![H, B, n + 1]⟩ : Shape).size a then
        x (fun a => ⟨q a - (![0, 0, n] : Fin 3 → ℕ) a, (hin a).2⟩) else 0)
      = if n ≤ p.val + (w 2).val then f (p.val + (w 2).val - n) else 0 := by
  have h0 : (w 0).val = 0 := Nat.lt_one_iff.mp (w 0).isLt
  have h1 : (w 1).val = 0 := Nat.lt_one_iff.mp (w 1).isLt
  have h2 : (w 2).val < n + 1 := (w 2).isLt
  have hp := p.isLt
  have q0 : q 0 = r.val := (hq 0).trans (by rw [h0]; show r.val * 1 + 0 = r.val; omega)
  have q1 : q 1 = b.val := (hq 1).trans (by rw [h1]; show b.val * 1 + 0 = b.val; omega)
  have q2 : q 2 = p.val + (w 2).val := (hq 2).trans (by show p.val * 1 + (w 2).val = _; omega)
  by_cases h : n ≤ p.val + (w 2).val
  · rw [if_pos h, dif_pos (by
      intro a
      match a with
      | ⟨0, _⟩ => exact ⟨Nat.zero_le _, by show q 0 - 0 < H; rw [q0]; exact r.isLt⟩
      | ⟨1, _⟩ => exact ⟨Nat.zero_le _, by show q 1 - 0 < B; rw [q1]; exact b.isLt⟩
      | ⟨2, _⟩ => exact ⟨by show n ≤ q 2; omega, by show q 2 - n < n + 1; omega⟩)]
    refine (congrArg x (funext fun a => ?_)).trans (hf ⟨p.val + (w 2).val - n, by omega⟩)
    match a with
    | ⟨0, _⟩ => exact Fin.ext q0
    | ⟨1, _⟩ => exact Fin.ext q1
    | ⟨2, _⟩ => exact Fin.ext (by show q 2 - n = p.val + (w 2).val - n; rw [q2])
  · rw [if_neg h, dif_neg]
    intro hin
    have : n ≤ q 2 := (hin 2).1
    omega

/-- A window that reaches back to the first entry sums all up to its own. -/
theorem prefix_sum {H B n : ℕ}
    (h : (⟨3, ![H, B, n + 1]⟩ : Shape).ReduceWindows ![1, 1, n + 1] ![1, 1, 1] ![0, 0, n] ![0, 0, 0] ⟨3, ![H, B, n + 1]⟩)
    (x : (⟨3, ![H, B, n + 1]⟩ : Shape).Idx → EReal) (f : ℕ → EReal) (r : Fin H) (b : Fin B)
    (hf : ∀ p : Fin (n + 1), x (ix3 r b p) = f p.val) (p : Fin (n + 1)) :
    Ideal.hostReduceWindowAdd ![1, 1, n + 1] ![1, 1, 1] ![0, 0, n] ![0, 0, 0] h x 0 (ix3 r b p) = ∑ j ∈ Finset.range (p.val + 1), f j := by
  have hp := p.isLt
  rw [← window_all f (n + 1) p.val hp]
  unfold Ideal.hostReduceWindowAdd Host.reduceWindow
  refine (fold_sum _).trans ?_
  refine (Fintype.sum_equiv ((⟨3, ![1, 1, n + 1]⟩ : Shape).rowMajor.symm.trans (spanEquiv (n + 1))) _
    (fun q => if n ≤ p.val + q.val then f (p.val + q.val - n) else 0) fun i => ?_).trans ?_
  · exact position_at x f r b hf p ((⟨3, ![1, 1, n + 1]⟩ : Shape).rowMajor.symm i) _ (fun a => rfl) _
  · rw [Fin.sum_univ_eq_sum_range (fun q => if n ≤ p.val + q then f (p.val + q - n) else 0) (n + 1), ← Finset.sum_range_reflect]
    refine Finset.sum_congr rfl fun i hi => ?_
    rw [Finset.mem_range] at hi
    by_cases hip : i ≤ p.val
    · rw [if_pos (by omega), if_pos hip]
      exact congrArg f (by omega)
    · rw [if_neg (by omega), if_neg hip]

end Cert.Bias

end
-- ==== Proof.Bias.Sum.lean ====
/- The key's bias, entry by entry: the lanes' running sum, the carries, and a stored chunk's entries. -/
module

public import proofs.«01_k».proof.Proof.Bias.Chain
public import proofs.«01_k».proof.Proof.Bias.Prefix
public import proofs.«01_k».proof.Proof.Attn.Pre
public import Idealize.ShloMosaic.Lib.KernelVsHost

@[expose] public section

set_option maxRecDepth 16384

noncomputable section

namespace Cert.Bias

open Idealize.ShloMosaic Idealize.ShloMosaic.TcCoe Idealize.SL.Sem
open Cert.KeyBiasIdeal Cert.KeyBiasIdeal.Gen
open Cert.Attn (zero_word)
open scoped BigOperators

/-! ## The lanes -/

/-- A row's entries, zero past the last lane. -/
def lanes (x : FVec Ideal S16x128 .f32) (r : Fin 16) (j : ℕ) : EReal := if h : j < 128 then x (ix2 r ⟨j, h⟩) else 0

theorem left_of : ∀ (e : Fin 7) (l : Fin 128),
    IntOp.cmpi .sge (BitVec.ofNat 32 l.val) (BitVec.ofNat 32 (2 ^ e.val)) = if 2 ^ e.val ≤ l.val then 1#1 else 0#1 := by
  decide +kernel

/-- A stage's entry: the lane's own, and that of the lane `2 ^ e` to its left. -/
theorem stage_at (e : Fin 7) (x : FVec Ideal S16x128 .f32) (r : Fin 16) (l : Fin 128) :
    (stage (BitVec.ofNat 32 (2 ^ e.val)) x (ix2 r l) : EReal) = lanes x r l.val + if 2 ^ e.val ≤ l.val then lanes x r (l.val - 2 ^ e.val) else 0 := by
  have he : 2 ^ e.val < 128 := by revert e; decide
  have hl := l.isLt
  have h1 : lanes x r l.val = x (ix2 r l) := dif_pos hl
  have h2 : (stage (BitVec.ofNat 32 (2 ^ e.val)) x (ix2 r l) : EReal)
      = x (ix2 r l) + Scalar.select (IntOp.cmpi .sge (BitVec.ofNat 32 l.val) (BitVec.ofNat 32 (2 ^ e.val)))
          (x (ix2 r ⟨(l.val + 128 - 2 ^ e.val) % 128, Nat.mod_lt _ (by decide)⟩)) 0 := by
    have hm : (BitVec.ofNat 32 (2 ^ e.val)).toNat = 2 ^ e.val := by rw [BitVec.toNat_ofNat]; exact Nat.mod_eq_of_lt (by omega)
    have hr := Idealize.ShloMosaic.dynamicRotate_apply (s := S16x128) 1 (BitVec.ofNat 32 (2 ^ e.val)) x rotates_S16x128_d1 (ix2 r l)
      (ix2 r ⟨(l.val + 128 - 2 ^ e.val) % 128, Nat.mod_lt _ (by decide)⟩) (by
        intro b
        rw [hm]
        match b with
        | ⟨0, _⟩ => rfl
        | ⟨1, _⟩ => show (l.val + 128 - 2 ^ e.val) % 128 = (l.val + 128 - 2 ^ e.val % 128) % 128; rw [Nat.mod_eq_of_lt he])
    rw [← hr]
    pointwise [stage]
  rw [h2, left_of e l, h1]
  by_cases h : 2 ^ e.val ≤ l.val
  · rw [if_pos h, if_pos h]
    refine congrArg (x (ix2 r l) + ·) ?_
    unfold lanes
    rw [dif_pos (Nat.lt_of_le_of_lt (Nat.sub_le _ _) hl)]
    refine (show Scalar.select 1#1 _ _ = _ from rfl).trans (congrArg (fun q => x (ix2 r q)) (Fin.ext ?_))
    show (l.val + 128 - 2 ^ e.val) % 128 = l.val - 2 ^ e.val
    rw [Nat.sub_add_comm h, Nat.add_mod_right, Nat.mod_eq_of_lt (Nat.lt_of_le_of_lt (Nat.sub_le _ _) hl)]
  · rw [if_neg h, if_neg h]
    rfl

/-- A stage doubles the sum's window. -/
theorem stage_window (e : Fin 7) (f : ℕ → EReal) (x : FVec Ideal S16x128 .f32) (r : Fin 16)
    (h : ∀ l : Fin 128, (x (ix2 r l) : EReal) = window f (2 ^ e.val) l.val) (l : Fin 128) :
    (stage (BitVec.ofNat 32 (2 ^ e.val)) x (ix2 r l) : EReal) = window f (2 ^ e.val + 2 ^ e.val) l.val := by
  have hl := l.isLt
  have hx : ∀ j : ℕ, j < 128 → lanes x r j = window f (2 ^ e.val) j := fun j hj => (dif_pos hj).trans (h ⟨j, hj⟩)
  rw [stage_at, window_double, hx _ hl]
  split_ifs with hk
  · rw [hx _ (Nat.lt_of_le_of_lt (Nat.sub_le _ _) hl)]
  · rfl

/-- THE LANES' RUNNING SUM. -/
theorem scan_at (x : FVec Ideal S16x128 .f32) (f : ℕ → EReal) (r : Fin 16) (h : ∀ l : Fin 128, (x (ix2 r l) : EReal) = f l.val) (l : Fin 128) :
    (scan x (ix2 r l) : EReal) = ∑ j ∈ Finset.range (l.val + 1), f j := by
  have h0 : ∀ l : Fin 128, (x (ix2 r l) : EReal) = window f 1 l.val := fun l => (h l).trans (window_one f _).symm
  have h1 := stage_window 0 f _ r h0
  have h2 := stage_window 1 f _ r h1
  have h3 := stage_window 2 f _ r h2
  have h4 := stage_window 3 f _ r h3
  have h5 := stage_window 4 f _ r h4
  have h6 := stage_window 5 f _ r h5
  have h7 := stage_window 6 f _ r h6
  exact (h7 l).trans (window_all f 128 l.val l.isLt)

/-! ## The chunks -/

/-- A chunk's running sum, the entries before it carried: all that comes before the lane's end. -/
theorem total_at (c x : FVec Ideal S16x128 .f32) (g : ℕ → EReal) (k : ℕ) (r : Fin 16)
    (hc : ∀ l : Fin 128, (c (ix2 r l) : EReal) = ∑ j ∈ Finset.range (128 * k), g j)
    (hx : ∀ l : Fin 128, (x (ix2 r l) : EReal) = g (128 * k + l.val)) (l : Fin 128) :
    (total c x (ix2 r l) : EReal) = ∑ j ∈ Finset.range (128 * k + l.val + 1), g j := by
  have e : (total c x (ix2 r l) : EReal) = scan x (ix2 r l) + c (ix2 r l) := by pointwise [total]
  rw [e, scan_at x (fun j => g (128 * k + j)) r hx l, hc l, add_comm]
  exact (Finset.sum_range_add g (128 * k) (l.val + 1)).symm

/-- The carry into the next chunk. -/
theorem next_at (c x : FVec Ideal S16x128 .f32) (g : ℕ → EReal) (k : ℕ) (r : Fin 16)
    (hc : ∀ l : Fin 128, (c (ix2 r l) : EReal) = ∑ j ∈ Finset.range (128 * k), g j)
    (hx : ∀ l : Fin 128, (x (ix2 r l) : EReal) = g (128 * k + l.val)) (l : Fin 128) :
    (next c x (ix2 r l) : EReal) = ∑ j ∈ Finset.range (128 * (k + 1)), g j := by
  have e : (next c x (ix2 r l) : EReal) = total c x (ix2 r 127) := by pointwise [next]
  rw [e, total_at c x g k r hc hx]
  rfl

theorem neg_at (x : FVec Ideal S16x128 .f32) (r : Fin 16) (l : Fin 128) : (neg x (ix2 r l) : EReal) = -(x (ix2 r l) : EReal) := by
  pointwise [neg]
  exact zero_sub _

theorem past_of : ∀ l : Fin 128, IntOp.cmpi .sge (BitVec.ofNat 32 l.val) 112#32 = if 112 ≤ l.val then 1#1 else 0#1 := by
  decide +kernel

theorem head_at (x : FVec Ideal S16x128 .f32) (r : Fin 16) (l : Fin 128) :
    (head x (ix2 r l) : EReal) = if 112 ≤ l.val then x (ix2 r l) else 0 := by
  pointwise [head, past]
  rw [past_of]
  split_ifs <;> rfl

theorem first_at (x : FVec Ideal S16x128 .f32) (r : Fin 16) (l : Fin 128) :
    (first x (ix2 r l) : EReal) = if 112 ≤ l.val then -(total (k0_pay2 (F := Ideal)) (head x) (ix2 r l) : EReal) else ⊥ := by
  rw [← neg_at]
  pointwise [first, past]
  rw [past_of]
  split_ifs <;> rfl

/-! ## The block -/

/-- A row's entries, zero in the padding and past the end. -/
def gates (x0 : Vec Ideal S16x4224 .f32) (r : Fin 16) (j : ℕ) : EReal := if h : 112 ≤ j ∧ j < 4224 then x0 (ix2 r ⟨j, h.2⟩) else 0

/-- A block's result: minus the running sum, and the lowest value in the padding. -/
def block (x0 : Vec Ideal S16x4224 .f32) : FVec Ideal S16x4224 .f32 := fun z =>
  if 112 ≤ (z 1).val then -(∑ j ∈ Finset.range ((z 1).val + 1), gates x0 (z 0) j) else ⊥

variable (x0 : Vec Ideal S16x4224 .f32)

theorem idx_at (k : ℕ) (hk : k ≤ 32) (r : Fin 16) (l : Fin 128) : (rect k).idx (ix2 r l) = (ix2 r ⟨128 * k + l.val, by omega⟩ : S16x4224.Idx) := by
  funext a
  match a with
  | ⟨0, _⟩ => exact Fin.ext (by show 0 + 1 * r.val = r.val; omega)
  | ⟨1, _⟩ => exact Fin.ext (by show 128 * min k 32 + 1 * l.val = 128 * k + l.val; omega)

theorem ld_at (k : ℕ) (hk : k ≤ 32) (r : Fin 16) (l : Fin 128) : (View.ld x0 (rect k) (ix2 r l) : EReal) = x0 (ix2 r ⟨128 * k + l.val, by omega⟩) :=
  congrArg x0 (idx_at k hk r l)

theorem chunk_at (k : ℕ) (hk : k ≤ 32) (r : Fin 16) (l : Fin 128) : (chunk x0 k (ix2 r l) : EReal) = gates x0 r (128 * k + l.val) := by
  have hl := l.isLt
  unfold gates
  match k, hk with
  | 0, hk =>
    refine (head_at _ r l).trans ?_
    by_cases h : 112 ≤ l.val
    · rw [if_pos h, dif_pos (by omega)]
      exact ld_at x0 0 hk r l
    · rw [if_neg h, dif_neg (by omega)]
  | k + 1, hk =>
    rw [dif_pos (by omega)]
    exact ld_at x0 (k + 1) hk r l

theorem carry_at (k : ℕ) (hk : k ≤ 32) (r : Fin 16) : ∀ l : Fin 128, (carry x0 k (ix2 r l) : EReal) = ∑ j ∈ Finset.range (128 * k), gates x0 r j := by
  induction k with
  | zero => intro l; exact (show (k0_pay2 (F := Ideal) (ix2 r l) : EReal) = 0 by pointwise [k0_pay2])
  | succ k ih => exact next_at _ _ (gates x0 r) k r (ih (by omega)) (chunk_at x0 k (by omega) r)

theorem stored_at (k : ℕ) (hk : k ≤ 32) (y : S16x128.Idx) : (stored x0 k y : EReal) = block x0 ((rect k).idx y) := by
  obtain ⟨r, l, rfl⟩ : ∃ r l, y = ix2 r l := ⟨y 0, y 1, funext fun a => by fin_cases a <;> rfl⟩
  have hl := l.isLt
  rw [idx_at k hk r l]
  have ht := fun l => total_at _ _ (gates x0 r) k r (carry_at x0 k hk r) (chunk_at x0 k hk r) l
  show _ = if 112 ≤ 128 * k + l.val then -(∑ j ∈ Finset.range (128 * k + l.val + 1), gates x0 r j) else (⊥ : EReal)
  match k, hk, ht with
  | 0, hk, ht =>
    refine (first_at _ r l).trans ?_
    rw [← ht l]
    simp only [Nat.mul_zero, Nat.zero_add]
    rfl
  | k + 1, hk, ht =>
    rw [if_pos (by omega), ← ht l]
    exact neg_at _ r l

/-- WHAT A BLOCK HOLDS. -/
theorem block_eq : out0_1 x0 = block x0 := by
  funext y
  refine (congrFun (out_eq x0) y).trans (View.canon_apply_of_pieces (Val := Elt Ideal) (block x0) (pieces x0) (fun p hp => ?_) y ?_)
  · obtain ⟨k, hk, rfl⟩ := List.mem_map.mp (List.mem_reverse.mp hp)
    exact fun y => stored_at x0 k (by rw [List.mem_range] at hk; omega) y
  · exact cover0_1 _ _ _ _ _ _ _ _ _ _ _ _ _ _ _ _ _ _ _ _ _ _ _ _ _ _ _ _ _ _ _ _ _ y

end Cert.Bias

end
-- ==== Proof.Bias.Claim.lean ====
/- The key's bias: what the array holds, what the reference computes, and the claim that they agree. -/
module

public import proofs.«01_k».proof.Proof.Bias.Sum
public import proofs.«01_k».proof.Proof.Bias.Prefix
public import proofs.«01_k».proof.Proof.Gen.KeyBiasRefIdeal.Run
public import proofs.«01_k».proof.Defs
public import Idealize.ShloMosaic.Lib.Pipeline.Covers
public import Idealize.ShloMosaic.Lib.Claim

@[expose] public section

set_option maxRecDepth 16384

noncomputable section

namespace Cert.Bias

open Idealize.ShloMosaic Idealize.ShloMosaic.TcCoe Idealize.SL.Sem
open Idealize.ShloMosaic.Pipeline (Dat)
open Cert.Attn (zero_word)
open scoped BigOperators

/-! ## The array -/

section Kernel

open Cert.KeyBiasIdeal Cert.KeyBiasIdeal.Gen

/-- A head's entries in a sequence, zero in the padding and past the end. -/
def entries (X : FVec Ideal S16x33792 .f32) (r : Fin 16) (b : Fin 8) (j : ℕ) : EReal :=
  if h : 112 ≤ j ∧ j < 4224 then X (ix2 r ⟨4224 * b.val + j, by omega⟩) else 0

/-- Minus the running sum along each sequence, and the lowest value in the padding. -/
def bias (X : FVec Ideal S16x33792 .f32) : FVec Ideal S16x33792 .f32 := fun z =>
  if 112 ≤ (z 1).val % 4224 then
    -(∑ j ∈ Finset.range ((z 1).val % 4224 + 1), entries X (z 0) ⟨(z 1).val / 4224, by have : (z 1).val < 33792 := (z 1).isLt; omega⟩ j)
  else ⊥

theorem idx : ∀ t : Fin cfg0.N, win0_0.index t = ![0, (grid0.coords t 0).val] ∧ win0_1.index t = ![0, (grid0.coords t 0).val] :=
  (by decide +kernel : ∀ t : Fin grid0.N, _)

variable (m : (ℓ : Loc nD τ sig) → Buf (Elt Ideal) ℓ) (c : Dev nD) (t : Fin cfg0.N)

theorem entry_at (r : Fin 16) (q : Fin 4224) (x : Fin 33792) (hx : x.val = 4224 * (grid0.coords t 0).val + q.val) :
    (iblk m c 0 t (ix2 r q) : EReal) = m ((c : Thread nD τ).loc main_arg0) (ix2 r x) := by
  blk_ext [iblk, V, idx t]

theorem gates_at (r : Fin 16) (b : Fin 8) (hb : b.val = (grid0.coords t 0).val) (j : ℕ) :
    gates (iblk m c 0 t) r j = entries (m ((c : Thread nD τ).loc main_arg0)) r b j := by
  unfold gates entries
  split_ifs with h
  · exact entry_at m c t r _ _ (by show 4224 * b.val + j = 4224 * (grid0.coords t 0).val + j; omega)
  · rfl

/-- What a grid point stores. -/
theorem point (r : Fin 16) (q : Fin 4224) (x : Fin 33792) (hx : x.val = 4224 * (grid0.coords t 0).val + q.val) :
    (out0_1 (iblk m c 0 t) (ix2 r q) : EReal) = bias (m ((c : Thread nD τ).loc main_arg0)) (ix2 r x) := by
  have hq := q.isLt
  have hxl := x.isLt
  rw [block_eq]
  show (if 112 ≤ q.val then -(∑ j ∈ Finset.range (q.val + 1), gates (iblk m c 0 t) r j) else (⊥ : EReal))
    = if 112 ≤ x.val % 4224 then -(∑ j ∈ Finset.range (x.val % 4224 + 1), entries (m ((c : Thread nD τ).loc main_arg0)) r ⟨x.val / 4224, _⟩ j) else ⊥
  have e : x.val % 4224 = q.val := by omega
  rw [e]
  simp only [gates_at m c t r ⟨x.val / 4224, by omega⟩ (by show x.val / 4224 = _; omega)]

theorem final : (dats m 0 c).arrAt 1 cfg0.N = bias (m ((c : Thread nD τ).loc main_arg0)) := by
  refine (dats m 0 c).arrAt_eq_of_covers 1 _ (by decide +kernel) fun t _ y => ?_
  blk_simp
  rw [after0_1]
  idx_vars y
  have ht : (grid0.coords t 0).val < 8 := (grid0.coords t 0).isLt
  refine (point m c t y0 y1 ⟨4224 * (grid0.coords t 0).val + y1.val, by have := y1.isLt; omega⟩ rfl).trans ?_
  blk_ext [idx t]

end Kernel

/-! ## The reference -/

section Reference

open Cert.KeyBiasRefIdeal Cert.KeyBiasRefIdeal.Gen

/-- The sequences, the padding in front dropped. -/
def real (X : FVec Ideal S16x33792 .f32) : FVec Ideal S16x8x4112 .f32 :=
  extractStridedSlice S16x8x4112 ![0, 0, 112] (shapeCast S16x8x4224 X shapeCasts_S16x33792_S16x8x4224) slices_S16x8x4224_S16x8x4112_0_0_112

/-- The running sums. -/
def sums (x : FVec Ideal S16x8x4112 .f32) : FVec Ideal S16x8x4112 .f32 :=
  Host.reduceWindowAdd ![1, 1, 4112] ![1, 1, 1] ![0, 0, 4111] ![0, 0, 0] x (broadcastInDim S_ ![] bcast_S_S_ (constant S_ .f32 0x00000000#32)) reduceWindows_S16x8x4112_S16x8x4112_w1s1p0_0_w1s1p0_0_w4112s1p4111_0 h_S_

/-- The sums negated, the lowest value in front. -/
def padded (v : FVec Ideal S16x8x4112 .f32) : FVec Ideal S16x33792 .f32 :=
  shapeCast S16x33792 (pad S16x8x4224 ![0, 0, 112] ![0, 0, 0] ![0, 0, 0] (Host.negf v) (id (constant S_ .f32 0xFF800000#32)) pads_S16x8x4112_S16x8x4224_000_000_11200 h_S_) shapeCasts_S16x8x4224_S16x33792

theorem real_at (X : FVec Ideal S16x33792 .f32) (r : Fin 16) (b : Fin 8) (p : Fin 4112) :
    (real X (ix3 r b p) : EReal) = entries X r b (112 + p.val) := by
  unfold entries
  rw [dif_pos (by omega)]
  pointwise [real]
  blk_ext []

theorem padded_row (v : FVec Ideal S16x8x4112 .f32) (r : Fin 16) (x : Fin 33792) (h : 112 ≤ x.val % 4224) :
    (padded v (ix2 r x) : EReal) = -(v (ix3 r ⟨x.val / 4224, by omega⟩ ⟨x.val % 4224 - 112, by omega⟩) : EReal) := by
  pointwise [padded]
  have hx := x.isLt
  have hr := r.isLt
  exact dif_pos ⟨by omega, by omega, by omega⟩

theorem padded_front (v : FVec Ideal S16x8x4112 .f32) (r : Fin 16) (x : Fin 33792) (h : ¬ 112 ≤ x.val % 4224) :
    (padded v (ix2 r x) : EReal) = ⊥ := by
  pointwise [padded]
  exact dif_neg fun e => h (by omega)

theorem sums_at (x : FVec Ideal S16x8x4112 .f32) (f : ℕ → EReal) (r : Fin 16) (b : Fin 8) (hf : ∀ p : Fin 4112, (x (ix3 r b p) : EReal) = f p.val) (p : Fin 4112) :
    (sums x (ix3 r b p) : EReal) = ∑ j ∈ Finset.range (p.val + 1), f j := by
  have hz : (broadcastInDim S_ ![] bcast_S_S_ (constant (F := Ideal) S_ .f32 0x00000000#32) (Shape.Idx.first h_S_) : EReal) = 0 := by pointwise
  unfold sums Host.reduceWindowAdd
  rw [hz]
  exact prefix_sum (n := 4111) _ x f r b hf p

/-- The reference is the running sums with the padding's value in front. -/
theorem reference_bias (X : FVec Ideal S16x33792 .f32) : padded (sums (real X)) = bias X := by
  funext z
  obtain ⟨r, x, rfl⟩ : ∃ r x, z = ix2 r x := ⟨z 0, z 1, funext fun a => by fin_cases a <;> rfl⟩
  have hx := x.isLt
  show _ = if 112 ≤ x.val % 4224 then -(∑ j ∈ Finset.range (x.val % 4224 + 1), entries X r ⟨x.val / 4224, by omega⟩ j) else (⊥ : EReal)
  by_cases h : 112 ≤ x.val % 4224
  · rw [if_pos h, padded_row _ r x h, sums_at _ (fun j => entries X r ⟨x.val / 4224, by omega⟩ (112 + j)) r _ (real_at X r _)]
    refine congrArg Neg.neg ?_
    have hs := Finset.sum_range_add (entries X r ⟨x.val / 4224, by omega⟩) 112 (x.val % 4224 - 112 + 1)
    rw [Finset.sum_eq_zero (s := Finset.range 112) (fun j hj => dif_neg (by rw [Finset.mem_range] at hj; omega)), zero_add,
      show 112 + (x.val % 4224 - 112 + 1) = x.val % 4224 + 1 by omega] at hs
    exact hs.symm
  · rw [if_neg h, padded_front _ r x h]

end Reference

/-- THE CLAIM on the key's bias. -/
theorem claim : algebraic_KeyBiasIdeal_KeyBiasRefIdeal (hKeyBiasIdeal := Cert.KeyBiasIdeal.Gen.facts) (hKeyBiasRefIdeal := Cert.KeyBiasRefIdeal.Gen.facts) := by
  intro m g m' g' hpre hargs
  refine ⟨fun c => bias (m ((c.tc : Thread Cert.KeyBiasIdeal.nD Cert.KeyBiasIdeal.τ).loc Cert.KeyBiasIdeal.main_arg0)), ?_, ?_⟩
  · exact (θ_run _ _ _).mono (fun r h c => ⟨(h c).1.trans (final m c), (h c).2⟩) (Cert.KeyBiasIdeal.Value.run_blocks m g)
  · refine (θ_run _ _ _).mono (fun r h c => ⟨(h c).1.trans ?_, (h c).2⟩) (Cert.KeyBiasRefIdeal.Value.run m' g')
    rw [hargs c]
    exact reference_bias _

end Cert.Bias

end
-- ==== Proof.Layer.ConvArrays.lean ====
/- The convolution mixer's projections of `n` rows, as arrays, and what the reference computes of them. -/
module

public import proofs.«01_k».proof.Proof.Layer.Norm

@[expose] public section

set_option maxRecDepth 16384

noncomputable section

namespace Cert.Conv

open Idealize.ShloMosaic Cert.Layer

abbrev Weight : Shape := ⟨2, ![1024, 3072]⟩
abbrev Projs (n : ℕ) : Shape := ⟨2, ![n, 3072]⟩

variable {n : ℕ} [hn : Fact (n ≠ 1)] (X : FVec Ideal (Rows n) .f32) (G : FVec Ideal Gain .f32) (W : FVec Ideal Weight .f32)

/-- Entry `z` of the projection of row `x`. -/
def proj (x : Fin n) (z : Fin 3072) : EReal := projAt (fun j => X (ix2 x j)) (fun j => G (ix1 j)) (fun k => W (ix2 k z))

/-- The first third of the projections: the gate. -/
def gate : Vec Ideal (Rows n) .bf16 := fun y => (proj X G W (y 0) ⟨(y 1).val, by have h := (y 1).isLt; change (y 1).val < 1024 at h; omega⟩ : EReal)

/-- The second third times the last: the convolution's input. -/
def product : Vec Ideal (Rows n) .f32 := fun y =>
  (proj X G W (y 0) ⟨1024 + (y 1).val, by have h := (y 1).isLt; change (y 1).val < 1024 at h; omega⟩
    * proj X G W (y 0) ⟨2048 + (y 1).val, by have h := (y 1).isLt; change (y 1).val < 1024 at h; omega⟩ : EReal)

/-- All projections of all rows. -/
def projs : FVec Ideal (Projs n) .f32 := Host.dotGeneral (DotDims.plain n 1024 3072) none (normed X G) W

theorem projs_at (x : Fin n) (z : Fin 3072) : (projs X G W (ix2 x z) : EReal) = proj X G W x z := by
  unfold proj projAt
  simp only [← normed_at]
  pointwise [projs]
  simp only [plain_left]

theorem gate_eq (hb : FTy.bf16.bits < FTy.f32.bits) (h : (Projs n).Slices ![0, 0] (Rows n)) :
    truncf .bf16 (extractStridedSlice (Rows n) ![0, 0] (projs X G W) h) hb = gate X G W :=
  rows_ext fun x k => (columns_at 0 (projs X G W) h x k ⟨k.val, by omega⟩ (Nat.zero_add _).symm).trans (projs_at X G W _ _)

theorem product_eq (h : (Projs n).Slices ![0, 1024] (Rows n)) (h' : (Projs n).Slices ![0, 2048] (Rows n)) :
    mulf (extractStridedSlice (Rows n) ![0, 1024] (projs X G W) h) (extractStridedSlice (Rows n) ![0, 2048] (projs X G W) h') = product X G W :=
  rows_ext fun x k => congrArg₂ (· * ·)
    ((columns_at 1024 (projs X G W) h x k ⟨1024 + k.val, by omega⟩ rfl).trans (projs_at X G W _ _))
    ((columns_at 2048 (projs X G W) h' x k ⟨2048 + k.val, by omega⟩ rfl).trans (projs_at X G W _ _))

end Cert.Conv

end
-- ==== Proof.Layer.Conv.lean ====
/- The convolution mixer's projections: what a block computes, what the arrays hold, and the claim that the
   reference computes the same. -/
module

public import proofs.«01_k».proof.Proof.Layer.ConvArrays
public import proofs.«01_k».proof.Proof.Gen.ConvProjIdeal.Value
public import proofs.«01_k».proof.Proof.Gen.ConvProjRefIdeal.Run
public import proofs.«01_k».proof.Defs
public import Idealize.ShloMosaic.Lib.Pipeline.Covers
public import Idealize.ShloMosaic.Lib.Claim

@[expose] public section

set_option maxRecDepth 16384

noncomputable section

namespace Cert.Conv

open Idealize.ShloMosaic Idealize.ShloMosaic.TcCoe Idealize.SL.Sem Cert.ConvProjIdeal Cert.ConvProjIdeal.Gen Cert.Layer
open Idealize.ShloMosaic.Pipeline (Dat)

/-! ## A block -/

theorem norm_at (x : Vec Ideal S512x1024 .f32) (g : Vec Ideal S1x1024 .f32) (r : Fin 512) (k : Fin 1024) :
    (k0_pay1 x g (ix2 r k) : EReal) = normAt (fun j => x (ix2 r j)) (fun j => g (ix2 0 j)) k := by
  pointwise [k0_pay1, normAt]

theorem gate_at (x : Vec Ideal S512x1024 .f32) (g : Vec Ideal S1x1024 .f32) (w : Vec Ideal S1024x1024 .bf16) (r : Fin 512) (y : Fin 1024) :
    (k0_pay2 x g w (ix2 r y) : EReal) = projAt (fun j => x (ix2 r j)) (fun j => g (ix2 0 j)) (fun k => w (ix2 k y)) := by
  unfold projAt
  simp only [← norm_at]
  pointwise [k0_pay2]

theorem product_at (x : Vec Ideal S512x1024 .f32) (g : Vec Ideal S1x1024 .f32) (w w' : Vec Ideal S1024x1024 .bf16) (r : Fin 512) (y : Fin 1024) :
    (k0_pay3 x g w w' (ix2 r y) : EReal)
      = projAt (fun j => x (ix2 r j)) (fun j => g (ix2 0 j)) (fun k => w (ix2 k y)) * projAt (fun j => x (ix2 r j)) (fun j => g (ix2 0 j)) (fun k => w' (ix2 k y)) := by
  unfold projAt
  simp only [← norm_at]
  pointwise [k0_pay3]

/-! ## The arrays -/

theorem idx : ∀ t : Fin cfg0.N,
    win0_0.index t = ![(grid0.coords t 0).val, 0] ∧ win0_1.index t = ![0, 0] ∧ win0_2.index t = ![0, 0] ∧ win0_3.index t = ![0, 0]
      ∧ win0_4.index t = ![0, 0] ∧ win0_5.index t = ![(grid0.coords t 0).val, 0] ∧ win0_6.index t = ![(grid0.coords t 0).val, 0] :=
  (by decide +kernel : ∀ t : Fin grid0.N, _)

variable (m : (ℓ : Loc nD τ sig) → Buf (Elt Ideal) ℓ) (c : Dev nD) (t : Fin cfg0.N)

theorem row_at (r : Fin 512) (j : Fin 1024) (x : Fin 33792) (hx : x.val = 512 * (grid0.coords t 0).val + r.val) :
    (iblk m c 0 t (ix2 r j) : EReal) = m ((c : Thread nD τ).loc main_arg0) (ix2 x j) := by
  blk_ext [iblk, V, idx t]

theorem gain_at (j : Fin 1024) : (iblk m c 1 t (ix2 0 j) : EReal) = m ((c : Thread nD τ).loc main_arg1) (ix1 j) := by
  blk_simp [iblk]
  entry_read
  pointwise
  blk_ext [idx t]

theorem weight_at₀ (k y : Fin 1024) (z : Fin 3072) (hz : z.val = y.val) :
    (iblk m c 2 t (ix2 k y) : EReal) = m ((c : Thread nD τ).loc main_arg2) (ix2 k z) := by
  blk_simp [iblk]
  entry_read
  pointwise
  blk_ext [idx t]

theorem weight_at₁ (k y : Fin 1024) (z : Fin 3072) (hz : z.val = 1024 + y.val) :
    (iblk m c 3 t (ix2 k y) : EReal) = m ((c : Thread nD τ).loc main_arg2) (ix2 k z) := by
  blk_simp [iblk]
  entry_read
  pointwise
  blk_ext [idx t]

theorem weight_at₂ (k y : Fin 1024) (z : Fin 3072) (hz : z.val = 2048 + y.val) :
    (iblk m c 4 t (ix2 k y) : EReal) = m ((c : Thread nD τ).loc main_arg2) (ix2 k z) := by
  blk_simp [iblk]
  entry_read
  pointwise
  blk_ext [idx t]

/-- What a grid point stores of the gate. -/
theorem point₅ (r : Fin 512) (d : Fin 1024) (z : S33792x1024.Idx) (hz0 : (z 0).val = 512 * (grid0.coords t 0).val + r.val) (hz1 : (z 1).val = d.val) :
    (k0_pay2 (iblk m c 0 t) (iblk m c 1 t) (iblk m c 2 t) (ix2 r d) : EReal)
      = gate (m ((c : Thread nD τ).loc main_arg0)) (m ((c : Thread nD τ).loc main_arg1)) (m ((c : Thread nD τ).loc main_arg2)) z := by
  refine (gate_at _ _ _ r d).trans ?_
  unfold gate proj
  simp only [row_at m c t r _ (z 0) hz0, gain_at m c t]
  exact congrArg (projAt _ _) (funext fun k => weight_at₀ m c t k d _ hz1)

/-- What a grid point stores of the convolution's input. -/
theorem point₆ (r : Fin 512) (d : Fin 1024) (z : S33792x1024.Idx) (hz0 : (z 0).val = 512 * (grid0.coords t 0).val + r.val) (hz1 : (z 1).val = d.val) :
    (k0_pay3 (iblk m c 0 t) (iblk m c 1 t) (iblk m c 3 t) (iblk m c 4 t) (ix2 r d) : EReal)
      = product (m ((c : Thread nD τ).loc main_arg0)) (m ((c : Thread nD τ).loc main_arg1)) (m ((c : Thread nD τ).loc main_arg2)) z := by
  refine (product_at _ _ _ _ r d).trans ?_
  unfold product proj
  simp only [row_at m c t r _ (z 0) hz0, gain_at m c t]
  exact congrArg₂ (· * ·) (congrArg (projAt _ _) (funext fun k => weight_at₁ m c t k d _ (congrArg (1024 + ·) hz1)))
    (congrArg (projAt _ _) (funext fun k => weight_at₂ m c t k d _ (congrArg (2048 + ·) hz1)))

theorem final₅ : (dats m 0 c).arrAt 5 cfg0.N
    = gate (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  idx_vars y
  refine point₅ m c t _ _ _ ?_ ?_
  · blk_simp [idx t]; omega
  · blk_simp [idx t]

theorem final₆ : (dats m 0 c).arrAt 6 cfg0.N
    = product (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  frame_out
  idx_vars y
  refine point₆ m c t _ _ _ ?_ ?_
  · blk_simp [idx t]; omega
  · blk_simp [idx t]

/-- THE CLAIM on the convolution mixer's projections. -/
theorem claim : algebraic_ConvProjIdeal_ConvProjRefIdeal (hConvProjIdeal := Cert.ConvProjIdeal.Gen.facts) (hConvProjRefIdeal := Cert.ConvProjRefIdeal.Gen.facts) := by
  intro m g m' g' hpre hargs
  refine ⟨fun c => gate (m ((c : Thread nD τ).loc main_arg0)) (m ((c : Thread nD τ).loc main_arg1)) (m ((c : Thread nD τ).loc main_arg2)),
    fun c => product (m ((c : Thread nD τ).loc main_arg0)) (m ((c : Thread nD τ).loc main_arg1)) (m ((c : Thread nD τ).loc main_arg2)), ?_, ?_⟩
  · exact (θ_run _ _ _).mono (fun r h c => ⟨(h c).1.trans (final₅ m c), (h c).2.1.trans (final₆ m c), (h c).2.2⟩) (Cert.ConvProjIdeal.Value.run_blocks m g)
  · refine (θ_run _ _ _).mono (fun r h c => ⟨(h c).1.trans ?_, (h c).2.1.trans ?_, (h c).2.2⟩) (Cert.ConvProjRefIdeal.Value.run m' g')
    · rw [(hargs c).1, (hargs c).2.1, (hargs c).2.2]
      exact gate_eq _ _ _ _ _
    · rw [(hargs c).1, (hargs c).2.1, (hargs c).2.2]
      exact product_eq _ _ _ _ _

end Cert.Conv

end
-- ==== Proof.Gate.Taps.lean ====
/- A short convolution's value at one entry, gated: three taps over a row and the two rows before it. -/
module

public import proofs.«01_k».proof.Proof.Layer.Norm

@[expose] public section

noncomputable section

namespace Cert.Layer

open Idealize.ShloMosaic

/-- The gate times the sum of the taps: `x₂` two rows back, `x₁` one row back, `x₀` the row itself. -/
def gatedAt (b : EReal) (w : Fin 3 → EReal) (x₂ x₁ x₀ : EReal) : EReal := b * (w 0 * x₂ + w 1 * x₁ + w 2 * x₀)

/-- A gate that is zero leaves nothing. -/
theorem gatedAt_zero (w : Fin 3 → EReal) (x₂ x₁ x₀ : EReal) : gatedAt 0 w x₂ x₁ x₀ = 0 := zero_mul _

end Cert.Layer

end
-- ==== Proof.Gate.Prompt.lean ====
/- The convolution's gate over the prompt: what the array holds, what the reference computes, and the claim that they agree where
   the padding's rows are zero. -/
module

public import proofs.«01_k».proof.Proof.Gate.Taps
public import proofs.«01_k».proof.Proof.Attn.Pre
public import proofs.«01_k».proof.Proof.Gen.ConvGateIdeal.Value
public import proofs.«01_k».proof.Proof.Gen.ConvGateRefIdeal.Run
public import proofs.«01_k».proof.Defs
public import Idealize.ShloMosaic.Lib.Pipeline.Covers
public import Idealize.ShloMosaic.Lib.Claim

@[expose] public section

set_option maxRecDepth 16384

noncomputable section

namespace Cert.Gated

open Idealize.ShloMosaic Idealize.ShloMosaic.TcCoe Idealize.SL.Sem Cert.Layer
open Idealize.ShloMosaic.Pipeline (Dat)
open Cert.Attn (row pos zero_word of_one)

/-! ## The array -/

section Kernel

open Cert.ConvGateIdeal Cert.ConvGateIdeal.Gen

/-- The entry `k` rows before row `x`; zero before the first row. -/
def back (U : FVec Ideal S33792x1024 .f32) (x : Fin 33792) (k : ℕ) (d : Fin 1024) : EReal :=
  if h : k ≤ x.val then U (ix2 ⟨x.val - k, by omega⟩ d) else 0

/-- The gated convolution of the rows, taken as one sequence. -/
def gated (B : FVec Ideal S33792x1024 .bf16) (U : FVec Ideal S33792x1024 .f32) (W : FVec Ideal S3x1024 .f32) : FVec Ideal S33792x1024 .bf16 := fun z =>
  gatedAt (B z) (fun j => W (ix2 j (z 1))) (back U (z 0) 2 (z 1)) (back U (z 0) 1 (z 1)) (U z)

/-- The first two rows of the gate are zero. -/
def Off (B : FVec Ideal S33792x1024 .bf16) : Prop := ∀ x : Fin 33792, x.val < 2 → ∀ d : Fin 1024, (B (ix2 x d) : EReal) = 0

/-- A block's entry one row back: within the block, or the last row of the halo. -/
theorem block_at (u : Vec Ideal S1024x1024 .f32) (halo : Vec Ideal S8x1024 .f32) (w : Vec Ideal S3x1024 .f32) (b : Vec Ideal S1024x1024 .bf16) (r d : Fin 1024) :
    (k0_pay1 u halo w b (ix2 r d) : EReal)
      = gatedAt (b (ix2 r d)) (fun j => w (ix2 j d))
          (if r.val = 1 then halo (ix2 7 d) else if r.val = 0 then halo (ix2 6 d) else u (ix2 ⟨(r.val + 1024 - 2) % 1024, Nat.mod_lt _ (by decide)⟩ d))
          (if r.val = 0 then halo (ix2 7 d) else u (ix2 ⟨(r.val + 1024 - 1) % 1024, Nat.mod_lt _ (by decide)⟩ d)) (u (ix2 r d)) := by
  unfold gatedAt
  pointwise [k0_pay1]
  simp (disch := word_cmp_side) only [hlo_ix]

theorem idx : ∀ t : Fin cfg0.N,
    win0_0.index t = ![(grid0.coords t 0).val, 0] ∧ win0_1.index t = ![(grid0.coords t 0).val, 0]
      ∧ win0_2.index t = ![128 * (grid0.coords t 0).val - 1, 0] ∧ win0_3.index t = ![0, 0] ∧ win0_4.index t = ![(grid0.coords t 0).val, 0] :=
  (by decide +kernel : ∀ t : Fin grid0.N, _)

variable (m : (ℓ : Loc nD τ sig) → Buf (Elt Ideal) ℓ) (c : Dev nD) (t : Fin cfg0.N)

theorem gate_at (r d : Fin 1024) (x : Fin 33792) (hx : x.val = 1024 * (grid0.coords t 0).val + r.val) :
    (iblk m c 0 t (ix2 r d) : EReal) = m ((c : Thread nD τ).loc main_arg0) (ix2 x d) := by
  blk_ext [iblk, V, idx t]

theorem row_at (r d : Fin 1024) (x : Fin 33792) (hx : x.val = 1024 * (grid0.coords t 0).val + r.val) :
    (iblk m c 1 t (ix2 r d) : EReal) = m ((c : Thread nD τ).loc main_arg1) (ix2 x d) := by
  blk_ext [iblk, V, idx t]

theorem halo_at (k : Fin 8) (d : Fin 1024) (x : Fin 33792) (hx : x.val = 8 * (128 * (grid0.coords t 0).val - 1) + k.val) :
    (iblk m c 2 t (ix2 k d) : EReal) = m ((c : Thread nD τ).loc main_arg1) (ix2 x d) := by
  blk_ext [iblk, V, idx t]

theorem tap_at (k : Fin 3) (d : Fin 1024) : (iblk m c 3 t (ix2 k d) : EReal) = m ((c : Thread nD τ).loc main_arg2) (ix2 k d) := by
  blk_ext [iblk, V, idx t]

/-- What a grid point stores is the gated convolution at the entry its block holds; the first two rows of all are gated off. -/
theorem point (hB : Off (m ((c : Thread nD τ).loc main_arg0)))
    (r d : Fin 1024) (x : Fin 33792) (hx : x.val = 1024 * (grid0.coords t 0).val + r.val) :
    (k0_pay1 (iblk m c 1 t) (iblk m c 2 t) (iblk m c 3 t) (iblk m c 0 t) (ix2 r d) : EReal)
      = gated (m ((c : Thread nD τ).loc main_arg0)) (m ((c : Thread nD τ).loc main_arg1)) (m ((c : Thread nD τ).loc main_arg2)) (ix2 x d) := by
  refine (block_at _ _ _ _ r d).trans ?_
  have hr := r.isLt
  have e : gated (m ((c : Thread nD τ).loc main_arg0)) (m ((c : Thread nD τ).loc main_arg1)) (m ((c : Thread nD τ).loc main_arg2)) (ix2 x d)
      = gatedAt (m ((c : Thread nD τ).loc main_arg0) (ix2 x d)) (fun j => m ((c : Thread nD τ).loc main_arg2) (ix2 j d))
          (back (m ((c : Thread nD τ).loc main_arg1)) x 2 d) (back (m ((c : Thread nD τ).loc main_arg1)) x 1 d) (m ((c : Thread nD τ).loc main_arg1) (ix2 x d)) := rfl
  rw [e, gate_at m c t r d x hx, row_at m c t r d x hx]
  simp only [tap_at m c t]
  by_cases h2 : x.val < 2
  · rw [hB x h2 d, gatedAt_zero, gatedAt_zero]
  have e1 : (if r.val = 0 then (iblk m c 2 t (ix2 7 d) : EReal) else iblk m c 1 t (ix2 ⟨(r.val + 1024 - 1) % 1024, Nat.mod_lt _ (by decide)⟩ d))
      = back (m ((c : Thread nD τ).loc main_arg1)) x 1 d := by
    unfold back
    rw [dif_pos (by omega)]
    split_ifs with h
    · exact halo_at m c t 7 d _ (by show x.val - 1 = 8 * (128 * (grid0.coords t 0).val - 1) + 7; omega)
    · exact row_at m c t _ d _ (by show x.val - 1 = 1024 * (grid0.coords t 0).val + (r.val + 1024 - 1) % 1024; omega)
  have e2 : (if r.val = 1 then (iblk m c 2 t (ix2 7 d) : EReal) else if r.val = 0 then (iblk m c 2 t (ix2 6 d) : EReal)
        else iblk m c 1 t (ix2 ⟨(r.val + 1024 - 2) % 1024, Nat.mod_lt _ (by decide)⟩ d))
      = back (m ((c : Thread nD τ).loc main_arg1)) x 2 d := by
    unfold back
    rw [dif_pos (by omega)]
    split_ifs with h h'
    · exact halo_at m c t 7 d _ (by show x.val - 2 = 8 * (128 * (grid0.coords t 0).val - 1) + 7; omega)
    · exact halo_at m c t 6 d _ (by show x.val - 2 = 8 * (128 * (grid0.coords t 0).val - 1) + 6; omega)
    · exact row_at m c t _ d _ (by show x.val - 2 = 1024 * (grid0.coords t 0).val + (r.val + 1024 - 2) % 1024; omega)
  rw [e1, e2]

theorem final (hB : Off (m ((c : Thread nD τ).loc main_arg0))) :
    (dats m 0 c).arrAt 4 cfg0.N
      = gated (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  idx_vars y
  have ht : (grid0.coords t 0).val < 33 := (grid0.coords t 0).isLt
  refine (point m c t hB y0 y1 ⟨1024 * (grid0.coords t 0).val + y0.val, by have := y0.isLt; omega⟩ rfl).trans ?_
  blk_ext [idx t]

end Kernel

/-! ## The reference -/

section Reference

open Cert.ConvGateRefIdeal Cert.ConvGateRefIdeal.Gen

/-- The rows of the sequences, the padding in front dropped. -/
def real (X : FVec Ideal S33792x1024 .f32) : FVec Ideal S8x4112x1024 .f32 :=
  extractStridedSlice S8x4112x1024 ![0, 112, 0] (shapeCast S8x4224x1024 X shapeCasts_S33792x1024_S8x4224x1024) slices_S8x4224x1024_S8x4112x1024_0_112_0

/-- Two rows of zeros before each sequence. -/
def led (U : FVec Ideal S33792x1024 .f32) : FVec Ideal S8x4114x1024 .f32 :=
  concatenate S8x4114x1024 1 [⟨S8x2x1024, (broadcastInDim S8x2x1024 ![] bcast_S_S8x2x1024 (constant S_ .f32 0x00000000#32))⟩, ⟨S8x4112x1024, real U⟩] concatenates_S8x2x1024_S8x4112x1024_S8x4114x1024_d1

/-- A tap's weights on every row. -/
def tap (W : FVec Ideal S3x1024 .f32) (o : Fin 2 → ℕ) (h : S3x1024.Slices o S1x1024) : FVec Ideal S8x4112x1024 .f32 :=
  broadcastInDim S8x4112x1024 ![0, 1, 2] bcast_S1x1x1024_S8x4112x1024_0_1_2 (broadcastInDim S1x1x1024 ![2] bcast_S1024_S1x1x1024_2 (shapeCast S1024 (extractStridedSlice S1x1024 o W h) shapeCasts_S1x1024_S1024))

/-- The gated convolution of the sequences. -/
def convs (B : FVec Ideal S33792x1024 .bf16) (U : FVec Ideal S33792x1024 .f32) (W : FVec Ideal S3x1024 .f32) : FVec Ideal S8x4112x1024 .f32 :=
  mulf (real (extf .f32 B bitsLt_bf16_f32))
    (addf (addf (mulf (tap W ![0, 0] slices_S3x1024_S1x1024_0_0) (extractStridedSlice S8x4112x1024 ![0, 0, 0] (led U) slices_S8x4114x1024_S8x4112x1024_0_0_0))
        (mulf (tap W ![1, 0] slices_S3x1024_S1x1024_1_0) (extractStridedSlice S8x4112x1024 ![0, 1, 0] (led U) slices_S8x4114x1024_S8x4112x1024_0_1_0)))
      (mulf (tap W ![2, 0] slices_S3x1024_S1x1024_2_0) (extractStridedSlice S8x4112x1024 ![0, 2, 0] (led U) slices_S8x4114x1024_S8x4112x1024_0_2_0)))

/-- Rows again, with zeros as the padding. -/
def padded (v : FVec Ideal S8x4112x1024 .f32) : FVec Ideal S33792x1024 .bf16 :=
  truncf .bf16 (shapeCast S33792x1024 (pad S8x4224x1024 ![0, 112, 0] ![0, 0, 0] ![0, 0, 0] v (sitofp .f32 (constantI S_ 32 0#32)) pads_S8x4112x1024_S8x4224x1024_000_11200_000 h_S_) shapeCasts_S8x4224x1024_S33792x1024) bitsLt_bf16_f32

theorem real_at (X : FVec Ideal S33792x1024 .f32) (b : Fin 8) (p : Fin 4112) (d : Fin 1024) :
    (real X (ix3 b p d) : EReal) = X (ix2 (row b (pos p)) d) := by
  pointwise [real]
  blk_ext [row, pos]

theorem led_at (U : FVec Ideal S33792x1024 .f32) (b : Fin 8) (q : Fin 4114) (d : Fin 1024) :
    (led U (ix3 b q d) : EReal) = if h : q.val < 2 then 0 else real U (ix3 b ⟨q.val - 2, by omega⟩ d) := by
  pointwise [led]

theorem convs_at (B : FVec Ideal S33792x1024 .bf16) (U : FVec Ideal S33792x1024 .f32) (W : FVec Ideal S3x1024 .f32) (b : Fin 8) (p : Fin 4112) (d : Fin 1024) :
    (convs B U W (ix3 b p d) : EReal)
      = gatedAt (real (extf .f32 B bitsLt_bf16_f32) (ix3 b p d)) (fun j => W (ix2 j d)) (led U (ix3 b ⟨p.val, by omega⟩ d)) (led U (ix3 b ⟨1 + p.val, by omega⟩ d)) (led U (ix3 b ⟨2 + p.val, by omega⟩ d)) := by
  unfold gatedAt
  pointwise [convs, tap]

theorem padded_row (v : FVec Ideal S8x4112x1024 .f32) (x : Fin 33792) (d : Fin 1024) (h : 112 ≤ x.val % 4224) :
    (padded v (ix2 x d) : EReal) = v (ix3 ⟨x.val / 4224, by omega⟩ ⟨x.val % 4224 - 112, by omega⟩ d) := by
  pointwise [padded]
  have hx := x.isLt
  have hd := d.isLt
  exact dif_pos ⟨by omega, h, by omega⟩

theorem padded_front (v : FVec Ideal S8x4112x1024 .f32) (x : Fin 33792) (d : Fin 1024) (h : ¬ 112 ≤ x.val % 4224) :
    (padded v (ix2 x d) : EReal) = 0 := by
  pointwise [padded]
  exact (dif_neg fun e => h e.2.1).trans zero_word

/-- A row's entry `k` rows back in its sequence is the array's, where the padding is zero. -/
theorem led_back (U : FVec Ideal S33792x1024 .f32) (hU : ∀ x : Fin 33792, x.val % 4224 < 112 → ∀ d : Fin 1024, (U (ix2 x d) : EReal) = 0)
    (x : Fin 33792) (h : 112 ≤ x.val % 4224) (k : ℕ) (hk : k ≤ 2) (q : Fin 4114) (hq : q.val + k = x.val % 4224 - 112 + 2) (d : Fin 1024) :
    (led U (ix3 ⟨x.val / 4224, by omega⟩ q d) : EReal) = back U x k d := by
  have hx := x.isLt
  have e : back U x k d = U (ix2 ⟨x.val - k, by omega⟩ d) := by unfold back; exact dif_pos (by omega)
  rw [led_at, e]
  split_ifs with h2
  · exact (hU ⟨x.val - k, by omega⟩ (by show (x.val - k) % 4224 < 112; omega) d).symm
  · refine (real_at _ _ _ _).trans (congrArg (fun y => U (ix2 y d)) (Fin.ext ?_))
    show 4224 * (x.val / 4224) + (112 + (q.val - 2)) = x.val - k
    omega

/-- The reference is the gated convolution of the rows, where the padding is zero. -/
theorem reference_gated (B : FVec Ideal S33792x1024 .bf16) (U : FVec Ideal S33792x1024 .f32) (W : FVec Ideal S3x1024 .f32)
    (hB : ∀ x : Fin 33792, x.val % 4224 < 112 → ∀ d : Fin 1024, (B (ix2 x d) : EReal) = 0)
    (hU : ∀ x : Fin 33792, x.val % 4224 < 112 → ∀ d : Fin 1024, (U (ix2 x d) : EReal) = 0) :
    padded (convs B U W) = gated B U W := by
  funext z
  obtain ⟨x, d, rfl⟩ : ∃ x d, z = ix2 x d := ⟨z 0, z 1, funext fun a => by fin_cases a <;> rfl⟩
  have e : gated B U W (ix2 x d) = gatedAt (B (ix2 x d)) (fun j => W (ix2 j d)) (back U x 2 d) (back U x 1 d) (U (ix2 x d)) := rfl
  have e0 : (U (ix2 x d) : EReal) = back U x 0 d := by unfold back; rw [dif_pos (Nat.zero_le _)]; rfl
  by_cases h : 112 ≤ x.val % 4224
  · refine (padded_row _ x d h).trans ((convs_at B U W _ _ d).trans ?_)
    rw [e, e0, led_back U hU x h 2 (by omega) _ (by show x.val % 4224 - 112 + 2 = _; omega),
      led_back U hU x h 1 (by omega) _ (by show 1 + (x.val % 4224 - 112) + 1 = _; omega),
      led_back U hU x h 0 (by omega) _ (by show 2 + (x.val % 4224 - 112) + 0 = _; omega), real_at]
    refine congrArg (fun y => gatedAt y _ _ _ _) (congrArg (fun y => B (ix2 y d)) (Fin.ext ?_))
    show 4224 * (x.val / 4224) + (112 + (x.val % 4224 - 112)) = x.val
    omega
  · refine (padded_front _ x d h).trans ?_
    rw [e, hB x (by omega) d, gatedAt_zero]

end Reference

/-! ## The precondition -/

open Cert.Pre_padding_empty

/-- The side conditions of the precondition's operations. -/
theorem pre_facts : Cert.Pre_padding_empty.Facts := by
  constructor <;> decide

section

variable [Facts] (B : FVec Ideal S33792x1024 .bf16) (U : FVec Ideal S33792x1024 .f32) (W : FVec Ideal S3x1024 .f32)

theorem gate_empty (h : (fn (F := Ideal) B U W).1 = fun _ => 1#1) (x : Fin 33792) (hx : x.val % 4224 < 112) (d : Fin 1024) : (B (ix2 x d) : EReal) = 0 := by
  have e := congrFun h (ix3 ⟨x.val / 4224, by omega⟩ ⟨x.val % 4224, hx⟩ d)
  unfold fn at e
  dsimp only at e
  pointwise at e
  exact of_one e

theorem input_empty (h : (fn (F := Ideal) B U W).2 = fun _ => 1#1) (x : Fin 33792) (hx : x.val % 4224 < 112) (d : Fin 1024) : (U (ix2 x d) : EReal) = 0 := by
  have e := congrFun h (ix3 ⟨x.val / 4224, by omega⟩ ⟨x.val % 4224, hx⟩ d)
  unfold fn at e
  dsimp only at e
  pointwise at e
  exact of_one e

end

/-- THE CLAIM on the convolution's gate over the prompt. -/
theorem claim : algebraic_ConvGateIdeal_ConvGateRefIdeal_pre_padding_empty (hConvGateIdeal := Cert.ConvGateIdeal.Gen.facts)
    (hConvGateRefIdeal := Cert.ConvGateRefIdeal.Gen.facts) (hPre_padding_empty := pre_facts) := by
  intro m g m' g' hpre hargs
  letI := pre_facts
  have hB := fun c => gate_empty _ _ _ (hpre c).1
  have hU := fun c => input_empty _ _ _ (hpre c).2
  refine ⟨fun c => gated (m ((c.tc : Thread Cert.ConvGateIdeal.nD Cert.ConvGateIdeal.τ).loc Cert.ConvGateIdeal.main_arg0)) (m ((c.tc : Thread Cert.ConvGateIdeal.nD Cert.ConvGateIdeal.τ).loc Cert.ConvGateIdeal.main_arg1)) (m ((c.tc : Thread Cert.ConvGateIdeal.nD Cert.ConvGateIdeal.τ).loc Cert.ConvGateIdeal.main_arg2)), ?_, ?_⟩
  · exact (θ_run _ _ _).mono (fun r h c => ⟨(h c).1.trans (final m c fun x hx => hB c x (by omega)), (h c).2⟩) (Cert.ConvGateIdeal.Value.run_blocks m g)
  · refine (θ_run _ _ _).mono (fun r h c => ⟨(h c).1.trans ?_, (h c).2⟩) (Cert.ConvGateRefIdeal.Value.run m' g')
    rw [(hargs c).1, (hargs c).2.1, (hargs c).2.2]
    exact reference_gated _ _ _ (hB c) (hU c)

end Cert.Gated

end
-- ==== Proof.Gate.Sample.lean ====
/- The convolution's gate of the sample, times first: what the array holds, what the reference computes, and the claim that they
   agree. -/
module

public import proofs.«01_k».proof.Proof.Gate.Taps
public import proofs.«01_k».proof.Proof.Gen.ConvGateSampleIdeal.Value
public import proofs.«01_k».proof.Proof.Gen.ConvGateSampleRefIdeal.Run
public import proofs.«01_k».proof.Defs
public import Idealize.ShloMosaic.Lib.Pipeline.Covers
public import Idealize.ShloMosaic.Lib.Pipeline.ValueKit
public import Idealize.ShloMosaic.Lib.Claim

@[expose] public section

set_option maxRecDepth 16384

noncomputable section

namespace Cert.SampleGate

open Idealize.ShloMosaic Idealize.ShloMosaic.TcCoe Idealize.SL.Sem Cert.Layer
open Idealize.ShloMosaic.Pipeline (Dat)

section Kernel

open Cert.ConvGateSampleIdeal Cert.ConvGateSampleIdeal.Gen

/-! ## The block -/

/-- The row at time `k` of the two rows of state and the four new rows after them. -/
def time (s : Fin 2 → EReal) (u : Fin 4 → EReal) (k : ℕ) : EReal :=
  if h : k < 2 then s ⟨k, h⟩ else if h' : k - 2 < 4 then u ⟨k - 2, h'⟩ else 0

/-- The gated convolution, times first. -/
def block (b : Vec Ideal S4x32x1024 .bf16) (u : Vec Ideal S4x32x1024 .f32) (s : Vec Ideal S2x32x1024 .f32) (w : Vec Ideal S3x1024 .f32) : Vec Ideal S4x32x1024 .bf16 := fun z =>
  gatedAt (b z) (fun j => w (ix2 j (z 2)))
    (time (fun k => s (ix3 k (z 1) (z 2))) (fun k => u (ix3 k (z 1) (z 2))) (z 0).val)
    (time (fun k => s (ix3 k (z 1) (z 2))) (fun k => u (ix3 k (z 1) (z 2))) ((z 0).val + 1))
    (time (fun k => s (ix3 k (z 1) (z 2))) (fun k => u (ix3 k (z 1) (z 2))) ((z 0).val + 2))

theorem block_at (b : Vec Ideal S4x32x1024 .bf16) (u : Vec Ideal S4x32x1024 .f32) (s : Vec Ideal S2x32x1024 .f32) (w : Vec Ideal S3x1024 .f32) (k : Fin 4) (n : Fin 32) (d : Fin 1024) :
    (block b u s w (ix3 k n d) : EReal)
      = gatedAt (b (ix3 k n d)) (fun j => w (ix2 j d)) (time (fun k => s (ix3 k n d)) (fun k => u (ix3 k n d)) k.val)
          (time (fun k => s (ix3 k n d)) (fun k => u (ix3 k n d)) (k.val + 1)) (time (fun k => s (ix3 k n d)) (fun k => u (ix3 k n d)) (k.val + 2)) := rfl

theorem out_eq (x0 : Vec Ideal S4x32x1024 .bf16) (x1 : Vec Ideal S4x32x1024 .f32) (x2 : Vec Ideal S2x32x1024 .f32) (x3 : Vec Ideal S3x1024 .f32) :
    out0_4 x0 x1 x2 x3 = block x0 x1 x2 x3 := by
  unfold_out out0_4
  refine funext fun y => View.canon_apply_of_pieces (block x0 x1 x2 x3) _ ?_ y (cover0_4 _ _ _ _ y)
  refine List.forall_mem_cons.mpr ⟨fun y => ?_, List.forall_mem_cons.mpr ⟨fun y => ?_, List.forall_mem_cons.mpr ⟨fun y => ?_,
    List.forall_mem_cons.mpr ⟨fun y => ?_, fun p hp => absurd hp List.not_mem_nil⟩⟩⟩⟩
  all_goals dsimp only; idx_vars y
  · refine Eq.trans ?_ ((block_at x0 x1 x2 x3 3 y1 y2).symm.trans (congrArg (block x0 x1 x2 x3) ?_))
    · unfold gatedAt time
      pointwise [k0_pay1, k0_pay6, k0_pay11, k0_pay12, k0_pay4, k0_pay5]
      blk_ext []
    · blk_ext []
  · refine Eq.trans ?_ ((block_at x0 x1 x2 x3 2 y1 y2).symm.trans (congrArg (block x0 x1 x2 x3) ?_))
    · unfold gatedAt time
      pointwise [k0_pay10, k0_pay3, k0_pay4, k0_pay5]
      blk_ext []
    · blk_ext []
  · refine Eq.trans ?_ ((block_at x0 x1 x2 x3 1 y1 y2).symm.trans (congrArg (block x0 x1 x2 x3) ?_))
    · unfold gatedAt time
      pointwise [k0_pay9, k0_pay2, k0_pay3, k0_pay4, k0_pay8]
      blk_ext []
    · blk_ext []
  · refine Eq.trans ?_ ((block_at x0 x1 x2 x3 0 y1 y2).symm.trans (congrArg (block x0 x1 x2 x3) ?_))
    · unfold gatedAt time
      pointwise [k0_pay7, k0_pay2, k0_pay3]
      blk_ext []
    · blk_ext []

/-! ## The array -/

/-- A sequence's rows of an array of all rows. -/
def row (n : Fin 32) (k : Fin 4) : Fin 128 := ⟨4 * n.val + k.val, by have := n.isLt; have := k.isLt; omega⟩

/-- The gated convolution of the sequences' rows, times first. -/
def gated (B : FVec Ideal S128x1024 .bf16) (U : FVec Ideal S128x1024 .f32) (S : FVec Ideal S32x2x1024 .f32) (W : FVec Ideal S3x1024 .f32) : FVec Ideal S4x32x1024 .bf16 :=
  block (fun z => B (ix2 (row (z 1) (z 0)) (z 2))) (fun z => U (ix2 (row (z 1) (z 0)) (z 2))) (fun z => S (ix3 (z 1) (z 0) (z 2))) W

theorem gated_at (B : FVec Ideal S128x1024 .bf16) (U : FVec Ideal S128x1024 .f32) (S : FVec Ideal S32x2x1024 .f32) (W : FVec Ideal S3x1024 .f32) (k : Fin 4) (n : Fin 32) (d : Fin 1024) :
    (gated B U S W (ix3 k n d) : EReal)
      = gatedAt (B (ix2 (row n k) d)) (fun j => W (ix2 j d)) (time (fun k => S (ix3 n k d)) (fun k => U (ix2 (row n k) d)) k.val)
          (time (fun k => S (ix3 n k d)) (fun k => U (ix2 (row n k) d)) (k.val + 1)) (time (fun k => S (ix3 n k d)) (fun k => U (ix2 (row n k) d)) (k.val + 2)) := rfl

theorem idx : ∀ t : Fin cfg0.N, win0_0.index t = ![0, 0, 0] ∧ win0_1.index t = ![0, 0, 0] ∧ win0_2.index t = ![0, 0, 0] ∧ win0_3.index t = ![0, 0] ∧ win0_4.index t = ![0, 0, 0] :=
  (by decide +kernel : ∀ t : Fin grid0.N, _)

variable (m : (ℓ : Loc nD τ sig) → Buf (Elt Ideal) ℓ) (c : Dev nD) (t : Fin cfg0.N)

theorem gate_at (k : Fin 4) (n : Fin 32) (d : Fin 1024) : (iblk m c 0 t (ix3 k n d) : EReal) = m ((c : Thread nD τ).loc main_arg0) (ix2 (row n k) d) := by
  blk_simp [iblk]
  entry_read
  pointwise
  blk_ext [idx t, row]

theorem row_at (k : Fin 4) (n : Fin 32) (d : Fin 1024) : (iblk m c 1 t (ix3 k n d) : EReal) = m ((c : Thread nD τ).loc main_arg1) (ix2 (row n k) d) := by
  blk_simp [iblk]
  entry_read
  pointwise
  blk_ext [idx t, row]

theorem state_at (k : Fin 2) (n : Fin 32) (d : Fin 1024) : (iblk m c 2 t (ix3 k n d) : EReal) = m ((c : Thread nD τ).loc main_arg2) (ix3 n k d) := by
  blk_simp [iblk]
  entry_read
  pointwise
  blk_ext [idx t]

theorem tap_at (k : Fin 3) (d : Fin 1024) : (iblk m c 3 t (ix2 k d) : EReal) = m ((c : Thread nD τ).loc main_arg3) (ix2 k d) := by
  blk_ext [iblk, V, idx t]

theorem final : (dats m 0 c).arrAt 4 cfg0.N
    = gated (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, out_eq]
  idx_vars y
  refine (block_at _ _ _ _ y0 y1 y2).trans ?_
  simp only [gate_at m c t, row_at m c t, state_at m c t, tap_at m c t]
  refine (gated_at (m ((c : Thread nD τ).loc main_arg0)) (m ((c : Thread nD τ).loc main_arg1)) (m ((c : Thread nD τ).loc main_arg2)) (m ((c : Thread nD τ).loc main_arg3)) y0 y1 y2).symm.trans ?_
  blk_ext [idx t]

end Kernel

/-! ## The reference -/

section Reference

open Cert.ConvGateSampleRefIdeal Cert.ConvGateSampleRefIdeal.Gen

/-- The rows sequence by sequence. -/
def rows (X : FVec Ideal S128x1024 .f32) : FVec Ideal S32x4x1024 .f32 := shapeCast S32x4x1024 X shapeCasts_S128x1024_S32x4x1024

/-- The state before each sequence. -/
def led (U : FVec Ideal S128x1024 .f32) (S : FVec Ideal S32x2x1024 .f32) : FVec Ideal S32x6x1024 .f32 :=
  concatenate S32x6x1024 1 [⟨S32x2x1024, S⟩, ⟨S32x4x1024, rows U⟩] concatenates_S32x2x1024_S32x4x1024_S32x6x1024_d1

/-- A tap's weights on every row. -/
def tap (W : FVec Ideal S3x1024 .f32) (o : Fin 2 → ℕ) (h : S3x1024.Slices o S1x1024) : FVec Ideal S32x4x1024 .f32 :=
  broadcastInDim S32x4x1024 ![0, 1, 2] bcast_S1x1x1024_S32x4x1024_0_1_2 (broadcastInDim S1x1x1024 ![2] bcast_S1024_S1x1x1024_2 (shapeCast S1024 (extractStridedSlice S1x1024 o W h) shapeCasts_S1x1024_S1024))

/-- The gated convolution of the sequences, times first. -/
def convs (B : FVec Ideal S128x1024 .bf16) (U : FVec Ideal S128x1024 .f32) (S : FVec Ideal S32x2x1024 .f32) (W : FVec Ideal S3x1024 .f32) : FVec Ideal S4x32x1024 .bf16 :=
  transpose S4x32x1024 [1, 0, 2] (truncf .bf16 (mulf (rows (extf .f32 B bitsLt_bf16_f32))
    (addf (addf (mulf (tap W ![0, 0] slices_S3x1024_S1x1024_0_0) (extractStridedSlice S32x4x1024 ![0, 0, 0] (led U S) slices_S32x6x1024_S32x4x1024_0_0_0))
        (mulf (tap W ![1, 0] slices_S3x1024_S1x1024_1_0) (extractStridedSlice S32x4x1024 ![0, 1, 0] (led U S) slices_S32x6x1024_S32x4x1024_0_1_0)))
      (mulf (tap W ![2, 0] slices_S3x1024_S1x1024_2_0) (extractStridedSlice S32x4x1024 ![0, 2, 0] (led U S) slices_S32x6x1024_S32x4x1024_0_2_0)))) bitsLt_bf16_f32) transposes_S32x4x1024_S4x32x1024_1_0_2

theorem rows_at (X : FVec Ideal S128x1024 .f32) (n : Fin 32) (k : Fin 4) (d : Fin 1024) : (rows X (ix3 n k d) : EReal) = X (ix2 (row n k) d) := by
  pointwise [rows]
  blk_ext [row]

theorem led_at (U : FVec Ideal S128x1024 .f32) (S : FVec Ideal S32x2x1024 .f32) (n : Fin 32) (q : Fin 6) (d : Fin 1024) :
    (led U S (ix3 n q d) : EReal) = time (fun k => S (ix3 n k d)) (fun k => U (ix2 (row n k) d)) q.val := by
  unfold time
  simp only [← rows_at]
  have hq := q.isLt
  pointwise [led]
  split_ifs with h h'
  · rfl
  · rw [dif_pos (show q.val - 2 < 4 by omega)]
  · omega

theorem convs_at (B : FVec Ideal S128x1024 .bf16) (U : FVec Ideal S128x1024 .f32) (S : FVec Ideal S32x2x1024 .f32) (W : FVec Ideal S3x1024 .f32) (k : Fin 4) (n : Fin 32) (d : Fin 1024) :
    (convs B U S W (ix3 k n d) : EReal)
      = gatedAt (rows (extf .f32 B bitsLt_bf16_f32) (ix3 n k d)) (fun j => W (ix2 j d)) (led U S (ix3 n ⟨k.val, by omega⟩ d)) (led U S (ix3 n ⟨1 + k.val, by omega⟩ d)) (led U S (ix3 n ⟨2 + k.val, by omega⟩ d)) := by
  unfold gatedAt
  pointwise [convs, tap]

theorem reference_gated (B : FVec Ideal S128x1024 .bf16) (U : FVec Ideal S128x1024 .f32) (S : FVec Ideal S32x2x1024 .f32) (W : FVec Ideal S3x1024 .f32) :
    convs B U S W = gated B U S W := by
  funext z
  obtain ⟨k, n, d, rfl⟩ : ∃ k n d, z = ix3 k n d := ⟨z 0, z 1, z 2, funext fun a => by fin_cases a <;> rfl⟩
  refine (convs_at B U S W k n d).trans ?_
  rw [rows_at, led_at, led_at, led_at]
  refine Eq.trans ?_ (gated_at B U S W k n d).symm
  simp only [Nat.add_comm k.val]
  rfl

end Reference

/-- THE CLAIM on the convolution's gate of the sample. -/
theorem claim : algebraic_ConvGateSampleIdeal_ConvGateSampleRefIdeal (hConvGateSampleIdeal := Cert.ConvGateSampleIdeal.Gen.facts)
    (hConvGateSampleRefIdeal := Cert.ConvGateSampleRefIdeal.Gen.facts) := by
  intro m g m' g' hpre hargs
  refine ⟨fun c => gated (m ((c.tc : Thread Cert.ConvGateSampleIdeal.nD Cert.ConvGateSampleIdeal.τ).loc Cert.ConvGateSampleIdeal.main_arg0)) (m ((c.tc : Thread Cert.ConvGateSampleIdeal.nD Cert.ConvGateSampleIdeal.τ).loc Cert.ConvGateSampleIdeal.main_arg1)) (m ((c.tc : Thread Cert.ConvGateSampleIdeal.nD Cert.ConvGateSampleIdeal.τ).loc Cert.ConvGateSampleIdeal.main_arg2)) (m ((c.tc : Thread Cert.ConvGateSampleIdeal.nD Cert.ConvGateSampleIdeal.τ).loc Cert.ConvGateSampleIdeal.main_arg3)), ?_, ?_⟩
  · exact (θ_run _ _ _).mono (fun r h c => ⟨(h c).1.trans (final m c), (h c).2⟩) (Cert.ConvGateSampleIdeal.Value.run_blocks m g)
  · refine (θ_run _ _ _).mono (fun r h c => ⟨(h c).1.trans ?_, (h c).2⟩) (Cert.ConvGateSampleRefIdeal.Value.run m' g')
    rw [(hargs c).1, (hargs c).2.1, (hargs c).2.2.1, (hargs c).2.2.2]
    exact reference_gated _ _ _ _

end Cert.SampleGate

end
-- ==== Proof.Sample.Conv.lean ====
/- The convolution mixer's projections of the sample's rows, in one block: the arrays are those of the prompt's call, at 128
   rows. -/
module

public import proofs.«01_k».proof.Proof.Layer.ConvArrays
public import proofs.«01_k».proof.Proof.Gen.ConvProjSampleIdeal.Value
public import proofs.«01_k».proof.Proof.Gen.ConvProjSampleRefIdeal.Run
public import proofs.«01_k».proof.Defs
public import Idealize.ShloMosaic.Lib.Pipeline.Covers
public import Idealize.ShloMosaic.Lib.Claim

@[expose] public section

set_option maxRecDepth 16384

noncomputable section

namespace Cert.SampleConv

open Idealize.ShloMosaic Idealize.ShloMosaic.TcCoe Idealize.SL.Sem Cert.ConvProjSampleIdeal Cert.ConvProjSampleIdeal.Gen Cert.Layer
open Cert.Conv
open Idealize.ShloMosaic.Pipeline (Dat)

/-! ## A block -/

theorem norm_at (x : Vec Ideal S128x1024 .f32) (g : Vec Ideal S1x1024 .f32) (r : Fin 128) (k : Fin 1024) :
    (k0_pay1 x g (ix2 r k) : EReal) = normAt (fun j => x (ix2 r j)) (fun j => g (ix2 0 j)) k := by
  pointwise [k0_pay1, normAt]

theorem gate_at (x : Vec Ideal S128x1024 .f32) (g : Vec Ideal S1x1024 .f32) (w : Vec Ideal S1024x1024 .bf16) (r : Fin 128) (y : Fin 1024) :
    (k0_pay2 x g w (ix2 r y) : EReal) = projAt (fun j => x (ix2 r j)) (fun j => g (ix2 0 j)) (fun k => w (ix2 k y)) := by
  unfold projAt
  simp only [← norm_at]
  pointwise [k0_pay2]

theorem product_at (x : Vec Ideal S128x1024 .f32) (g : Vec Ideal S1x1024 .f32) (w w' : Vec Ideal S1024x1024 .bf16) (r : Fin 128) (y : Fin 1024) :
    (k0_pay3 x g w w' (ix2 r y) : EReal)
      = projAt (fun j => x (ix2 r j)) (fun j => g (ix2 0 j)) (fun k => w (ix2 k y)) * projAt (fun j => x (ix2 r j)) (fun j => g (ix2 0 j)) (fun k => w' (ix2 k y)) := by
  unfold projAt
  simp only [← norm_at]
  pointwise [k0_pay3]

/-! ## The arrays -/

theorem idx : ∀ t : Fin cfg0.N,
    win0_0.index t = ![(grid0.coords t 0).val, 0] ∧ win0_1.index t = ![0, 0] ∧ win0_2.index t = ![0, 0] ∧ win0_3.index t = ![0, 0]
      ∧ win0_4.index t = ![0, 0] ∧ win0_5.index t = ![(grid0.coords t 0).val, 0] ∧ win0_6.index t = ![(grid0.coords t 0).val, 0] :=
  (by decide +kernel : ∀ t : Fin grid0.N, _)

variable (m : (ℓ : Loc nD τ sig) → Buf (Elt Ideal) ℓ) (c : Dev nD) (t : Fin cfg0.N)

theorem row_at (r : Fin 128) (j : Fin 1024) (x : Fin 128) (hx : x.val = 128 * (grid0.coords t 0).val + r.val) :
    (iblk m c 0 t (ix2 r j) : EReal) = m ((c : Thread nD τ).loc main_arg0) (ix2 x j) := by
  blk_ext [iblk, V, idx t]

theorem gain_at (j : Fin 1024) : (iblk m c 1 t (ix2 0 j) : EReal) = m ((c : Thread nD τ).loc main_arg1) (ix1 j) := by
  blk_simp [iblk]
  entry_read
  pointwise
  blk_ext [idx t]

theorem weight_at₀ (k y : Fin 1024) (z : Fin 3072) (hz : z.val = y.val) :
    (iblk m c 2 t (ix2 k y) : EReal) = m ((c : Thread nD τ).loc main_arg2) (ix2 k z) := by
  blk_simp [iblk]
  entry_read
  pointwise
  blk_ext [idx t]

theorem weight_at₁ (k y : Fin 1024) (z : Fin 3072) (hz : z.val = 1024 + y.val) :
    (iblk m c 3 t (ix2 k y) : EReal) = m ((c : Thread nD τ).loc main_arg2) (ix2 k z) := by
  blk_simp [iblk]
  entry_read
  pointwise
  blk_ext [idx t]

theorem weight_at₂ (k y : Fin 1024) (z : Fin 3072) (hz : z.val = 2048 + y.val) :
    (iblk m c 4 t (ix2 k y) : EReal) = m ((c : Thread nD τ).loc main_arg2) (ix2 k z) := by
  blk_simp [iblk]
  entry_read
  pointwise
  blk_ext [idx t]

/-- What a grid point stores of the gate. -/
theorem point₅ (r : Fin 128) (d : Fin 1024) (z : S128x1024.Idx) (hz0 : (z 0).val = 128 * (grid0.coords t 0).val + r.val) (hz1 : (z 1).val = d.val) :
    (k0_pay2 (iblk m c 0 t) (iblk m c 1 t) (iblk m c 2 t) (ix2 r d) : EReal)
      = gate (m ((c : Thread nD τ).loc main_arg0)) (m ((c : Thread nD τ).loc main_arg1)) (m ((c : Thread nD τ).loc main_arg2)) z := by
  refine (gate_at _ _ _ r d).trans ?_
  unfold gate proj
  simp only [row_at m c t r _ (z 0) hz0, gain_at m c t]
  exact congrArg (projAt _ _) (funext fun k => weight_at₀ m c t k d _ hz1)

/-- What a grid point stores of the convolution's input. -/
theorem point₆ (r : Fin 128) (d : Fin 1024) (z : S128x1024.Idx) (hz0 : (z 0).val = 128 * (grid0.coords t 0).val + r.val) (hz1 : (z 1).val = d.val) :
    (k0_pay3 (iblk m c 0 t) (iblk m c 1 t) (iblk m c 3 t) (iblk m c 4 t) (ix2 r d) : EReal)
      = product (m ((c : Thread nD τ).loc main_arg0)) (m ((c : Thread nD τ).loc main_arg1)) (m ((c : Thread nD τ).loc main_arg2)) z := by
  refine (product_at _ _ _ _ r d).trans ?_
  unfold product proj
  simp only [row_at m c t r _ (z 0) hz0, gain_at m c t]
  exact congrArg₂ (· * ·) (congrArg (projAt _ _) (funext fun k => weight_at₁ m c t k d _ (congrArg (1024 + ·) hz1)))
    (congrArg (projAt _ _) (funext fun k => weight_at₂ m c t k d _ (congrArg (2048 + ·) hz1)))

theorem final₅ : (dats m 0 c).arrAt 5 cfg0.N
    = gate (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  idx_vars y
  refine point₅ m c t _ _ _ ?_ ?_
  · blk_simp [idx t]; omega
  · blk_simp [idx t]

theorem final₆ : (dats m 0 c).arrAt 6 cfg0.N
    = product (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  frame_out
  idx_vars y
  refine point₆ m c t _ _ _ ?_ ?_
  · blk_simp [idx t]; omega
  · blk_simp [idx t]

/-- THE CLAIM on the convolution mixer's projections. -/
theorem claim : algebraic_ConvProjSampleIdeal_ConvProjSampleRefIdeal (hConvProjSampleIdeal := Cert.ConvProjSampleIdeal.Gen.facts) (hConvProjSampleRefIdeal := Cert.ConvProjSampleRefIdeal.Gen.facts) := by
  intro m g m' g' hpre hargs
  refine ⟨fun c => gate (m ((c : Thread nD τ).loc main_arg0)) (m ((c : Thread nD τ).loc main_arg1)) (m ((c : Thread nD τ).loc main_arg2)),
    fun c => product (m ((c : Thread nD τ).loc main_arg0)) (m ((c : Thread nD τ).loc main_arg1)) (m ((c : Thread nD τ).loc main_arg2)), ?_, ?_⟩
  · exact (θ_run _ _ _).mono (fun r h c => ⟨(h c).1.trans (final₅ m c), (h c).2.1.trans (final₆ m c), (h c).2.2⟩) (Cert.ConvProjSampleIdeal.Value.run_blocks m g)
  · refine (θ_run _ _ _).mono (fun r h c => ⟨(h c).1.trans ?_, (h c).2.1.trans ?_, (h c).2.2⟩) (Cert.ConvProjSampleRefIdeal.Value.run m' g')
    · rw [(hargs c).1, (hargs c).2.1, (hargs c).2.2]
      exact gate_eq _ _ _ _ _
    · rw [(hargs c).1, (hargs c).2.1, (hargs c).2.2]
      exact product_eq _ _ _ _ _

end Cert.SampleConv

end
-- ==== Proof.Sample.Proj.lean ====
/- The attention's projections and log forget gates of the sample's rows, in one block: the arrays are those of the prompt's
   call, at 128 rows. -/
module

public import proofs.«01_k».proof.Proof.Layer.ProjArrays
public import proofs.«01_k».proof.Proof.Gen.AttnProjSampleIdeal.Value
public import proofs.«01_k».proof.Proof.Gen.AttnProjSampleRefIdeal.Run
public import proofs.«01_k».proof.Defs
public import Idealize.ShloMosaic.Lib.Pipeline.Covers
public import Idealize.ShloMosaic.Lib.Claim

@[expose] public section

set_option maxRecDepth 16384

noncomputable section

namespace Cert.SampleProj

open Idealize.ShloMosaic Idealize.ShloMosaic.TcCoe Idealize.SL.Sem Cert.AttnProjSampleIdeal Cert.AttnProjSampleIdeal.Gen Cert.Layer
open Cert.Proj
open Idealize.ShloMosaic.Pipeline (Dat)

/-! ## A block -/

theorem norm_at (x : Vec Ideal S128x1024 .f32) (g : Vec Ideal S1x1024 .f32) (r : Fin 128) (k : Fin 1024) :
    (k0_pay1 x g (ix2 r k) : EReal) = normAt (fun j => x (ix2 r j)) (fun j => g (ix2 0 j)) k := by
  pointwise [k0_pay1, normAt]

/-- A projection, as a block stores it: the keys and the values. -/
theorem plain_at (x : Vec Ideal S128x1024 .f32) (g : Vec Ideal S1x1024 .f32) (w : Vec Ideal S1024x1024 .bf16) (r : Fin 128) (y : Fin 1024) :
    (k0_pay3 x g w (ix2 r y) : EReal) = projAt (fun j => x (ix2 r j)) (fun j => g (ix2 0 j)) (fun k => w (ix2 k y)) := by
  unfold projAt
  simp only [← norm_at]
  pointwise [k0_pay3]

/-- The scaled projection: the queries. -/
theorem scaled_at (x : Vec Ideal S128x1024 .f32) (g : Vec Ideal S1x1024 .f32) (w : Vec Ideal S1024x1024 .bf16) (r : Fin 128) (y : Fin 1024) :
    (k0_pay2 x g w (ix2 r y) : EReal)
      = projAt (fun j => x (ix2 r j)) (fun j => g (ix2 0 j)) (fun k => w (ix2 k y)) * Ideal.ofBits .f32 0x3E000000#32 := by
  unfold projAt
  simp only [← norm_at]
  pointwise [k0_pay2]

/-- The log forget gates, rows first. -/
theorem gate_at (x : Vec Ideal S128x1024 .f32) (g : Vec Ideal S1x1024 .f32) (w : Vec Ideal S1024x128 .bf16) (b : Vec Ideal S1x16 .f32) (r : Fin 128) (h : Fin 16) :
    (k0_pay7 (k0_pay1 x g) w b (ix2 r h) : EReal)
      = logSigAt (projAt (fun j => x (ix2 r j)) (fun j => g (ix2 0 j)) (fun k => w (ix2 k ⟨h.val, by omega⟩)) + b (ix2 0 h)) := by
  unfold projAt logSigAt
  simp only [← norm_at]
  pointwise [k0_pay7]
  rfl

/-- The log forget gates, heads first. -/
theorem gateT_at (x : Vec Ideal S128x1024 .f32) (g : Vec Ideal S1x1024 .f32) (w : Vec Ideal S16x1024 .bf16) (b : Vec Ideal S16x1 .f32) (h : Fin 16) (r : Fin 128) :
    (k0_pay8 (k0_pay1 x g) w b (ix2 h r) : EReal)
      = logSigAt (projAt (fun j => x (ix2 r j)) (fun j => g (ix2 0 j)) (fun k => w (ix2 h k)) + b (ix2 h 0)) := by
  unfold projAt logSigAt
  simp only [← norm_at, mul_comm _ (w (ix2 h _))]
  pointwise [k0_pay8]
  rfl

/-! What the body leaves in each output block. -/

theorem zero2 : (![0, 0] : Fin 2 → Nat) = fun _ => 0 := funext fun a => by fin_cases a <;> rfl

theorem out11_eq (x0 : Vec Ideal S128x1024 .f32) (x1 : Vec Ideal S1x1024 .f32) (x2 x3 x4 : Vec Ideal S1024x1024 .bf16) (x5 : Vec Ideal S1024x128 .bf16) (x6 : Vec Ideal S16x1024 .bf16) (x7 : Vec Ideal S1x16 .f32) (x8 : Vec Ideal S16x1 .f32) :
    out0_11 x0 x1 x2 x3 x4 x5 x6 x7 x8 = k0_pay5 x0 x1 x4 := by
  unfold out0_11 k0_pay10
  rw [View.canon_unit_zero (S := S128x1024) zero2]
  simp only [View.ld_unit_zero (S := S128x1024) zero2, View.ld_unit_zero (S := S1x1024) zero2, View.ld_unit_zero (S := S1024x1024) zero2]

theorem out13_eq (x0 : Vec Ideal S128x1024 .f32) (x1 : Vec Ideal S1x1024 .f32) (x2 x3 x4 : Vec Ideal S1024x1024 .bf16) (x5 : Vec Ideal S1024x128 .bf16) (x6 : Vec Ideal S16x1024 .bf16) (x7 : Vec Ideal S1x16 .f32) (x8 : Vec Ideal S16x1 .f32) :
    out0_13 x0 x1 x2 x3 x4 x5 x6 x7 x8 = k0_pay6 (k0_pay5 x0 x1 x4) := by
  unfold out0_13 k0_pay10
  rw [View.canon_unit_zero (S := S128x1024) zero2]
  simp only [View.ld_unit_zero (S := S128x1024) zero2, View.ld_unit_zero (S := S1x1024) zero2, View.ld_unit_zero (S := S1024x1024) zero2]

theorem out14_eq (x0 : Vec Ideal S128x1024 .f32) (x1 : Vec Ideal S1x1024 .f32) (x2 x3 x4 : Vec Ideal S1024x1024 .bf16) (x5 : Vec Ideal S1024x128 .bf16) (x6 : Vec Ideal S16x1024 .bf16) (x7 : Vec Ideal S1x16 .f32) (x8 : Vec Ideal S16x1 .f32) :
    out0_14 x0 x1 x2 x3 x4 x5 x6 x7 x8 = k0_pay7 (k0_pay1 x0 x1) x5 x7 := by
  unfold out0_14 k0_pay9
  rw [View.canon_unit_zero (S := S128x16) zero2]
  simp only [View.ld_unit_zero (S := S128x1024) zero2, View.ld_unit_zero (S := S1x1024) zero2, View.ld_unit_zero (S := S1024x128) zero2, View.ld_unit_zero (S := S1x16) zero2]

theorem out15_eq (x0 : Vec Ideal S128x1024 .f32) (x1 : Vec Ideal S1x1024 .f32) (x2 x3 x4 : Vec Ideal S1024x1024 .bf16) (x5 : Vec Ideal S1024x128 .bf16) (x6 : Vec Ideal S16x1024 .bf16) (x7 : Vec Ideal S1x16 .f32) (x8 : Vec Ideal S16x1 .f32) :
    out0_15 x0 x1 x2 x3 x4 x5 x6 x7 x8 = k0_pay8 (k0_pay1 x0 x1) x6 x8 := by
  unfold out0_15 k0_pay9
  rw [View.canon_unit_zero (S := S16x128) zero2]
  simp only [View.ld_unit_zero (S := S128x1024) zero2, View.ld_unit_zero (S := S1x1024) zero2, View.ld_unit_zero (S := S16x1024) zero2, View.ld_unit_zero (S := S16x1) zero2]

/-! ## The arrays -/

theorem idx : ∀ t : Fin cfg0.N,
    win0_0.index t = ![(grid0.coords t 0).val, 0] ∧ win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0] ∧ win0_8.index t = ![0, 0]
      ∧ win0_9.index t = ![(grid0.coords t 0).val, 0] ∧ win0_10.index t = ![(grid0.coords t 0).val, 0] ∧ win0_11.index t = ![(grid0.coords t 0).val, 0]
      ∧ win0_12.index t = ![(grid0.coords t 0).val, 0] ∧ win0_13.index t = ![(grid0.coords t 0).val, 0] ∧ win0_14.index t = ![(grid0.coords t 0).val, 0]
      ∧ win0_15.index t = ![0, (grid0.coords t 0).val] :=
  (by decide +kernel : ∀ t : Fin grid0.N, _)

variable (m : (ℓ : Loc nD τ sig) → Buf (Elt Ideal) ℓ) (c : Dev nD) (t : Fin cfg0.N)

theorem row_at (r : Fin 128) (j : Fin 1024) (x : Fin 128) (hx : x.val = 128 * (grid0.coords t 0).val + r.val) :
    (iblk m c 0 t (ix2 r j) : EReal) = m ((c : Thread nD τ).loc main_arg0) (ix2 x j) := by
  blk_ext [iblk, V, idx t]

theorem gain_at (j : Fin 1024) : (iblk m c 1 t (ix2 0 j) : EReal) = m ((c : Thread nD τ).loc main_arg1) (ix1 j) := by
  blk_simp [iblk]
  simp only [V, hostOps0, hostOps0_1, hostOps0_2, List.flatten_cons, List.flatten_nil, List.append_nil, List.cons_append, List.nil_append]
  entry_read
  pointwise
  blk_ext [idx t]

theorem weight_at₀ (k y : Fin 1024) (z : Fin 3088) (hz : z.val = 0 + y.val) : (iblk m c 2 t (ix2 k y) : EReal) = m ((c : Thread nD τ).loc main_arg2) (ix2 k z) := by
  blk_simp [iblk]
  simp only [V, hostOps0, hostOps0_1, hostOps0_2, List.flatten_cons, List.flatten_nil, List.append_nil, List.cons_append, List.nil_append]
  entry_read
  pointwise
  blk_ext [idx t]

theorem weight_at₁ (k y : Fin 1024) (z : Fin 3088) (hz : z.val = 1024 + y.val) : (iblk m c 3 t (ix2 k y) : EReal) = m ((c : Thread nD τ).loc main_arg2) (ix2 k z) := by
  blk_simp [iblk]
  simp only [V, hostOps0, hostOps0_1, hostOps0_2, List.flatten_cons, List.flatten_nil, List.append_nil, List.cons_append, List.nil_append]
  entry_read
  pointwise
  blk_ext [idx t]

theorem weight_at₂ (k y : Fin 1024) (z : Fin 3088) (hz : z.val = 2048 + y.val) : (iblk m c 4 t (ix2 k y) : EReal) = m ((c : Thread nD τ).loc main_arg2) (ix2 k z) := by
  blk_simp [iblk]
  simp only [V, hostOps0, hostOps0_1, hostOps0_2, List.flatten_cons, List.flatten_nil, List.append_nil, List.cons_append, List.nil_append]
  entry_read
  pointwise
  blk_ext [idx t]

theorem weight_at₃ (k : Fin 1024) (h : Fin 128) (z : Fin 3088) (hh : h.val < 16) (hz : z.val = 3072 + h.val) : (iblk m c 5 t (ix2 k h) : EReal) = m ((c : Thread nD τ).loc main_arg2) (ix2 k z) := by
  blk_simp [iblk]
  simp only [V, hostOps0, hostOps0_1, hostOps0_2, List.flatten_cons, List.flatten_nil, List.append_nil, List.cons_append, List.nil_append]
  entry_read
  simp only [StableHlo.TRef.toBuf, StableHlo.TRef.ofBuf, cast_eq]
  pointwise
  have e : (((View.whole main_v8).slice (win0_5.rect t)).emb (ix2 k h) 1).val = h.val := by
    blk_simp [idx t]
  refine (dif_pos (e.trans_lt hh)).trans ?_
  blk_ext [idx t]

theorem weightT_at (h : Fin 16) (k : Fin 1024) (z : Fin 3088) (hz : z.val = 3072 + h.val) : (iblk m c 6 t (ix2 h k) : EReal) = m ((c : Thread nD τ).loc main_arg2) (ix2 k z) := by
  blk_simp [iblk]
  simp only [V, hostOps0, hostOps0_1, hostOps0_2, List.flatten_cons, List.flatten_nil, List.append_nil, List.cons_append, List.nil_append]
  entry_read
  pointwise
  blk_ext [idx t]

theorem bias_at (h : Fin 16) : (iblk m c 7 t (ix2 0 h) : EReal) = m ((c : Thread nD τ).loc main_arg3) (ix1 h) := by
  blk_simp [iblk]
  simp only [V, hostOps0, hostOps0_1, hostOps0_2, List.flatten_cons, List.flatten_nil, List.append_nil, List.cons_append, List.nil_append]
  entry_read
  pointwise
  blk_ext [idx t]

theorem biasT_at (h : Fin 16) : (iblk m c 8 t (ix2 h 0) : EReal) = m ((c : Thread nD τ).loc main_arg3) (ix1 h) := by
  blk_simp [iblk]
  simp only [V, hostOps0, hostOps0_1, hostOps0_2, List.flatten_cons, List.flatten_nil, List.append_nil, List.cons_append, List.nil_append]
  entry_read
  pointwise
  blk_ext [idx t]

/-- Equal rows, gains, weights and biases have equal gates. -/
theorem gate_congr {x x' g g' w w' : Fin 1024 → EReal} {b b' : EReal} (hx : ∀ j, x j = x' j) (hg : ∀ j, g j = g' j) (hw : ∀ k, w k = w' k) (hb : b = b') :
    logSigAt (projAt x g w + b) = logSigAt (projAt x' g' w' + b') := by
  rw [funext hx, funext hg, funext hw, hb]

/-- What a grid point stores of the queries. -/
theorem point_q (r : Fin 128) (d : Fin 1024) (z : S128x1024.Idx) (hz0 : (z 0).val = 128 * (grid0.coords t 0).val + r.val) (hz1 : (z 1).val = d.val) :
    (k0_pay2 (iblk m c 0 t) (iblk m c 1 t) (iblk m c 2 t) (ix2 r d) : EReal) = queries (m ((c : Thread nD τ).loc main_arg0)) (m ((c : Thread nD τ).loc main_arg1)) (m ((c : Thread nD τ).loc main_arg2)) z := by
  refine (scaled_at _ _ _ r d).trans ?_
  unfold queries part proj
  simp only [row_at m c t r _ (z 0) hz0, gain_at m c t]
  exact congrArg (projAt _ _ · * _) (funext fun k => weight_at₀ m c t k d _ (congrArg (0 + ·) hz1))

/-- What a grid point stores of the keys. -/
theorem point_k (r : Fin 128) (d : Fin 1024) (z : S128x1024.Idx) (hz0 : (z 0).val = 128 * (grid0.coords t 0).val + r.val) (hz1 : (z 1).val = d.val) :
    (k0_pay3 (iblk m c 0 t) (iblk m c 1 t) (iblk m c 3 t) (ix2 r d) : EReal) = part (m ((c : Thread nD τ).loc main_arg0)) (m ((c : Thread nD τ).loc main_arg1)) (m ((c : Thread nD τ).loc main_arg2)) 1024 (by decide) z := by
  refine (plain_at _ _ _ r d).trans ?_
  unfold part proj
  simp only [row_at m c t r _ (z 0) hz0, gain_at m c t]
  exact congrArg (projAt _ _) (funext fun k => weight_at₁ m c t k d _ (congrArg (1024 + ·) hz1))

/-- What a grid point stores of the values. -/
theorem point_v (r : Fin 128) (d : Fin 1024) (z : S128x1024.Idx) (hz0 : (z 0).val = 128 * (grid0.coords t 0).val + r.val) (hz1 : (z 1).val = d.val) :
    (k0_pay5 (iblk m c 0 t) (iblk m c 1 t) (iblk m c 4 t) (ix2 r d) : EReal) = part (m ((c : Thread nD τ).loc main_arg0)) (m ((c : Thread nD τ).loc main_arg1)) (m ((c : Thread nD τ).loc main_arg2)) 2048 (by decide) z := by
  refine (plain_at _ _ _ r d).trans ?_
  unfold part proj
  simp only [row_at m c t r _ (z 0) hz0, gain_at m c t]
  exact congrArg (projAt _ _) (funext fun k => weight_at₂ m c t k d _ (congrArg (2048 + ·) hz1))

/-- What a grid point stores of the gates, rows first. -/
theorem point_f (r : Fin 128) (h : Fin 16) (z : S128x16.Idx) (hz0 : (z 0).val = 128 * (grid0.coords t 0).val + r.val) (hz1 : (z 1).val = h.val) :
    (k0_pay7 (k0_pay1 (iblk m c 0 t) (iblk m c 1 t)) (iblk m c 5 t) (iblk m c 7 t) (ix2 r h) : EReal) = gates (m ((c : Thread nD τ).loc main_arg0)) (m ((c : Thread nD τ).loc main_arg1)) (m ((c : Thread nD τ).loc main_arg2)) (m ((c : Thread nD τ).loc main_arg3)) z := by
  obtain rfl : z 1 = h := Fin.ext hz1
  have h16 : (z 1).val < 16 := (z 1).isLt
  exact (gate_at _ _ _ _ r (z 1)).trans (gate_congr (fun j => row_at m c t r j (z 0) hz0) (gain_at m c t)
    (fun k => weight_at₃ m c t k ⟨(z 1).val, by omega⟩ ⟨3072 + (z 1).val, by omega⟩ h16 rfl) (bias_at m c t (z 1)))

/-- What a grid point stores of the gates, heads first. -/
theorem point_t (h : Fin 16) (r : Fin 128) (z : S16x128.Idx) (hz0 : (z 0).val = h.val) (hz1 : (z 1).val = 128 * (grid0.coords t 0).val + r.val) :
    (k0_pay8 (k0_pay1 (iblk m c 0 t) (iblk m c 1 t)) (iblk m c 6 t) (iblk m c 8 t) (ix2 h r) : EReal) = gatesT (m ((c : Thread nD τ).loc main_arg0)) (m ((c : Thread nD τ).loc main_arg1)) (m ((c : Thread nD τ).loc main_arg2)) (m ((c : Thread nD τ).loc main_arg3)) z := by
  obtain rfl : z 0 = h := Fin.ext hz0
  have h16 : (z 0).val < 16 := (z 0).isLt
  exact (gateT_at _ _ _ _ (z 0) r).trans (gate_congr (fun j => row_at m c t r j (z 1) hz1) (gain_at m c t)
    (fun k => weightT_at m c t (z 0) k ⟨3072 + (z 0).val, by omega⟩ rfl) (biasT_at m c t (z 0)))

theorem final9 : (dats m 0 c).arrAt 9 cfg0.N = queries (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  frame_out
  idx_vars y
  refine point_q m c t _ _ _ ?_ ?_
  · blk_simp [idx t]; omega
  · blk_simp [idx t]

theorem final10 : (dats m 0 c).arrAt 10 cfg0.N = part (m ((c : Thread nD τ).loc main_arg0)) (m ((c : Thread nD τ).loc main_arg1)) (m ((c : Thread nD τ).loc main_arg2)) 1024 (by decide) := by
  refine (dats m 0 c).arrAt_eq_of_covers 10 _ (by decide +kernel) fun t _ y => ?_
  blk_simp
  rw [after0_10]
  frame_out
  idx_vars y
  refine point_k m c t _ _ _ ?_ ?_
  · blk_simp [idx t]; omega
  · blk_simp [idx t]

theorem final11 : (dats m 0 c).arrAt 11 cfg0.N = part (m ((c : Thread nD τ).loc main_arg0)) (m ((c : Thread nD τ).loc main_arg1)) (m ((c : Thread nD τ).loc main_arg2)) 2048 (by decide) := by
  refine (dats m 0 c).arrAt_eq_of_covers 11 _ (by decide +kernel) fun t _ y => ?_
  blk_simp
  rw [after0_11, out11_eq]
  idx_vars y
  refine point_v m c t _ _ _ ?_ ?_
  · blk_simp [idx t]; omega
  · blk_simp [idx t]

theorem final12 : (dats m 0 c).arrAt 12 cfg0.N = part (m ((c : Thread nD τ).loc main_arg0)) (m ((c : Thread nD τ).loc main_arg1)) (m ((c : Thread nD τ).loc main_arg2)) 1024 (by decide) := by
  refine (dats m 0 c).arrAt_eq_of_covers 12 _ (by decide +kernel) fun t _ y => ?_
  blk_simp
  rw [after0_12]
  frame_out
  idx_vars y
  refine point_k m c t _ _ _ ?_ ?_
  · blk_simp [idx t]; omega
  · blk_simp [idx t]

theorem final13 : (dats m 0 c).arrAt 13 cfg0.N = part (m ((c : Thread nD τ).loc main_arg0)) (m ((c : Thread nD τ).loc main_arg1)) (m ((c : Thread nD τ).loc main_arg2)) 2048 (by decide) := by
  refine (dats m 0 c).arrAt_eq_of_covers 13 _ (by decide +kernel) fun t _ y => ?_
  blk_simp
  rw [after0_13, out13_eq]
  idx_vars y
  refine point_v m c t _ _ _ ?_ ?_
  · blk_simp [idx t]; omega
  · blk_simp [idx t]

theorem final14 : (dats m 0 c).arrAt 14 cfg0.N = gates (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t _ y => ?_
  blk_simp
  rw [after0_14, out14_eq]
  idx_vars y
  refine point_f m c t _ _ _ ?_ ?_
  · blk_simp [idx t]; omega
  · blk_simp [idx t]

theorem final15 : (dats m 0 c).arrAt 15 cfg0.N = gatesT (m ((c : Thread nD τ).loc main_arg0)) (m ((c : Thread nD τ).loc main_arg1)) (m ((c : Thread nD τ).loc main_arg2)) (m ((c : Thread nD τ).loc main_arg3)) := by
  refine (dats m 0 c).arrAt_eq_of_covers 15 _ (by decide +kernel) fun t _ y => ?_
  blk_simp
  rw [after0_15, out15_eq]
  idx_vars y
  refine point_t m c t _ _ _ ?_ ?_
  · blk_simp [idx t]
  · blk_simp [idx t]; omega

/-! ## The reference -/

open Cert.AttnProjSampleRefIdeal Cert.AttnProjSampleRefIdeal.Gen in
theorem reference_gates (m' : (ℓ : Loc Cert.AttnProjSampleRefIdeal.nD Cert.AttnProjSampleRefIdeal.τ Cert.AttnProjSampleRefIdeal.sig) → Buf (Elt Ideal) ℓ) (c : Dev Cert.AttnProjSampleRefIdeal.nD) :
    Cert.AttnProjSampleRefIdeal.Value.res_main_v21 (F := Ideal) m' c
      = logSigs (shifted (m' ((c.tc : Thread Cert.AttnProjSampleRefIdeal.nD Cert.AttnProjSampleRefIdeal.τ).loc Cert.AttnProjSampleRefIdeal.main_arg0)) (m' ((c.tc : Thread Cert.AttnProjSampleRefIdeal.nD Cert.AttnProjSampleRefIdeal.τ).loc Cert.AttnProjSampleRefIdeal.main_arg1)) (m' ((c.tc : Thread Cert.AttnProjSampleRefIdeal.nD Cert.AttnProjSampleRefIdeal.τ).loc Cert.AttnProjSampleRefIdeal.main_arg2)) (m' ((c.tc : Thread Cert.AttnProjSampleRefIdeal.nD Cert.AttnProjSampleRefIdeal.τ).loc Cert.AttnProjSampleRefIdeal.main_arg3))) := by
  unfold Cert.AttnProjSampleRefIdeal.Value.res_main_v21 logSigs shifted zeros projs normed
  rfl

open Cert.AttnProjSampleRefIdeal Cert.AttnProjSampleRefIdeal.Gen in
theorem reference_gatesT (m' : (ℓ : Loc Cert.AttnProjSampleRefIdeal.nD Cert.AttnProjSampleRefIdeal.τ Cert.AttnProjSampleRefIdeal.sig) → Buf (Elt Ideal) ℓ) (c : Dev Cert.AttnProjSampleRefIdeal.nD) :
    Cert.AttnProjSampleRefIdeal.Value.res_main_v27 (F := Ideal) m' c
      = transpose Cert.AttnProjSampleRefIdeal.S16x128 [1, 0] (logSigs (shifted (m' ((c.tc : Thread Cert.AttnProjSampleRefIdeal.nD Cert.AttnProjSampleRefIdeal.τ).loc Cert.AttnProjSampleRefIdeal.main_arg0)) (m' ((c.tc : Thread Cert.AttnProjSampleRefIdeal.nD Cert.AttnProjSampleRefIdeal.τ).loc Cert.AttnProjSampleRefIdeal.main_arg1)) (m' ((c.tc : Thread Cert.AttnProjSampleRefIdeal.nD Cert.AttnProjSampleRefIdeal.τ).loc Cert.AttnProjSampleRefIdeal.main_arg2)) (m' ((c.tc : Thread Cert.AttnProjSampleRefIdeal.nD Cert.AttnProjSampleRefIdeal.τ).loc Cert.AttnProjSampleRefIdeal.main_arg3)))) transposes_S128x16_S16x128_1_0 := by
  unfold Cert.AttnProjSampleRefIdeal.Value.res_main_v27 logSigs shifted zeros projs normed
  rfl

/-- THE CLAIM on the attention's projections and log forget gates. -/
theorem claim : algebraic_AttnProjSampleIdeal_AttnProjSampleRefIdeal (hAttnProjSampleIdeal := Cert.AttnProjSampleIdeal.Gen.facts) (hAttnProjSampleRefIdeal := Cert.AttnProjSampleRefIdeal.Gen.facts) := by
  intro m g m' g' hpre hargs
  refine ⟨fun c => queries (m ((c : Thread nD τ).loc main_arg0)) (m ((c : Thread nD τ).loc main_arg1)) (m ((c : Thread nD τ).loc main_arg2)),
    fun c => part (m ((c : Thread nD τ).loc main_arg0)) (m ((c : Thread nD τ).loc main_arg1)) (m ((c : Thread nD τ).loc main_arg2)) 1024 (by decide),
    fun c => part (m ((c : Thread nD τ).loc main_arg0)) (m ((c : Thread nD τ).loc main_arg1)) (m ((c : Thread nD τ).loc main_arg2)) 2048 (by decide),
    fun c => part (m ((c : Thread nD τ).loc main_arg0)) (m ((c : Thread nD τ).loc main_arg1)) (m ((c : Thread nD τ).loc main_arg2)) 1024 (by decide),
    fun c => part (m ((c : Thread nD τ).loc main_arg0)) (m ((c : Thread nD τ).loc main_arg1)) (m ((c : Thread nD τ).loc main_arg2)) 2048 (by decide),
    fun c => gates (m ((c : Thread nD τ).loc main_arg0)) (m ((c : Thread nD τ).loc main_arg1)) (m ((c : Thread nD τ).loc main_arg2)) (m ((c : Thread nD τ).loc main_arg3)),
    fun c => gatesT (m ((c : Thread nD τ).loc main_arg0)) (m ((c : Thread nD τ).loc main_arg1)) (m ((c : Thread nD τ).loc main_arg2)) (m ((c : Thread nD τ).loc main_arg3)), ?_, ?_⟩
  · exact (θ_run _ _ _).mono (fun r h c => ⟨(h c).1.trans (final9 m c), (h c).2.1.trans (final10 m c), (h c).2.2.1.trans (final11 m c), (h c).2.2.2.1.trans (final12 m c), (h c).2.2.2.2.1.trans (final13 m c), (h c).2.2.2.2.2.1.trans (final14 m c), (h c).2.2.2.2.2.2.1.trans (final15 m c), (h c).2.2.2.2.2.2.2⟩) (Cert.AttnProjSampleIdeal.Value.run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.AttnProjSampleRefIdeal.Value.run m' g')
    · rw [(hargs c).1, (hargs c).2.1, (hargs c).2.2.1]
      exact queries_eq _ _ _ _ _ _
    · rw [(hargs c).1, (hargs c).2.1, (hargs c).2.2.1]
      exact part_eq _ _ _ 1024 (by decide) (by decide)
    · rw [(hargs c).1, (hargs c).2.1, (hargs c).2.2.1]
      exact part_eq _ _ _ 2048 (by decide) (by decide)
    · rw [(hargs c).1, (hargs c).2.1, (hargs c).2.2.1]
      exact part_eq _ _ _ 1024 (by decide) (by decide)
    · rw [(hargs c).1, (hargs c).2.1, (hargs c).2.2.1]
      exact part_eq _ _ _ 2048 (by decide) (by decide)
    · rw [reference_gates, (hargs c).1, (hargs c).2.1, (hargs c).2.2.1, (hargs c).2.2.2]
      exact gates_eq _ _ _ _
    · rw [reference_gatesT, (hargs c).1, (hargs c).2.1, (hargs c).2.2.1, (hargs c).2.2.2]
      exact gatesT_eq _ _ _ _ _

end Cert.SampleProj

end
-- ==== Proof.Sample.FeedBlock.lean ====
/- What the feed-forward kernel with a mixer's residual leaves in its output block at the sample's 128 rows: eleven stores fill
   the hidden units, which a last contraction then reads whole. -/
module

public import proofs.«01_k».proof.Proof.Layer.Swiglu
public import proofs.«01_k».proof.Proof.Layer.Residual
public import proofs.«01_k».proof.Proof.Gen.FfnMixSampleIdeal.Frame
public import Idealize.ShloMosaic.Lib.Pipeline.ValueKit

@[expose] public section

set_option maxRecDepth 16384

noncomputable section

namespace Cert.SampleFeed

open Idealize.ShloMosaic Idealize.ShloMosaic.TcCoe Cert.FfnMixSampleIdeal Cert.FfnMixSampleIdeal.Gen Cert.Layer

/-- The block's projections of the mixes. -/
def mixed (mix : FVec Ideal S128x1024 .bf16) (wo : FVec Ideal S1024x1024 .bf16) : FVec Ideal S128x1024 .f32 :=
  matmul dot_S128x1024_S1024x1024_S128x1024_1_0_0_1_n_n none mix wo (constant S128x1024 .f32 0x00000000#32)

theorem mixed_at (mix : FVec Ideal S128x1024 .bf16) (wo : FVec Ideal S1024x1024 .bf16) (r : Fin 128) (e : Fin 1024) :
    (mixed mix wo (ix2 r e) : EReal) = ∑ k : Fin 1024, mix (ix2 r k) * wo (ix2 k e) := by
  pointwise [mixed]

/-- The block's rows after the mixer. -/
theorem residual_at (mix : Vec Ideal S128x1024 .bf16) (wo : Vec Ideal S1024x1024 .bf16) (x : Vec Ideal S128x1024 .f32) (g : Vec Ideal S1x1024 .f32) (r : Fin 128) (d : Fin 1024) :
    (k0_pay2 mix wo x g (ix2 r d) : EReal)
      = residualAt (fun j => x (ix2 r j)) (fun j => mix (ix2 r j)) (fun j => g (ix2 0 j)) (fun k e => wo (ix2 k e)) d := by
  unfold residualAt
  simp only [← mixed_at]
  pointwise [k0_pay2, mixed, normAt]

/-- Its normed rows. -/
theorem norm_at (mix : Vec Ideal S128x1024 .bf16) (wo : Vec Ideal S1024x1024 .bf16) (x : Vec Ideal S128x1024 .f32) (g g' : Vec Ideal S1x1024 .f32) (r : Fin 128) (k : Fin 1024) :
    (k0_pay3 mix wo x g g' (ix2 r k) : EReal) = normAt (fun j => k0_pay2 mix wo x g (ix2 r j)) (fun j => g' (ix2 0 j)) k := by
  pointwise [k0_pay3, normAt]

/-- The block's hidden units from its normed rows. -/
def hidden (h : FVec Ideal S128x1024 .bf16) (wg wu : Vec Ideal S1024x2816 .bf16) : Vec Ideal S128x2816 .bf16 := fun y =>
  (unit (∑ k : Fin 1024, h (ix2 (y 0) k) * wg (ix2 k (y 1))) (∑ k : Fin 1024, h (ix2 (y 0) k) * wu (ix2 k (y 1))) : EReal)

/-- The hidden units of 256 columns of the weights. -/
theorem chunk_at (h : FVec Ideal S128x1024 .bf16) (wg wu : Vec Ideal S1024x256 .bf16) (r : Fin 128) (y : Fin 256) :
    (k0_pay6 h wg wu (ix2 r y) : EReal) = unit (∑ k : Fin 1024, h (ix2 r k) * wg (ix2 k y)) (∑ k : Fin 1024, h (ix2 r k) * wu (ix2 k y)) := by
  pointwise [k0_pay6, unit]

/-- One store's payload is the hidden units its rectangle names. -/
theorem chunk_eq (h : FVec Ideal S128x1024 .bf16) (wg wu : Vec Ideal S1024x2816 .bf16) (o : ℕ)
    (inb : ∀ a, (![0, o] : Fin 2 → ℕ) a + S1024x256.size a ≤ S1024x2816.size a)
    (inb' : ∀ a, (![0, o] : Fin 2 → ℕ) a + S128x256.size a ≤ S128x2816.size a)
    (y : S128x256.Idx) :
    k0_pay6 h (View.ld (Val := Elt Ideal) (S := S1024x2816) (e' := .bf16) wg (Rect.unit (s := S1024x2816) ![0, o] S1024x256.size inb))
        (View.ld (Val := Elt Ideal) (S := S1024x2816) (e' := .bf16) wu (Rect.unit (s := S1024x2816) ![0, o] S1024x256.size inb)) y
      = hidden h wg wu ((Rect.unit (s := S128x2816) ![0, o] S128x256.size inb').emb y) := by
  idx_vars y
  refine (chunk_at _ _ _ _ _).trans ?_
  unfold hidden
  refine congrArg₂ unit (Finset.sum_congr rfl fun k _ => congrArg₂ (· * ·) ?_ ?_) (Finset.sum_congr rfl fun k _ => congrArg₂ (· * ·) ?_ ?_)
  · blk_ext []
  · refine congrArg wg (funext fun a => Fin.ext ?_)
    match a with
    | ⟨0, _⟩ => show 0 + 1 * k.val = k.val; omega
    | ⟨1, _⟩ => rfl
  · blk_ext []
  · refine congrArg wu (funext fun a => Fin.ext ?_)
    match a with
    | ⟨0, _⟩ => show 0 + 1 * k.val = k.val; omega
    | ⟨1, _⟩ => rfl

/-- The block's outputs before the second norm. -/
def down (v : FVec Ideal S128x2816 .bf16) (wd : FVec Ideal S2816x1024 .bf16) : FVec Ideal S128x1024 .f32 :=
  matmul dot_S128x2816_S2816x1024_S128x1024_1_0_0_1_n_n none v wd (constant S128x1024 .f32 0x00000000#32)

theorem down_at (v : FVec Ideal S128x2816 .bf16) (wd : FVec Ideal S2816x1024 .bf16) (r : Fin 128) (d : Fin 1024) :
    (down v wd (ix2 r d) : EReal) = ∑ j : Fin 2816, v (ix2 r j) * wd (ix2 j d) := by
  pointwise [down]

theorem last_at (x : Vec Ideal S128x1024 .f32) (v : Vec Ideal S128x2816 .bf16) (wd : Vec Ideal S2816x1024 .bf16) (g : Vec Ideal S1x1024 .f32)
    (r : Fin 128) (d : Fin 1024) :
    (k0_pay1 x v wd g (ix2 r d) : EReal) = x (ix2 r d) + Ideal.ofBits .f32 0x3F000000#32 * normAt (fun d => ∑ j : Fin 2816, v (ix2 r j) * wd (ix2 j d)) (fun j => g (ix2 0 j)) d := by
  simp only [← down_at]
  pointwise [k0_pay1, down, normAt]

/-- The block is the layer's output of its rows. -/
theorem block_at (mix : Vec Ideal S128x1024 .bf16) (wo : Vec Ideal S1024x1024 .bf16) (x : Vec Ideal S128x1024 .f32) (gm g g' : Vec Ideal S1x1024 .f32)
    (wg wu : Vec Ideal S1024x2816 .bf16) (wd : Vec Ideal S2816x1024 .bf16) (r : Fin 128) (d : Fin 1024) :
    (k0_pay1 (k0_pay2 mix wo x gm) (hidden (k0_pay3 mix wo x gm g) wg wu) wd g' (ix2 r d) : EReal)
      = ffnAt (fun j => k0_pay2 mix wo x gm (ix2 r j)) (fun j => g (ix2 0 j)) (fun j => g' (ix2 0 j)) (fun k j => wg (ix2 k j)) (fun k j => wu (ix2 k j)) (fun j d => wd (ix2 j d)) d := by
  refine (last_at _ _ _ _ r d).trans ?_
  unfold ffnAt downAt hiddenAt projAt
  simp only [← norm_at]
  rfl

theorem out_eq (c : Dev nD) (i : grid0.Coords) (arg1 : Memref sig .tc .vmem S128x1024 .f32) (harg1 : arg1.IsWhole) (arg2 : Memref sig .tc .vmem S128x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S128x1024 .f32) (harg10 : arg10.IsWhole) (arg11 : Memref sig .tc .vmem S128x2816 .bf16) (harg11 : arg11.IsWhole)
    (x0 : Vec Ideal S128x1024 .f32) (x1 : Vec Ideal S128x1024 .bf16) (x2 : Vec Ideal S1024x1024 .bf16) (x3 : Vec Ideal S1x1024 .f32) (x4 : Vec Ideal S1x1024 .f32) (x5 : Vec Ideal S1x1024 .f32) (x6 : Vec Ideal S1024x2816 .bf16) (x7 : Vec Ideal S1024x2816 .bf16) (x8 : Vec Ideal S2816x1024 .bf16) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8
      = k0_pay1 (k0_pay2 x1 x2 x0 x3) (hidden (k0_pay3 x1 x2 x0 x3 x4) x6 x7) x8 x5 := by
  have hz : (![0, 0] : Fin 2 → Nat) = fun _ => 0 := funext fun a => by fin_cases a <;> rfl
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread,
    View.ld_unit_zero (S := S128x1024) hz, View.ld_unit_zero (S := S1x1024) hz, View.ld_unit_zero (S := S1024x1024) hz, View.ld_unit_zero (S := S2816x1024) hz]
  rw [View.readCov_eq_canon']
  refine congrArg (fun v => k0_pay1 (k0_pay2 x1 x2 x0 x3) v x8 x5) (funext fun j => ?_)
  refine (View.canon_apply_of_pieces (hidden (k0_pay3 x1 x2 x0 x3 x4) x6 x7) _ ?_ _ ?_).trans
    (congrFun (View.ld_unit_zero (S := S128x2816) hz _ (hidden (k0_pay3 x1 x2 x0 x3 x4) x6 x7)) j)
  · iterate 11 refine List.forall_mem_cons.mpr ⟨fun y => chunk_eq _ _ _ _ _ (by decide) y, ?_⟩
    exact fun p hp => absurd hp List.not_mem_nil
  · refine View.cover_of_tiledL (s := S128x2816) _ S128x256.size ?_ _
    sl_kernel_rfl

end Cert.SampleFeed

end
-- ==== Proof.Sample.Feed.lean ====
/- The feed-forward layer with a mixer's residual at the sample's rows: what its array holds, what its reference computes, and
   the claim that they agree. -/
module

public import proofs.«01_k».proof.Proof.Sample.FeedBlock
public import proofs.«01_k».proof.Proof.Gen.FfnMixSampleIdeal.Value
public import proofs.«01_k».proof.Proof.Gen.FfnMixSampleRefIdeal.Run
public import proofs.«01_k».proof.Defs
public import Idealize.ShloMosaic.Lib.Pipeline.Covers
public import Idealize.ShloMosaic.Lib.Claim

@[expose] public section

set_option maxRecDepth 16384

noncomputable section

namespace Cert.SampleFeed

open Idealize.ShloMosaic Idealize.ShloMosaic.TcCoe Idealize.SL.Sem Cert.FfnMixSampleIdeal Cert.FfnMixSampleIdeal.Gen Cert.Layer
open Idealize.ShloMosaic.Pipeline (Dat)

/-! ## The array -/

theorem idx : ∀ t : Fin cfg0.N,
    win0_0.index t = ![(grid0.coords t 0).val, 0] ∧ win0_1.index t = ![(grid0.coords t 0).val, 0] ∧ win0_2.index t = ![0, 0] ∧ win0_3.index t = ![0, 0]
      ∧ win0_4.index t = ![0, 0] ∧ win0_5.index t = ![0, 0] ∧ win0_6.index t = ![0, 0] ∧ win0_7.index t = ![0, 0] ∧ win0_8.index t = ![0, 0]
      ∧ win0_9.index t = ![(grid0.coords t 0).val, 0] :=
  (by decide +kernel : ∀ t : Fin grid0.N, _)

variable (m : (ℓ : Loc nD τ sig) → Buf (Elt Ideal) ℓ) (c : Dev nD) (t : Fin cfg0.N)

theorem row_at (r : Fin 128) (j : Fin 1024) (x : Fin 128) (hx : x.val = 128 * (grid0.coords t 0).val + r.val) :
    (iblk m c 0 t (ix2 r j) : EReal) = m ((c : Thread nD τ).loc main_arg0) (ix2 x j) := by
  blk_ext [iblk, V, idx t]

theorem mix_at (r : Fin 128) (j : Fin 1024) (x : Fin 128) (hx : x.val = 128 * (grid0.coords t 0).val + r.val) :
    (iblk m c 1 t (ix2 r j) : EReal) = m ((c : Thread nD τ).loc main_arg1) (ix2 x j) := by
  blk_ext [iblk, V, idx t]

theorem out_at (k e : Fin 1024) : (iblk m c 2 t (ix2 k e) : EReal) = m ((c : Thread nD τ).loc main_arg2) (ix2 k e) := by
  blk_simp [iblk]
  entry_read
  pointwise
  blk_ext [idx t]

theorem gainMix_at (j : Fin 1024) : (iblk m c 3 t (ix2 0 j) : EReal) = m ((c : Thread nD τ).loc main_arg3) (ix1 j) := by
  blk_simp [iblk]
  entry_read
  pointwise
  blk_ext [idx t]

theorem gain_at (j : Fin 1024) : (iblk m c 4 t (ix2 0 j) : EReal) = m ((c : Thread nD τ).loc main_arg4) (ix1 j) := by
  blk_simp [iblk]
  entry_read
  pointwise
  blk_ext [idx t]

theorem gain'_at (j : Fin 1024) : (iblk m c 5 t (ix2 0 j) : EReal) = m ((c : Thread nD τ).loc main_arg5) (ix1 j) := by
  blk_simp [iblk]
  entry_read
  pointwise
  blk_ext [idx t]

theorem gate_at (k : Fin 1024) (j : Fin 2816) : (iblk m c 6 t (ix2 k j) : EReal) = m ((c : Thread nD τ).loc main_arg6) (ix2 k j) := by
  blk_simp [iblk]
  entry_read
  pointwise
  blk_ext [idx t]

theorem up_at (k : Fin 1024) (j : Fin 2816) : (iblk m c 7 t (ix2 k j) : EReal) = m ((c : Thread nD τ).loc main_arg7) (ix2 k j) := by
  blk_simp [iblk]
  entry_read
  pointwise
  blk_ext [idx t]

theorem lower_at (j : Fin 2816) (d : Fin 1024) : (iblk m c 8 t (ix2 j d) : EReal) = m ((c : Thread nD τ).loc main_arg8) (ix2 j d) := by
  blk_simp [iblk]
  entry_read
  pointwise
  blk_ext [idx t]

/-- The rows after the mixer, on whole arrays. -/
abbrev after (m : (ℓ : Loc nD τ sig) → Buf (Elt Ideal) ℓ) (c : Dev nD) : Vec Ideal S128x1024 .f32 :=
  residuals (m ((c : Thread nD τ).loc main_arg0)) (m ((c : Thread nD τ).loc main_arg1)) (m ((c : Thread nD τ).loc main_arg2)) (m ((c : Thread nD τ).loc main_arg3))

/-- The layer on whole arrays. -/
abbrev result (m : (ℓ : Loc nD τ sig) → Buf (Elt Ideal) ℓ) (c : Dev nD) : Vec Ideal S128x1024 .f32 :=
  ffns (after m c) (m ((c : Thread nD τ).loc main_arg4)) (m ((c : Thread nD τ).loc main_arg5)) (m ((c : Thread nD τ).loc main_arg6)) (m ((c : Thread nD τ).loc main_arg7)) (m ((c : Thread nD τ).loc main_arg8))

/-- A block's rows after the mixer are the array's. -/
theorem after_at (r : Fin 128) (d : Fin 1024) (x : Fin 128) (hx : x.val = 128 * (grid0.coords t 0).val + r.val) :
    (k0_pay2 (iblk m c 1 t) (iblk m c 2 t) (iblk m c 0 t) (iblk m c 3 t) (ix2 r d) : EReal) = after m c (ix2 x d) := by
  refine (residual_at _ _ _ _ r d).trans ?_
  simp only [row_at m c t r _ x hx, mix_at m c t r _ x hx, out_at m c t, gainMix_at m c t]
  exact (residuals_at (m ((c : Thread nD τ).loc main_arg0)) (m ((c : Thread nD τ).loc main_arg1)) (m ((c : Thread nD τ).loc main_arg2)) (m ((c : Thread nD τ).loc main_arg3)) x d).symm

/-- What a grid point stores is the layer at the entry its block holds. -/
theorem point (r : Fin 128) (d : Fin 1024) (z : S128x1024.Idx) (hz0 : (z 0).val = 128 * (grid0.coords t 0).val + r.val) (hz1 : (z 1).val = d.val) :
    (k0_pay1 (k0_pay2 (iblk m c 1 t) (iblk m c 2 t) (iblk m c 0 t) (iblk m c 3 t))
        (hidden (k0_pay3 (iblk m c 1 t) (iblk m c 2 t) (iblk m c 0 t) (iblk m c 3 t) (iblk m c 4 t)) (iblk m c 6 t) (iblk m c 7 t))
        (iblk m c 8 t) (iblk m c 5 t) (ix2 r d) : EReal)
      = result m c z := by
  refine (block_at _ _ _ _ _ _ _ _ _ r d).trans ?_
  simp only [after_at m c t r _ (z 0) hz0, gain_at m c t, gain'_at m c t, gate_at m c t, up_at m c t, lower_at m c t]
  refine (ffns_at (after m c) (m ((c : Thread nD τ).loc main_arg4)) (m ((c : Thread nD τ).loc main_arg5)) (m ((c : Thread nD τ).loc main_arg6)) (m ((c : Thread nD τ).loc main_arg7)) (m ((c : Thread nD τ).loc main_arg8)) (z 0) d).symm.trans ?_
  exact congrArg (result m c) (funext fun a => Fin.ext (by match a with | ⟨0, _⟩ => rfl | ⟨1, _⟩ => exact hz1.symm))

theorem final : (dats m 0 c).arrAt 9 cfg0.N = result m c := by
  refine (dats m 0 c).arrAt_eq_of_covers 9 _ (by decide +kernel) fun t _ y => ?_
  blk_simp
  rw [after0_9]
  unfold outsAt0
  rw [out_eq]
  idx_vars y
  refine point m c t _ _ _ ?_ ?_
  · blk_simp [idx t]; omega
  · blk_simp [idx t]

/-! ## The reference -/

open Cert.FfnMixSampleRefIdeal Cert.FfnMixSampleRefIdeal.Gen in
theorem reference_eq (m' : (ℓ : Loc Cert.FfnMixSampleRefIdeal.nD Cert.FfnMixSampleRefIdeal.τ Cert.FfnMixSampleRefIdeal.sig) → Buf (Elt Ideal) ℓ) (c : Dev Cert.FfnMixSampleRefIdeal.nD) :
    Cert.FfnMixSampleRefIdeal.Value.res_main_v49 (F := Ideal) m' c
      = ffns (residuals (m' ((c.tc : Thread Cert.FfnMixSampleRefIdeal.nD Cert.FfnMixSampleRefIdeal.τ).loc Cert.FfnMixSampleRefIdeal.main_arg0)) (m' ((c.tc : Thread Cert.FfnMixSampleRefIdeal.nD Cert.FfnMixSampleRefIdeal.τ).loc Cert.FfnMixSampleRefIdeal.main_arg1)) (m' ((c.tc : Thread Cert.FfnMixSampleRefIdeal.nD Cert.FfnMixSampleRefIdeal.τ).loc Cert.FfnMixSampleRefIdeal.main_arg2)) (m' ((c.tc : Thread Cert.FfnMixSampleRefIdeal.nD Cert.FfnMixSampleRefIdeal.τ).loc Cert.FfnMixSampleRefIdeal.main_arg3)))
        (m' ((c.tc : Thread Cert.FfnMixSampleRefIdeal.nD Cert.FfnMixSampleRefIdeal.τ).loc Cert.FfnMixSampleRefIdeal.main_arg4)) (m' ((c.tc : Thread Cert.FfnMixSampleRefIdeal.nD Cert.FfnMixSampleRefIdeal.τ).loc Cert.FfnMixSampleRefIdeal.main_arg5)) (m' ((c.tc : Thread Cert.FfnMixSampleRefIdeal.nD Cert.FfnMixSampleRefIdeal.τ).loc Cert.FfnMixSampleRefIdeal.main_arg6)) (m' ((c.tc : Thread Cert.FfnMixSampleRefIdeal.nD Cert.FfnMixSampleRefIdeal.τ).loc Cert.FfnMixSampleRefIdeal.main_arg7)) (m' ((c.tc : Thread Cert.FfnMixSampleRefIdeal.nD Cert.FfnMixSampleRefIdeal.τ).loc Cert.FfnMixSampleRefIdeal.main_arg8)) := by
  unfold Cert.FfnMixSampleRefIdeal.Value.res_main_v49 ffns downs hiddens ups residuals outs normed
  rfl

/-- THE CLAIM on the feed-forward layer with a mixer's residual. -/
theorem claim : algebraic_FfnMixSampleIdeal_FfnMixSampleRefIdeal (hFfnMixSampleIdeal := Cert.FfnMixSampleIdeal.Gen.facts) (hFfnMixSampleRefIdeal := Cert.FfnMixSampleRefIdeal.Gen.facts) := by
  intro m g m' g' hpre hargs
  refine ⟨fun c => result m c, ?_, ?_⟩
  · exact (θ_run _ _ _).mono (fun r h c => ⟨(h c).1.trans (final m c), (h c).2⟩) (Cert.FfnMixSampleIdeal.Value.run_blocks m g)
  · refine (θ_run _ _ _).mono (fun r h c => ⟨(h c).1.trans ?_, (h c).2⟩) (Cert.FfnMixSampleRefIdeal.Value.run m' g')
    obtain ⟨h0, h1, h2, h3, h4, h5, h6, h7, h8⟩ := hargs c
    rw [reference_eq, h0, h1, h2, h3, h4, h5, h6, h7, h8]

end Cert.SampleFeed

end
-- ==== Proof.lean ====
/- The certificate: every claim of the statement, from the modules that prove them. -/
module

public import proofs.«01_k».proof.Defs
public import proofs.«01_k».proof.Proof.Attn.Pre
public import proofs.«01_k».proof.Proof.Feed.Claim
public import proofs.«01_k».proof.Proof.FeedMix.Claim
public import proofs.«01_k».proof.Proof.Layer.Proj
public import proofs.«01_k».proof.Proof.Bias.Claim
public import proofs.«01_k».proof.Proof.Layer.Conv
public import proofs.«01_k».proof.Proof.Gate.Prompt
public import proofs.«01_k».proof.Proof.Gate.Sample
public import proofs.«01_k».proof.Proof.Sample.Conv
public import proofs.«01_k».proof.Proof.Sample.Proj
public import proofs.«01_k».proof.Proof.Sample.Feed
public import proofs.«01_k».proof.Proof.Gen.Kernel.Frame
public import proofs.«01_k».proof.Proof.Gen.KernelIdeal.Value
public import proofs.«01_k».proof.Proof.Gen.ReferenceIdeal.Run
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnMix.Frame
public import proofs.«01_k».proof.Proof.Gen.FfnMixIdeal.Value
public import proofs.«01_k».proof.Proof.Gen.FfnMixRefIdeal.Run
public import proofs.«01_k».proof.Proof.Gen.AttnProj.Frame
public import proofs.«01_k».proof.Proof.Gen.AttnProjIdeal.Value
public import proofs.«01_k».proof.Proof.Gen.AttnProjRefIdeal.Run
public import proofs.«01_k».proof.Proof.Gen.KeyBias.Frame
public import proofs.«01_k».proof.Proof.Gen.KeyBiasIdeal.Value
public import proofs.«01_k».proof.Proof.Gen.KeyBiasRefIdeal.Run
public import proofs.«01_k».proof.Proof.Gen.ConvProj.Frame
public import proofs.«01_k».proof.Proof.Gen.ConvProjIdeal.Value
public import proofs.«01_k».proof.Proof.Gen.ConvProjRefIdeal.Run
public import proofs.«01_k».proof.Proof.Gen.ConvGate.Frame
public import proofs.«01_k».proof.Proof.Gen.ConvGateIdeal.Value
public import proofs.«01_k».proof.Proof.Gen.ConvGateRefIdeal.Run
public import proofs.«01_k».proof.Proof.Gen.ConvGateSample.Frame
public import proofs.«01_k».proof.Proof.Gen.ConvGateSampleIdeal.Value
public import proofs.«01_k».proof.Proof.Gen.ConvGateSampleRefIdeal.Run
public import proofs.«01_k».proof.Proof.Gen.ConvProjSample.Frame
public import proofs.«01_k».proof.Proof.Gen.ConvProjSampleIdeal.Value
public import proofs.«01_k».proof.Proof.Gen.ConvProjSampleRefIdeal.Run
public import proofs.«01_k».proof.Proof.Gen.AttnProjSample.Frame
public import proofs.«01_k».proof.Proof.Gen.AttnProjSampleIdeal.Value
public import proofs.«01_k».proof.Proof.Gen.AttnProjSampleRefIdeal.Run
public import proofs.«01_k».proof.Proof.Gen.FfnMixSample.Frame
public import proofs.«01_k».proof.Proof.Gen.FfnMixSampleIdeal.Value
public import proofs.«01_k».proof.Proof.Gen.FfnMixSampleRefIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged; it declares no semaphore. -/
theorem frame_Reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The reference ends with its arguments unchanged; it declares no semaphore. -/
theorem frame_FfnRef : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run m ρ)

/-- The reference ends with its arguments unchanged; it declares no semaphore. -/
theorem frame_FfnMixRef : Cert.quiescent_FfnMixRefIdeal (hFfnMixRefIdeal := Cert.FfnMixRefIdeal.Gen.facts) := fun m ρ _ =>
  (θ_run Cert.FfnMixRefIdeal.defs _ _).mono (fun r h => ⟨fun c => (h c).2, sem_eq_zero_of_no_sems (by decide) r.2⟩)
    (Cert.FfnMixRefIdeal.Value.run m ρ)

/-- The reference ends with its arguments unchanged; it declares no semaphore. -/
theorem frame_AttnProjRef : Cert.quiescent_AttnProjRefIdeal (hAttnProjRefIdeal := Cert.AttnProjRefIdeal.Gen.facts) := fun m ρ _ =>
  (θ_run Cert.AttnProjRefIdeal.defs _ _).mono (fun r h => ⟨fun c => (h c).2.2.2.2.2.2.2, sem_eq_zero_of_no_sems (by decide) r.2⟩)
    (Cert.AttnProjRefIdeal.Value.run m ρ)

/-- The reference ends with its arguments unchanged; it declares no semaphore. -/
theorem frame_KeyBiasRef : Cert.quiescent_KeyBiasRefIdeal (hKeyBiasRefIdeal := Cert.KeyBiasRefIdeal.Gen.facts) := fun m ρ _ =>
  (θ_run Cert.KeyBiasRefIdeal.defs _ _).mono (fun r h => ⟨fun c => (h c).2, sem_eq_zero_of_no_sems (by decide) r.2⟩)
    (Cert.KeyBiasRefIdeal.Value.run m ρ)

/-- The reference ends with its arguments unchanged; it declares no semaphore. -/
theorem frame_ConvProjRef : Cert.quiescent_ConvProjRefIdeal (hConvProjRefIdeal := Cert.ConvProjRefIdeal.Gen.facts) := fun m ρ _ =>
  (θ_run Cert.ConvProjRefIdeal.defs _ _).mono (fun r h => ⟨fun c => (h c).2.2, sem_eq_zero_of_no_sems (by decide) r.2⟩)
    (Cert.ConvProjRefIdeal.Value.run m ρ)

/-- The reference ends with its arguments unchanged; it declares no semaphore. -/
theorem frame_ConvGateRef : Cert.quiescent_ConvGateRefIdeal (hConvGateRefIdeal := Cert.ConvGateRefIdeal.Gen.facts) := fun m ρ _ =>
  (θ_run Cert.ConvGateRefIdeal.defs _ _).mono (fun r h => ⟨fun c => (h c).2, sem_eq_zero_of_no_sems (by decide) r.2⟩)
    (Cert.ConvGateRefIdeal.Value.run m ρ)

/-- The reference ends with its arguments unchanged; it declares no semaphore. -/
theorem frame_ConvGateSampleRef : Cert.quiescent_ConvGateSampleRefIdeal (hConvGateSampleRefIdeal := Cert.ConvGateSampleRefIdeal.Gen.facts) := fun m ρ _ =>
  (θ_run Cert.ConvGateSampleRefIdeal.defs _ _).mono (fun r h => ⟨fun c => (h c).2, sem_eq_zero_of_no_sems (by decide) r.2⟩)
    (Cert.ConvGateSampleRefIdeal.Value.run m ρ)

/-- The reference ends with its arguments unchanged; it declares no semaphore. -/
theorem frame_ConvProjSampleRef : Cert.quiescent_ConvProjSampleRefIdeal (hConvProjSampleRefIdeal := Cert.ConvProjSampleRefIdeal.Gen.facts) := fun m ρ _ =>
  (θ_run Cert.ConvProjSampleRefIdeal.defs _ _).mono (fun r h => ⟨fun c => (h c).2.2, sem_eq_zero_of_no_sems (by decide) r.2⟩)
    (Cert.ConvProjSampleRefIdeal.Value.run m ρ)

/-- The reference ends with its arguments unchanged; it declares no semaphore. -/
theorem frame_AttnProjSampleRef : Cert.quiescent_AttnProjSampleRefIdeal (hAttnProjSampleRefIdeal := Cert.AttnProjSampleRefIdeal.Gen.facts) := fun m ρ _ =>
  (θ_run Cert.AttnProjSampleRefIdeal.defs _ _).mono (fun r h => ⟨fun c => (h c).2.2.2.2.2.2.2, sem_eq_zero_of_no_sems (by decide) r.2⟩)
    (Cert.AttnProjSampleRefIdeal.Value.run m ρ)

/-- The reference ends with its arguments unchanged; it declares no semaphore. -/
theorem frame_FfnMixSampleRef : Cert.quiescent_FfnMixSampleRefIdeal (hFfnMixSampleRefIdeal := Cert.FfnMixSampleRefIdeal.Gen.facts) := fun m ρ _ =>
  (θ_run Cert.FfnMixSampleRefIdeal.defs _ _).mono (fun r h => ⟨fun c => (h c).2, sem_eq_zero_of_no_sems (by decide) r.2⟩)
    (Cert.FfnMixSampleRefIdeal.Value.run m ρ)

/-- All claims: the frames, then of each pair of programs that the ideal kernel is the kernel's reading and that it computes
    what the reference computes. -/
theorem claim : Cert.Claim :=
  ⟨Cert.Kernel.Gen.facts,
    Cert.KernelIdeal.Gen.facts,
    Cert.ReferenceIdeal.Gen.facts,
    Cert.Ffn.Gen.facts,
    Cert.FfnIdeal.Gen.facts,
    Cert.FfnRefIdeal.Gen.facts,
    Cert.FfnMix.Gen.facts,
    Cert.FfnMixIdeal.Gen.facts,
    Cert.FfnMixRefIdeal.Gen.facts,
    Cert.AttnProj.Gen.facts,
    Cert.AttnProjIdeal.Gen.facts,
    Cert.AttnProjRefIdeal.Gen.facts,
    Cert.KeyBias.Gen.facts,
    Cert.KeyBiasIdeal.Gen.facts,
    Cert.KeyBiasRefIdeal.Gen.facts,
    Cert.ConvProj.Gen.facts,
    Cert.ConvProjIdeal.Gen.facts,
    Cert.ConvProjRefIdeal.Gen.facts,
    Cert.ConvGate.Gen.facts,
    Cert.ConvGateIdeal.Gen.facts,
    Cert.ConvGateRefIdeal.Gen.facts,
    Cert.ConvGateSample.Gen.facts,
    Cert.ConvGateSampleIdeal.Gen.facts,
    Cert.ConvGateSampleRefIdeal.Gen.facts,
    Cert.ConvProjSample.Gen.facts,
    Cert.ConvProjSampleIdeal.Gen.facts,
    Cert.ConvProjSampleRefIdeal.Gen.facts,
    Cert.AttnProjSample.Gen.facts,
    Cert.AttnProjSampleIdeal.Gen.facts,
    Cert.AttnProjSampleRefIdeal.Gen.facts,
    Cert.FfnMixSample.Gen.facts,
    Cert.FfnMixSampleIdeal.Gen.facts,
    Cert.FfnMixSampleRefIdeal.Gen.facts,
    Cert.Attn.pre_facts,
    Cert.Gated.pre_facts,
    fun m ρ _ => Cert.Kernel.Gen.frame m ρ,
    fun m ρ _ => Cert.KernelIdeal.Gen.frame m ρ,
    fun m ρ _ => Cert.KernelIdeal.Gen.frame m ρ,
    frame_Reference,
    fun m ρ _ => frame_Reference m ρ trivial,
    fun m ρ _ => Cert.Ffn.Gen.frame m ρ,
    fun m ρ _ => Cert.FfnIdeal.Gen.frame m ρ,
    frame_FfnRef,
    fun m ρ _ => Cert.FfnMix.Gen.frame m ρ,
    fun m ρ _ => Cert.FfnMixIdeal.Gen.frame m ρ,
    frame_FfnMixRef,
    fun m ρ _ => Cert.AttnProj.Gen.frame m ρ,
    fun m ρ _ => Cert.AttnProjIdeal.Gen.frame m ρ,
    frame_AttnProjRef,
    fun m ρ _ => Cert.KeyBias.Gen.frame m ρ,
    fun m ρ _ => Cert.KeyBiasIdeal.Gen.frame m ρ,
    frame_KeyBiasRef,
    fun m ρ _ => Cert.ConvProj.Gen.frame m ρ,
    fun m ρ _ => Cert.ConvProjIdeal.Gen.frame m ρ,
    frame_ConvProjRef,
    fun m ρ _ => Cert.ConvGate.Gen.frame m ρ,
    fun m ρ _ => Cert.ConvGateIdeal.Gen.frame m ρ,
    fun m ρ _ => Cert.ConvGateIdeal.Gen.frame m ρ,
    frame_ConvGateRef,
    fun m ρ _ => frame_ConvGateRef m ρ trivial,
    fun m ρ _ => Cert.ConvGateSample.Gen.frame m ρ,
    fun m ρ _ => Cert.ConvGateSampleIdeal.Gen.frame m ρ,
    frame_ConvGateSampleRef,
    fun m ρ _ => Cert.ConvProjSample.Gen.frame m ρ,
    fun m ρ _ => Cert.ConvProjSampleIdeal.Gen.frame m ρ,
    frame_ConvProjSampleRef,
    fun m ρ _ => Cert.AttnProjSample.Gen.frame m ρ,
    fun m ρ _ => Cert.AttnProjSampleIdeal.Gen.frame m ρ,
    frame_AttnProjSampleRef,
    fun m ρ _ => Cert.FfnMixSample.Gen.frame m ρ,
    fun m ρ _ => Cert.FfnMixSampleIdeal.Gen.frame m ρ,
    frame_FfnMixSampleRef,
    IdealRules.named_const.statement Cert.KernelIdeal.κ "mask" .f32 0xF149F2CA#32 ⊥ rfl,
    Cert.Attn.claim,
    trivial,
    Cert.Feed.claim,
    trivial,
    Cert.FeedMix.claim,
    trivial,
    Cert.Proj.claim,
    IdealRules.named_const.statement Cert.KeyBiasIdeal.κ "mask" .f32 0xF149F2CA#32 ⊥ rfl,
    Cert.Bias.claim,
    trivial,
    Cert.Conv.claim,
    trivial,
    Cert.Gated.claim,
    trivial,
    Cert.SampleGate.claim,
    trivial,
    Cert.SampleConv.claim,
    trivial,
    Cert.SampleProj.claim,
    trivial,
    Cert.SampleFeed.claim⟩

end Cert.Proof

end
